-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v576) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S8x1x64x64x64 : Shape := ⟨5, ![8, 1, 64, 64, 64]⟩
abbrev S32x1x3x3x3 : Shape := ⟨5, ![32, 1, 3, 3, 3]⟩
abbrev S32 : Shape := ⟨1, ![32]⟩
abbrev S64x32x3x3x3 : Shape := ⟨5, ![64, 32, 3, 3, 3]⟩
abbrev S64 : Shape := ⟨1, ![64]⟩
abbrev S128x64x3x3x3 : Shape := ⟨5, ![128, 64, 3, 3, 3]⟩
abbrev S128 : Shape := ⟨1, ![128]⟩
abbrev S256x128 : Shape := ⟨2, ![256, 128]⟩
abbrev S256 : Shape := ⟨1, ![256]⟩
abbrev S_ : Shape := ⟨0, ![]⟩

class Facts : Prop where
  bcast_S_S8x1x64x64x64 : S_.BroadcastsInDim S8x1x64x64x64 (![] : Fin 0 → Fin S8x1x64x64x64.rank)
  bcast_S_S32x1x3x3x3 : S_.BroadcastsInDim S32x1x3x3x3 (![] : Fin 0 → Fin S32x1x3x3x3.rank)
  bcast_S_S32 : S_.BroadcastsInDim S32 (![] : Fin 0 → Fin S32.rank)
  bcast_S_S64x32x3x3x3 : S_.BroadcastsInDim S64x32x3x3x3 (![] : Fin 0 → Fin S64x32x3x3x3.rank)
  bcast_S_S64 : S_.BroadcastsInDim S64 (![] : Fin 0 → Fin S64.rank)
  bcast_S_S128x64x3x3x3 : S_.BroadcastsInDim S128x64x3x3x3 (![] : Fin 0 → Fin S128x64x3x3x3.rank)
  bcast_S_S128 : S_.BroadcastsInDim S128 (![] : Fin 0 → Fin S128.rank)

variable [Facts]

def fn_part1 {F : FTy → Type} [FloatOps F] (main_arg6 : FVec F S64 .f32) (main_arg7 : FVec F S128x64x3x3x3 .f32) (main_arg8 : FVec F S128 .f32) (main_v2 : IVec S8x1x64x64x64 1) (main_v5 : IVec S32x1x3x3x3 1) (main_v8 : IVec S32 1) (main_v11 : IVec S32 1) (main_v14 : IVec S64x32x3x3x3 1) (main_v17 : IVec S64 1) : IVec S8x1x64x64x64 1 × IVec S32x1x3x3x3 1 × IVec S32 1 × IVec S32 1 × IVec S64x32x3x3x3 1 × IVec S64 1 × IVec S64 1 × IVec S128x64x3x3x3 1 × IVec S128 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_v21 : FVec F S128x64x3x3x3 .f32 := Host.absf main_arg7
  let main_cst_6 : FVec F S_ .f32 := constant S_ .f32 0x7F800000#32
  let main_v22 : FVec F S128x64x3x3x3 .f32 := broadcastInDim S128x64x3x3x3 ![] bcast_S_S128x64x3x3x3 main_cst_6
  let main_v23 : IVec S128x64x3x3x3 1 := cmpf .olt main_v21 main_v22
  let main_v24 : FVec F S128 .f32 := Host.absf main_arg8
  let main_cst_7 : FVec F S_ .f32 := constant S_ .f32 0x7F800000#32
  let main_v25 : FVec F S128 .f32 := broadcastInDim S128 ![] bcast_S_S128 main_cst_7
  let main_v26 : IVec S128 1 := cmpf .olt main_v24 main_v25
  (main_v2, main_v5, main_v8, main_v11, main_v14, main_v17, main_v20, main_v23, main_v26)

def fn {F : FTy → Type} [FloatOps F] (main_arg0 : FVec F S8x1x64x64x64 .f32) (main_arg1 : FVec F S32x1x3x3x3 .f32) (main_arg2 : FVec F S32 .f32) (main_arg3 : FVec F S32 .f32) (main_arg4 : FVec F S64x32x3x3x3 .f32) (main_arg5 : FVec F S64 .f32) (main_arg6 : FVec F S64 .f32) (main_arg7 : FVec F S128x64x3x3x3 .f32) (main_arg8 : FVec F S128 .f32) (main_arg9 : FVec F S128 .f32) (main_arg10 : FVec F S256x128 .f32) (main_arg11 : FVec F S256 .f32) : IVec S8x1x64x64x64 1 × IVec S32x1x3x3x3 1 × IVec S32 1 × IVec S32 1 × IVec S64x32x3x3x3 1 × IVec S64 1 × IVec S64 1 × IVec S128x64x3x3x3 1 × IVec S128 1 :=
  let main_v0 : FVec F S8x1x64x64x64 .f32 := Host.absf main_arg0
  let main_cst : FVec F S_ .f32 := constant S_ .f32 0x7F800000#32
  let main_v1 : FVec F S8x1x64x64x64 .f32 := broadcastInDim S8x1x64x64x64 ![] bcast_S_S8x1x64x64x64 main_cst
  let main_v2 : IVec S8x1x64x64x64 1 := cmpf .olt main_v0 main_v1
  let main_v3 : FVec F S32x1x3x3x3 .f32 := Host.absf main_arg1
  let main_cst_0 : FVec F S_ .f32 := constant S_ .f32 0x7F800000#32
  let main_v4 : FVec F S32x1x3x3x3 .f32 := broadcastInDim S32x1x3x3x3 ![] bcast_S_S32x1x3x3x3 main_cst_0
  let main_v5 : IVec S32x1x3x3x3 1 := cmpf .olt main_v3 main_v4
  let main_v6 : FVec F S32 .f32 := Host.absf main_arg2
  let main_cst_1 : FVec F S_ .f32 := constant S_ .f32 0x7F800000#32
  let main_v7 : FVec F S32 .f32 := broadcastInDim S32 ![] bcast_S_S32 main_cst_1
  let main_v8 : IVec S32 1 := cmpf .olt main_v6 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_v12 : FVec F S64x32x3x3x3 .f32 := Host.absf main_arg4
  let main_cst_3 : FVec F S_ .f32 := constant S_ .f32 0x7F800000#32
  let main_v13 : FVec F S64x32x3x3x3 .f32 := broadcastInDim S64x32x3x3x3 ![] bcast_S_S64x32x3x3x3 main_cst_3
  let main_v14 : IVec S64x32x3x3x3 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_arg7 main_arg8 main_v2 main_v5 main_v8 main_v11 main_v14 main_v17
-- ==== Kernel.lean ====
abbrev S8x1x64x64x64 : Shape := ⟨5, ![8, 1, 64, 64, 64]⟩
abbrev S32x1x3x3x3 : Shape := ⟨5, ![32, 1, 3, 3, 3]⟩
abbrev S32 : Shape := ⟨1, ![32]⟩
abbrev S64x32x3x3x3 : Shape := ⟨5, ![64, 32, 3, 3, 3]⟩
abbrev S64 : Shape := ⟨1, ![64]⟩
abbrev S128x64x3x3x3 : Shape := ⟨5, ![128, 64, 3, 3, 3]⟩
abbrev S128 : Shape := ⟨1, ![128]⟩
abbrev S256x128 : Shape := ⟨2, ![256, 128]⟩
abbrev S256 : Shape := ⟨1, ![256]⟩
abbrev S8x64x64x64 : Shape := ⟨4, ![8, 64, 64, 64]⟩
abbrev S_ : Shape := ⟨0, ![]⟩
abbrev S8x66x66x66 : Shape := ⟨4, ![8, 66, 66, 66]⟩
abbrev S32x3x3x3 : Shape := ⟨4, ![32, 3, 3, 3]⟩
abbrev S3x3x3x32 : Shape := ⟨4, ![3, 3, 3, 32]⟩
abbrev S27x32 : Shape := ⟨2, ![27, 32]⟩
abbrev S3x3x3x32x64 : Shape := ⟨5, ![3, 3, 3, 32, 64]⟩
abbrev S3x3x3x64x128 : Shape := ⟨5, ![3, 3, 3, 64, 128]⟩
abbrev S8x66x66x66x32 : Shape := ⟨5, ![8, 66, 66, 66, 32]⟩
abbrev S8x2x32 : Shape := ⟨3, ![8, 2, 32]⟩
abbrev S1x1x66x66 : Shape := ⟨4, ![1, 1, 66, 66]⟩
abbrev S1x1x66x66x32 : Shape := ⟨5, ![1, 1, 66, 66, 32]⟩
abbrev S1x2x32 : Shape := ⟨3, ![1, 2, 32]⟩
abbrev S66x66 : Shape := ⟨2, ![66, 66]⟩
abbrev S64x64 : Shape := ⟨2, ![64, 64]⟩
abbrev S1x64x64 : Shape := ⟨3, ![1, 64, 64]⟩
abbrev S27x64x64 : Shape := ⟨3, ![27, 64, 64]⟩
abbrev S64x64x32 : Shape := ⟨3, ![64, 64, 32]⟩
abbrev S1x64x32 : Shape := ⟨3, ![1, 64, 32]⟩
abbrev S65x64x32 : Shape := ⟨3, ![65, 64, 32]⟩
abbrev S66x64x32 : Shape := ⟨3, ![66, 64, 32]⟩
abbrev S66x1x32 : Shape := ⟨3, ![66, 1, 32]⟩
abbrev S66x65x32 : Shape := ⟨3, ![66, 65, 32]⟩
abbrev S66x66x32 : Shape := ⟨3, ![66, 66, 32]⟩
abbrev S1x32 : Shape := ⟨2, ![1, 32]⟩
abbrev S2x32 : Shape := ⟨2, ![2, 32]⟩
abbrev S8x34x34x34x64 : Shape := ⟨5, ![8, 34, 34, 34, 64]⟩
abbrev S8x2x64 : Shape := ⟨3, ![8, 2, 64]⟩
abbrev S1x1x34x34x64 : Shape := ⟨5, ![1, 1, 34, 34, 64]⟩
abbrev S1x2x64 : Shape := ⟨3, ![1, 2, 64]⟩
abbrev S1024x64 : Shape := ⟨2, ![1024, 64]⟩
abbrev S1x1x32 : Shape := ⟨3, ![1, 1, 32]⟩
abbrev S3x64x32 : Shape := ⟨3, ![3, 64, 32]⟩
abbrev S68x64x32 : Shape := ⟨3, ![68, 64, 32]⟩
abbrev S68x1x32 : Shape := ⟨3, ![68, 1, 32]⟩
abbrev S68x65x32 : Shape := ⟨3, ![68, 65, 32]⟩
abbrev S68x3x32 : Shape := ⟨3, ![68, 3, 32]⟩
abbrev S68x68x32 : Shape := ⟨3, ![68, 68, 32]⟩
abbrev S34x2x34x2x32 : Shape := ⟨5, ![34, 2, 34, 2, 32]⟩
abbrev S34x1x34x1x32 : Shape := ⟨5, ![34, 1, 34, 1, 32]⟩
abbrev S34x34x32 : Shape := ⟨3, ![34, 34, 32]⟩
abbrev S32x32x32 : Shape := ⟨3, ![32, 32, 32]⟩
abbrev S1024x32 : Shape := ⟨2, ![1024, 32]⟩
abbrev S1x1x1x32x64 : Shape := ⟨5, ![1, 1, 1, 32, 64]⟩
abbrev S32x64 : Shape := ⟨2, ![32, 64]⟩
abbrev S32x32x64 : Shape := ⟨3, ![32, 32, 64]⟩
abbrev S1x32x64 : Shape := ⟨3, ![1, 32, 64]⟩
abbrev S33x32x64 : Shape := ⟨3, ![33, 32, 64]⟩
abbrev S34x32x64 : Shape := ⟨3, ![34, 32, 64]⟩
abbrev S34x1x64 : Shape := ⟨3, ![34, 1, 64]⟩
abbrev S34x33x64 : Shape := ⟨3, ![34, 33, 64]⟩
abbrev S34x34x64 : Shape := ⟨3, ![34, 34, 64]⟩
abbrev S1x64 : Shape := ⟨2, ![1, 64]⟩
abbrev S2x64 : Shape := ⟨2, ![2, 64]⟩
abbrev S8x1x128 : Shape := ⟨3, ![8, 1, 128]⟩
abbrev S8x2x128 : Shape := ⟨3, ![8, 2, 128]⟩
abbrev S1x1x128 : Shape := ⟨3, ![1, 1, 128]⟩
abbrev S1x2x128 : Shape := ⟨3, ![1, 2, 128]⟩
abbrev S1x1x64 : Shape := ⟨3, ![1, 1, 64]⟩
abbrev S3x32x64 : Shape := ⟨3, ![3, 32, 64]⟩
abbrev S36x32x64 : Shape := ⟨3, ![36, 32, 64]⟩
abbrev S36x1x64 : Shape := ⟨3, ![36, 1, 64]⟩
abbrev S36x33x64 : Shape := ⟨3, ![36, 33, 64]⟩
abbrev S36x3x64 : Shape := ⟨3, ![36, 3, 64]⟩
abbrev S36x36x64 : Shape := ⟨3, ![36, 36, 64]⟩
abbrev S18x2x18x2x64 : Shape := ⟨5, ![18, 2, 18, 2, 64]⟩
abbrev S18x1x18x1x64 : Shape := ⟨5, ![18, 1, 18, 1, 64]⟩
abbrev S18x18x64 : Shape := ⟨3, ![18, 18, 64]⟩
abbrev S16x16x64 : Shape := ⟨3, ![16, 16, 64]⟩
abbrev S256x64 : Shape := ⟨2, ![256, 64]⟩
abbrev S1x1x1x64x128 : Shape := ⟨5, ![1, 1, 1, 64, 128]⟩
abbrev S64x128 : Shape := ⟨2, ![64, 128]⟩
abbrev S1x128 : Shape := ⟨2, ![1, 128]⟩
abbrev S2x128 : Shape := ⟨2, ![2, 128]⟩
abbrev S16x16x128 : Shape := ⟨3, ![16, 16, 128]⟩
abbrev S8x128 : Shape := ⟨2, ![8, 128]⟩
abbrev S128x256 : Shape := ⟨2, ![128, 256]⟩
abbrev S1x256 : Shape := ⟨2, ![1, 256]⟩
abbrev S8x256 : Shape := ⟨2, ![8, 256]⟩

abbrev nBuf : Space → Nat
  | .hbm => 100
  | .vmem => 43
  | .smem => 0
  | _ => 0

abbrev bufTy : (tb : Table) → Fin (tcTables nBuf tb) → BufTy
  | .hbm, ⟨0, _⟩ => ⟨S8x1x64x64x64, .f32⟩
  | .hbm, ⟨1, _⟩ => ⟨S32x1x3x3x3, .f32⟩
  | .hbm, ⟨2, _⟩ => ⟨S32, .f32⟩
  | .hbm, ⟨3, _⟩ => ⟨S32, .f32⟩
  | .hbm, ⟨4, _⟩ => ⟨S64x32x3x3x3, .f32⟩
  | .hbm, ⟨5, _⟩ => ⟨S64, .f32⟩
  | .hbm, ⟨6, _⟩ => ⟨S64, .f32⟩
  | .hbm, ⟨7, _⟩ => ⟨S128x64x3x3x3, .f32⟩
  | .hbm, ⟨8, _⟩ => ⟨S128, .f32⟩
  | .hbm, ⟨9, _⟩ => ⟨S128, .f32⟩
  | .hbm, ⟨10, _⟩ => ⟨S256x128, .f32⟩
  | .hbm, ⟨11, _⟩ => ⟨S256, .f32⟩
  | .hbm, ⟨12, _⟩ => ⟨S8x64x64x64, .f32⟩
  | .hbm, ⟨13, _⟩ => ⟨S_, .i32⟩
  | .hbm, ⟨14, _⟩ => ⟨S_, .f32⟩
  | .hbm, ⟨15, _⟩ => ⟨S8x66x66x66, .f32⟩
  | .hbm, ⟨16, _⟩ => ⟨S32x3x3x3, .f32⟩
  | .hbm, ⟨17, _⟩ => ⟨S3x3x3x32, .f32⟩
  | .hbm, ⟨18, _⟩ => ⟨S27x32, .f32⟩
  | .hbm, ⟨19, _⟩ => ⟨S3x3x3x32x64, .f32⟩
  | .hbm, ⟨20, _⟩ => ⟨S3x3x3x64x128, .f32⟩
  | .hbm, ⟨21, _⟩ => ⟨S8x66x66x66x32, .f32⟩
  | .hbm, ⟨22, _⟩ => ⟨S8x2x32, .f32⟩
  | .hbm, ⟨23, _⟩ => ⟨S_, .f32⟩
  | .hbm, ⟨24, _⟩ => ⟨S2x32, .f32⟩
  | .hbm, ⟨25, _⟩ => ⟨S1x32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S1x32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S32, .f32⟩
  | .hbm, ⟨41, _⟩ => ⟨S32, .f32⟩
  | .hbm, ⟨42, _⟩ => ⟨S32, .f32⟩
  | .hbm, ⟨43, _⟩ => ⟨S32, .f32⟩
  | .hbm, ⟨44, _⟩ => ⟨S1x32, .f32⟩
  | .hbm, ⟨45, _⟩ => ⟨S1x32, .f32⟩
  | .hbm, ⟨46, _⟩ => ⟨S8x34x34x34x64, .f32⟩
  | .hbm, ⟨47, _⟩ => ⟨S8x2x64, .f32⟩
  | .hbm, ⟨48, _⟩ => ⟨S_, .f32⟩
  | .hbm, ⟨49, _⟩ => ⟨S2x64, .f32⟩
  | .hbm, ⟨50, _⟩ => ⟨S1x64, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S1x64, .f32⟩
  | .hbm, ⟨56, _⟩ => ⟨S64, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S64, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S64, .f32⟩
  | .hbm, ⟨69, _⟩ => ⟨S1x64, .f32⟩
  | .hbm, ⟨70, _⟩ => ⟨S1x64, .f32⟩
  | .hbm, ⟨71, _⟩ => ⟨S8x1x128, .f32⟩
  | .hbm, ⟨72, _⟩ => ⟨S8x2x128, .f32⟩
  | .hbm, ⟨73, _⟩ => ⟨S_, .f32⟩
  | .hbm, ⟨74, _⟩ => ⟨S2x128, .f32⟩
  | .hbm, ⟨75, _⟩ => ⟨S1x128, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S128, .f32⟩
  | .hbm, ⟨82, _⟩ => ⟨S_, .f32⟩
  | .hbm, ⟨83, _⟩ => ⟨S128, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S128, .f32⟩
  | .hbm, ⟨91, _⟩ => ⟨S128, .f32⟩
  | .hbm, ⟨92, _⟩ => ⟨S128, .f32⟩
  | .hbm, ⟨93, _⟩ => ⟨S128, .f32⟩
  | .hbm, ⟨94, _⟩ => ⟨S1x128, .f32⟩
  | .hbm, ⟨95, _⟩ => ⟨S1x128, .f32⟩
  | .hbm, ⟨96, _⟩ => ⟨S8x128, .f32⟩
  | .hbm, ⟨97, _⟩ => ⟨S128x256, .f32⟩
  | .hbm, ⟨98, _⟩ => ⟨S1x256, .f32⟩
  | .hbm, ⟨99, _⟩ => ⟨S8x256, .f32⟩
  | .local _ .vmem, ⟨0, _⟩ => ⟨S1x1x66x66, .f32⟩
  | .local _ .vmem, ⟨1, _⟩ => ⟨S1x1x66x66, .f32⟩
  | .local _ .vmem, ⟨2, _⟩ => ⟨S1x1x66x66, .f32⟩
  | .local _ .vmem, ⟨3, _⟩ => ⟨S1x1x66x66, .f32⟩
  | .local _ .vmem, ⟨4, _⟩ => ⟨S1x1x66x66, .f32⟩
  | .local _ .vmem, ⟨5, _⟩ => ⟨S1x1x66x66, .f32⟩
  | .local _ .vmem, ⟨6, _⟩ => ⟨S27x32, .f32⟩
  | .local _ .vmem, ⟨7, _⟩ => ⟨S1x1x66x66x32, .f32⟩
  | .local _ .vmem, ⟨8, _⟩ => ⟨S1x1x66x66x32, .f32⟩
  | .local _ .vmem, ⟨9, _⟩ => ⟨S1x2x32, .f32⟩
  | .local _ .vmem, ⟨10, _⟩ => ⟨S1x2x32, .f32⟩
  | .local _ .vmem, ⟨11, _⟩ => ⟨S1x1x66x66x32, .f32⟩
  | .local _ .vmem, ⟨12, _⟩ => ⟨S1x1x66x66x32, .f32⟩
  | .local _ .vmem, ⟨13, _⟩ => ⟨S1x1x66x66x32, .f32⟩
  | .local _ .vmem, ⟨14, _⟩ => ⟨S1x1x66x66x32, .f32⟩
  | .local _ .vmem, ⟨15, _⟩ => ⟨S1x1x66x66x32, .f32⟩
  | .local _ .vmem, ⟨16, _⟩ => ⟨S1x1x66x66x32, .f32⟩
  | .local _ .vmem, ⟨17, _⟩ => ⟨S1x32, .f32⟩
  | .local _ .vmem, ⟨18, _⟩ => ⟨S1x32, .f32⟩
  | .local _ .vmem, ⟨19, _⟩ => ⟨S3x3x3x32x64, .f32⟩
  | .local _ .vmem, ⟨20, _⟩ => ⟨S1x1x34x34x64, .f32⟩
  | .local _ .vmem, ⟨21, _⟩ => ⟨S1x1x34x34x64, .f32⟩
  | .local _ .vmem, ⟨22, _⟩ => ⟨S1x2x64, .f32⟩
  | .local _ .vmem, ⟨23, _⟩ => ⟨S1x2x64, .f32⟩
  | .local _ .vmem, ⟨24, _⟩ => ⟨S1x1x34x34x64, .f32⟩
  | .local _ .vmem, ⟨25, _⟩ => ⟨S1x1x34x34x64, .f32⟩
  | .local _ .vmem, ⟨26, _⟩ => ⟨S1x1x34x34x64, .f32⟩
  | .local _ .vmem, ⟨27, _⟩ => ⟨S1x1x34x34x64, .f32⟩
  | .local _ .vmem, ⟨28, _⟩ => ⟨S1x1x34x34x64, .f32⟩
  | .local _ .vmem, ⟨29, _⟩ => ⟨S1x1x34x34x64, .f32⟩
  | .local _ .vmem, ⟨30, _⟩ => ⟨S1x64, .f32⟩
  | .local _ .vmem, ⟨31, _⟩ => ⟨S1x64, .f32⟩
  | .local _ .vmem, ⟨32, _⟩ => ⟨S3x3x3x64x128, .f32⟩
  | .local _ .vmem, ⟨33, _⟩ => ⟨S1x1x128, .f32⟩
  | .local _ .vmem, ⟨34, _⟩ => ⟨S1x1x128, .f32⟩
  | .local _ .vmem, ⟨35, _⟩ => ⟨S1x2x128, .f32⟩
  | .local _ .vmem, ⟨36, _⟩ => ⟨S1x2x128, .f32⟩
  | .local _ .vmem, ⟨37, _⟩ => ⟨S8x128, .f32⟩
  | .local _ .vmem, ⟨38, _⟩ => ⟨S1x128, .f32⟩
  | .local _ .vmem, ⟨39, _⟩ => ⟨S1x128, .f32⟩
  | .local _ .vmem, ⟨40, _⟩ => ⟨S128x256, .f32⟩
  | .local _ .vmem, ⟨41, _⟩ => ⟨S1x256, .f32⟩
  | .local _ .vmem, ⟨42, _⟩ => ⟨S8x256, .f32⟩
  | _, _ => ⟨S8x1x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7_0 : Ref sig .tc := ⟨.hbm, 21, rfl⟩
abbrev main_v7_1 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27_0 : Ref sig .tc := ⟨.hbm, 46, rfl⟩
abbrev main_v27_1 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47_0 : Ref sig .tc := ⟨.hbm, 71, rfl⟩
abbrev main_v47_1 : Ref sig .tc := ⟨.hbm, 72, rfl⟩
abbrev main_cst_7 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_9 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg6_1 : Ref sig .tc := ⟨.vmem, 34, rfl⟩
abbrev cc2_stg7_0 : Ref sig .tc := ⟨.vmem, 35, rfl⟩
abbrev cc2_stg7_1 : Ref sig .tc := ⟨.vmem, 36, rfl⟩
abbrev cc3_stg0_0 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem6_1 : DmaSem sig := 34
abbrev cc2_sem7_0 : DmaSem sig := 35
abbrev cc2_sem7_1 : DmaSem sig := 36
abbrev cc3_sem0_0 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42

abbrev nD : Nat := 1
abbrev τ : Topo := Topo.v7x

variable {F : FTy → Type} [FloatOps F]

abbrev grid0 : Pipeline.Grid := ⟨2, ![8, 66], ![false, false]⟩

def k0_cond1 (i : grid0.Coords) : BitVec 1 :=
  let arg1 : BitVec 32 := BitVec.ofNat 32 (i 1).val
  let c0_i32_21 : BitVec 32 := 0#32
  let v88 : BitVec 1 := Scalar.cmpi .eq arg1 c0_i32_21
  let v89 : BitVec 32 := Scalar.extui v88
  let c0_i32_22 : BitVec 32 := 0#32
  let v90 : BitVec 1 := Scalar.cmpi .ne v89 c0_i32_22
  v90

def k0_cond2 (i : grid0.Coords) : BitVec 1 :=
  let arg1 : BitVec 32 := BitVec.ofNat 32 (i 1).val
  let c0_i32_23 : BitVec 32 := 0#32
  let v91 : BitVec 1 := Scalar.cmpi .ne arg1 c0_i32_23
  let v92 : BitVec 32 := Scalar.extui v91
  let c0_i32_24 : BitVec 32 := 0#32
  let v93 : BitVec 1 := Scalar.cmpi .ne v92 c0_i32_24
  v93

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.addi v0 c0_i32
  let c0_i32_0 : BitVec 32 := 0#32
  let c65_i32 : BitVec 32 := 65#32
  let v2 : BitVec 32 := Scalar.maxsi c0_i32_0 v1
  let v3 : BitVec 32 := Scalar.minsi c65_i32 v2
  let c0_i32_1 : BitVec 32 := 0#32
  let c0_i32_2 : BitVec 32 := 0#32
  let c0_i32_3 : BitVec 32 := 0#32
  ![arg0.toNat, v3.toNat, c0_i32_1.toNat, c0_i32_2.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c1_i32_0 : BitVec 32 := 1#32
  let v1 : BitVec 32 := Scalar.addi v0 c1_i32_0
  let c0_i32 : BitVec 32 := 0#32
  let c65_i32 : BitVec 32 := 65#32
  let v2 : BitVec 32 := Scalar.maxsi c0_i32 v1
  let v3 : BitVec 32 := Scalar.minsi c65_i32 v2
  let c0_i32_1 : BitVec 32 := 0#32
  let c0_i32_2 : BitVec 32 := 0#32
  let c0_i32_3 : BitVec 32 := 0#32
  ![arg0.toNat, v3.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c2_i32 : BitVec 32 := 2#32
  let v1 : BitVec 32 := Scalar.addi v0 c2_i32
  let c0_i32 : BitVec 32 := 0#32
  let c65_i32 : BitVec 32 := 65#32
  let v2 : BitVec 32 := Scalar.maxsi c0_i32 v1
  let v3 : BitVec 32 := Scalar.minsi c65_i32 v2
  let c0_i32_0 : BitVec 32 := 0#32
  let c0_i32_1 : BitVec 32 := 0#32
  let c0_i32_2 : BitVec 32 := 0#32
  ![arg0.toNat, v3.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x66x66 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x66x66 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x66x66 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S27x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x66x66x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 34], ![false, false]⟩

def k1_cond1 (i : grid1.Coords) : BitVec 1 :=
  let arg1 : BitVec 32 := BitVec.ofNat 32 (i 1).val
  let c0_i32_80 : BitVec 32 := 0#32
  let v305 : BitVec 1 := Scalar.cmpi .eq arg1 c0_i32_80
  let v306 : BitVec 32 := Scalar.extui v305
  let c0_i32_81 : BitVec 32 := 0#32
  let v307 : BitVec 1 := Scalar.cmpi .ne v306 c0_i32_81
  v307

def k1_cond2 (i : grid1.Coords) : BitVec 1 :=
  let arg1 : BitVec 32 := BitVec.ofNat 32 (i 1).val
  let c0_i32_82 : BitVec 32 := 0#32
  let v308 : BitVec 1 := Scalar.cmpi .ne arg1 c0_i32_82
  let v309 : BitVec 32 := Scalar.extui v308
  let c0_i32_83 : BitVec 32 := 0#32
  let v310 : BitVec 1 := Scalar.cmpi .ne v309 c0_i32_83
  v310

def cc1_transform_0 (i : grid1.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.subi v0 c2_i32_0
  let c0_i32 : BitVec 32 := 0#32
  let v2 : BitVec 32 := Scalar.addi v1 c0_i32
  let c0_i32_1 : BitVec 32 := 0#32
  let c65_i32 : BitVec 32 := 65#32
  let v3 : BitVec 32 := Scalar.maxsi c0_i32_1 v2
  let v4 : BitVec 32 := Scalar.minsi c65_i32 v3
  let c0_i32_2 : BitVec 32 := 0#32
  let c0_i32_3 : BitVec 32 := 0#32
  let c0_i32_4 : BitVec 32 := 0#32
  let c0_i32_5 : BitVec 32 := 0#32
  ![arg0.toNat, v4.toNat, c0_i32_2.toNat, c0_i32_3.toNat, c0_i32_4.toNat]

def cc1_transform_1 (i : grid1.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.subi v0 c2_i32_0
  let c1_i32 : BitVec 32 := 1#32
  let v2 : BitVec 32 := Scalar.addi v1 c1_i32
  let c0_i32 : BitVec 32 := 0#32
  let c65_i32 : BitVec 32 := 65#32
  let v3 : BitVec 32 := Scalar.maxsi c0_i32 v2
  let v4 : BitVec 32 := Scalar.minsi c65_i32 v3
  let c0_i32_1 : BitVec 32 := 0#32
  let c0_i32_2 : BitVec 32 := 0#32
  let c0_i32_3 : BitVec 32 := 0#32
  let c0_i32_4 : BitVec 32 := 0#32
  ![arg0.toNat, v4.toNat, c0_i32_1.toNat, c0_i32_2.toNat, c0_i32_3.toNat]

def cc1_transform_2 (i : grid1.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.subi v0 c2_i32_0
  let c2_i32_1 : BitVec 32 := 2#32
  let v2 : BitVec 32 := Scalar.addi v1 c2_i32_1
  let c0_i32 : BitVec 32 := 0#32
  let c65_i32 : BitVec 32 := 65#32
  let v3 : BitVec 32 := Scalar.maxsi c0_i32 v2
  let v4 : BitVec 32 := Scalar.minsi c65_i32 v3
  let c0_i32_2 : BitVec 32 := 0#32
  let c0_i32_3 : BitVec 32 := 0#32
  let c0_i32_4 : BitVec 32 := 0#32
  let c0_i32_5 : BitVec 32 := 0#32
  ![arg0.toNat, v4.toNat, c0_i32_2.toNat, c0_i32_3.toNat, c0_i32_4.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc1_transform_6 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x66x66x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x66x66x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x66x66x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S3x3x3x32x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x1x34x34x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x2x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨2, ![8, 16], ![false, false]⟩

def k2_cond3 (i : grid2.Coords) : BitVec 1 :=
  let arg1 : BitVec 32 := BitVec.ofNat 32 (i 1).val
  let c8_i32 : BitVec 32 := 8#32
  let v290 : BitVec 1 := Scalar.cmpi .eq arg1 c8_i32
  let v291 : BitVec 32 := Scalar.extui v290
  let c0_i32_73 : BitVec 32 := 0#32
  let v292 : BitVec 1 := Scalar.cmpi .ne v291 c0_i32_73
  v292

def k2_cond1 (i : grid2.Coords) : BitVec 1 :=
  let arg1 : BitVec 32 := BitVec.ofNat 32 (i 1).val
  let c0_i32_69 : BitVec 32 := 0#32
  let v284 : BitVec 1 := Scalar.cmpi .eq arg1 c0_i32_69
  let v285 : BitVec 32 := Scalar.extui v284
  let c0_i32_70 : BitVec 32 := 0#32
  let v286 : BitVec 1 := Scalar.cmpi .ne v285 c0_i32_70
  v286

def k2_cond2 (i : grid2.Coords) : BitVec 1 :=
  let arg1 : BitVec 32 := BitVec.ofNat 32 (i 1).val
  let c0_i32_71 : BitVec 32 := 0#32
  let v287 : BitVec 1 := Scalar.cmpi .ne arg1 c0_i32_71
  let v288 : BitVec 32 := Scalar.extui v287
  let c0_i32_72 : BitVec 32 := 0#32
  let v289 : BitVec 1 := Scalar.cmpi .ne v288 c0_i32_72
  v289

def cc2_transform_0 (i : grid2.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let c33_i32 : BitVec 32 := 33#32
  let v2 : BitVec 32 := Scalar.maxsi c0_i32_0 v1
  let v3 : BitVec 32 := Scalar.minsi c33_i32 v2
  let c0_i32_1 : BitVec 32 := 0#32
  let c0_i32_2 : BitVec 32 := 0#32
  let c0_i32_3 : BitVec 32 := 0#32
  let c0_i32_4 : BitVec 32 := 0#32
  ![arg0.toNat, v3.toNat, c0_i32_1.toNat, c0_i32_2.toNat, c0_i32_3.toNat]

def cc2_transform_1 (i : grid2.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c33_i32 : BitVec 32 := 33#32
  let v2 : BitVec 32 := Scalar.maxsi c0_i32 v1
  let v3 : BitVec 32 := Scalar.minsi c33_i32 v2
  let c0_i32_0 : BitVec 32 := 0#32
  let c0_i32_1 : BitVec 32 := 0#32
  let c0_i32_2 : BitVec 32 := 0#32
  let c0_i32_3 : BitVec 32 := 0#32
  ![arg0.toNat, v3.toNat, c0_i32_0.toNat, c0_i32_1.toNat, c0_i32_2.toNat]

def cc2_transform_2 (i : grid2.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c0_i32 : BitVec 32 := 0#32
  let c33_i32 : BitVec 32 := 33#32
  let v2 : BitVec 32 := Scalar.maxsi c0_i32 v1
  let v3 : BitVec 32 := Scalar.minsi c33_i32 v2
  let c0_i32_1 : BitVec 32 := 0#32
  let c0_i32_2 : BitVec 32 := 0#32
  let c0_i32_3 : BitVec 32 := 0#32
  let c0_i32_4 : BitVec 32 := 0#32
  ![arg0.toNat, v3.toNat, c0_i32_1.toNat, c0_i32_2.toNat, c0_i32_3.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x34x34x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x34x34x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1x34x34x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S3x3x3x64x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x1x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1x2x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev grid3 : Pipeline.Grid := .none

abbrev stage3_0 : Fin 1 → Memref sig .tc .vmem S8x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S128x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S8x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
-- ==== ReferenceIdeal.lean ====
abbrev S8x1x64x64x64 : Shape := ⟨5, ![8, 1, 64, 64, 64]⟩
abbrev S32x1x3x3x3 : Shape := ⟨5, ![32, 1, 3, 3, 3]⟩
abbrev S32 : Shape := ⟨1, ![32]⟩
abbrev S64x32x3x3x3 : Shape := ⟨5, ![64, 32, 3, 3, 3]⟩
abbrev S64 : Shape := ⟨1, ![64]⟩
abbrev S128x64x3x3x3 : Shape := ⟨5, ![128, 64, 3, 3, 3]⟩
abbrev S128 : Shape := ⟨1, ![128]⟩
abbrev S256x128 : Shape := ⟨2, ![256, 128]⟩
abbrev S256 : Shape := ⟨1, ![256]⟩
abbrev S_ : Shape := ⟨0, ![]⟩
abbrev S8x1x66x66x66 : Shape := ⟨5, ![8, 1, 66, 66, 66]⟩
abbrev S8x32x64x64x64 : Shape := ⟨5, ![8, 32, 64, 64, 64]⟩
abbrev S32x1x1x1x1 : Shape := ⟨5, ![32, 1, 1, 1, 1]⟩
abbrev S32x1 : Shape := ⟨2, ![32, 1]⟩
abbrev S32x8x64x64x64 : Shape := ⟨5, ![32, 8, 64, 64, 64]⟩
abbrev S1x32x1x1x1 : Shape := ⟨5, ![1, 32, 1, 1, 1]⟩
abbrev S8x32x66x66x66 : Shape := ⟨5, ![8, 32, 66, 66, 66]⟩
abbrev S8x64x32x32x32 : Shape := ⟨5, ![8, 64, 32, 32, 32]⟩
abbrev S8x32x32x32x32 : Shape := ⟨5, ![8, 32, 32, 32, 32]⟩
abbrev S64x32x1x1x1 : Shape := ⟨5, ![64, 32, 1, 1, 1]⟩
abbrev S64x32 : Shape := ⟨2, ![64, 32]⟩
abbrev S64x8x32x32x32 : Shape := ⟨5, ![64, 8, 32, 32, 32]⟩
abbrev S1x64x1x1x1 : Shape := ⟨5, ![1, 64, 1, 1, 1]⟩
abbrev S8x64x34x34x34 : Shape := ⟨5, ![8, 64, 34, 34, 34]⟩
abbrev S8x128x16x16x16 : Shape := ⟨5, ![8, 128, 16, 16, 16]⟩
abbrev S8x64x16x16x16 : Shape := ⟨5, ![8, 64, 16, 16, 16]⟩
abbrev S128x64x1x1x1 : Shape := ⟨5, ![128, 64, 1, 1, 1]⟩
abbrev S128x64 : Shape := ⟨2, ![128, 64]⟩
abbrev S128x8x16x16x16 : Shape := ⟨5, ![128, 8, 16, 16, 16]⟩
abbrev S1x128x1x1x1 : Shape := ⟨5, ![1, 128, 1, 1, 1]⟩
abbrev S8x128x1x1x1 : Shape := ⟨5, ![8, 128, 1, 1, 1]⟩
abbrev S8x128 : Shape := ⟨2, ![8, 128]⟩
abbrev S128x256 : Shape := ⟨2, ![128, 256]⟩
abbrev S8x256 : Shape := ⟨2, ![8, 256]⟩
abbrev S1x256 : Shape := ⟨2, ![1, 256]⟩

abbrev nBuf : Space → Nat
  | .hbm => 616
  | .vmem => 0
  | .smem => 0
  | _ => 0

abbrev hbmTy0_0 (i : Nat) : BufTy := match i % 128 with
  | 0 => ⟨S8x1x64x64x64, .f32⟩
  | 1 => ⟨S32x1x3x3x3, .f32⟩
  | 2 => ⟨S32, .f32⟩
  | 3 => ⟨S32, .f32⟩
  | 4 => ⟨S64x32x3x3x3, .f32⟩
  | 5 => ⟨S64, .f32⟩
  | 6 => ⟨S64, .f32⟩
  | 7 => ⟨S128x64x3x3x3, .f32⟩
  | 8 => ⟨S128, .f32⟩
  | 9 => ⟨S128, .f32⟩
  | 10 => ⟨S256x128, .f32⟩
  | 11 => ⟨S256, .f32⟩
  | 12 => ⟨S_, .i32⟩
  | 13 => ⟨S_, .f32⟩
  | 14 => ⟨S8x1x66x66x66, .f32⟩
  | 15 => ⟨S_, .f32⟩
  | 16 => ⟨S8x32x64x64x64, .f32⟩
  | 17 => ⟨S8x1x64x64x64, .f32⟩
  | 18 => ⟨S32x1x1x1x1, .f32⟩
  | 19 => ⟨S32x1, .f32⟩
  | 20 => ⟨S32x8x64x64x64, .f32⟩
  | 21 => ⟨S8x32x64x64x64, .f32⟩
  | 22 => ⟨S8x32x64x64x64, .f32⟩
  | 23 => ⟨S8x1x64x64x64, .f32⟩
  | 24 => ⟨S32x1x1x1x1, .f32⟩
  | 25 => ⟨S32x1, .f32⟩
  | 26 => ⟨S32x8x64x64x64, .f32⟩
  | 27 => ⟨S8x32x64x64x64, .f32⟩
  | 28 => ⟨S8x32x64x64x64, .f32⟩
  | 29 => ⟨S8x1x64x64x64, .f32⟩
  | 30 => ⟨S32x1x1x1x1, .f32⟩
  | 31 => ⟨S32x1, .f32⟩
  | 32 => ⟨S32x8x64x64x64, .f32⟩
  | 33 => ⟨S8x32x64x64x64, .f32⟩
  | 34 => ⟨S8x32x64x64x64, .f32⟩
  | 35 => ⟨S8x1x64x64x64, .f32⟩
  | 36 => ⟨S32x1x1x1x1, .f32⟩
  | 37 => ⟨S32x1, .f32⟩
  | 38 => ⟨S32x8x64x64x64, .f32⟩
  | 39 => ⟨S8x32x64x64x64, .f32⟩
  | 40 => ⟨S8x32x64x64x64, .f32⟩
  | 41 => ⟨S8x1x64x64x64, .f32⟩
  | 42 => ⟨S32x1x1x1x1, .f32⟩
  | 43 => ⟨S32x1, .f32⟩
  | 44 => ⟨S32x8x64x64x64, .f32⟩
  | 45 => ⟨S8x32x64x64x64, .f32⟩
  | 46 => ⟨S8x32x64x64x64, .f32⟩
  | 47 => ⟨S8x1x64x64x64, .f32⟩
  | 48 => ⟨S32x1x1x1x1, .f32⟩
  | 49 => ⟨S32x1, .f32⟩
  | 50 => ⟨S32x8x64x64x64, .f32⟩
  | 51 => ⟨S8x32x64x64x64, .f32⟩
  | 52 => ⟨S8x32x64x64x64, .f32⟩
  | 53 => ⟨S8x1x64x64x64, .f32⟩
  | 54 => ⟨S32x1x1x1x1, .f32⟩
  | 55 => ⟨S32x1, .f32⟩
  | 56 => ⟨S32x8x64x64x64, .f32⟩
  | 57 => ⟨S8x32x64x64x64, .f32⟩
  | 58 => ⟨S8x32x64x64x64, .f32⟩
  | 59 => ⟨S8x1x64x64x64, .f32⟩
  | 60 => ⟨S32x1x1x1x1, .f32⟩
  | 61 => ⟨S32x1, .f32⟩
  | 62 => ⟨S32x8x64x64x64, .f32⟩
  | 63 => ⟨S8x32x64x64x64, .f32⟩
  | 64 => ⟨S8x32x64x64x64, .f32⟩
  | 65 => ⟨S8x1x64x64x64, .f32⟩
  | 66 => ⟨S32x1x1x1x1, .f32⟩
  | 67 => ⟨S32x1, .f32⟩
  | 68 => ⟨S32x8x64x64x64, .f32⟩
  | 69 => ⟨S8x32x64x64x64, .f32⟩
  | 70 => ⟨S8x32x64x64x64, .f32⟩
  | 71 => ⟨S8x1x64x64x64, .f32⟩
  | 72 => ⟨S32x1x1x1x1, .f32⟩
  | 73 => ⟨S32x1, .f32⟩
  | 74 => ⟨S32x8x64x64x64, .f32⟩
  | 75 => ⟨S8x32x64x64x64, .f32⟩
  | 76 => ⟨S8x32x64x64x64, .f32⟩
  | 77 => ⟨S8x1x64x64x64, .f32⟩
  | 78 => ⟨S32x1x1x1x1, .f32⟩
  | 79 => ⟨S32x1, .f32⟩
  | 80 => ⟨S32x8x64x64x64, .f32⟩
  | 81 => ⟨S8x32x64x64x64, .f32⟩
  | 82 => ⟨S8x32x64x64x64, .f32⟩
  | 83 => ⟨S8x1x64x64x64, .f32⟩
  | 84 => ⟨S32x1x1x1x1, .f32⟩
  | 85 => ⟨S32x1, .f32⟩
  | 86 => ⟨S32x8x64x64x64, .f32⟩
  | 87 => ⟨S8x32x64x64x64, .f32⟩
  | 88 => ⟨S8x32x64x64x64, .f32⟩
  | 89 => ⟨S8x1x64x64x64, .f32⟩
  | 90 => ⟨S32x1x1x1x1, .f32⟩
  | 91 => ⟨S32x1, .f32⟩
  | 92 => ⟨S32x8x64x64x64, .f32⟩
  | 93 => ⟨S8x32x64x64x64, .f32⟩
  | 94 => ⟨S8x32x64x64x64, .f32⟩
  | 95 => ⟨S8x1x64x64x64, .f32⟩
  | 96 => ⟨S32x1x1x1x1, .f32⟩
  | 97 => ⟨S32x1, .f32⟩
  | 98 => ⟨S32x8x64x64x64, .f32⟩
  | 99 => ⟨S8x32x64x64x64, .f32⟩
  | 100 => ⟨S8x32x64x64x64, .f32⟩
  | 101 => ⟨S8x1x64x64x64, .f32⟩
  | 102 => ⟨S32x1x1x1x1, .f32⟩
  | 103 => ⟨S32x1, .f32⟩
  | 104 => ⟨S32x8x64x64x64, .f32⟩
  | 105 => ⟨S8x32x64x64x64, .f32⟩
  | 106 => ⟨S8x32x64x64x64, .f32⟩
  | 107 => ⟨S8x1x64x64x64, .f32⟩
  | 108 => ⟨S32x1x1x1x1, .f32⟩
  | 109 => ⟨S32x1, .f32⟩
  | 110 => ⟨S32x8x64x64x64, .f32⟩
  | 111 => ⟨S8x32x64x64x64, .f32⟩
  | 112 => ⟨S8x32x64x64x64, .f32⟩
  | 113 => ⟨S8x1x64x64x64, .f32⟩
  | 114 => ⟨S32x1x1x1x1, .f32⟩
  | 115 => ⟨S32x1, .f32⟩
  | 116 => ⟨S32x8x64x64x64, .f32⟩
  | 117 => ⟨S8x32x64x64x64, .f32⟩
  | 118 => ⟨S8x32x64x64x64, .f32⟩
  | 119 => ⟨S8x1x64x64x64, .f32⟩
  | 120 => ⟨S32x1x1x1x1, .f32⟩
  | 121 => ⟨S32x1, .f32⟩
  | 122 => ⟨S32x8x64x64x64, .f32⟩
  | 123 => ⟨S8x32x64x64x64, .f32⟩
  | 124 => ⟨S8x32x64x64x64, .f32⟩
  | 125 => ⟨S8x1x64x64x64, .f32⟩
  | 126 => ⟨S32x1x1x1x1, .f32⟩
  | 127 => ⟨S32x1, .f32⟩
  | _ => ⟨S8x1x64x64x64, .f32⟩

abbrev hbmTy0_1 (i : Nat) : BufTy := match i % 128 with
  | 0 => ⟨S32x8x64x64x64, .f32⟩
  | 1 => ⟨S8x32x64x64x64, .f32⟩
  | 2 => ⟨S8x32x64x64x64, .f32⟩
  | 3 => ⟨S8x1x64x64x64, .f32⟩
  | 4 => ⟨S32x1x1x1x1, .f32⟩
  | 5 => ⟨S32x1, .f32⟩
  | 6 => ⟨S32x8x64x64x64, .f32⟩
  | 7 => ⟨S8x32x64x64x64, .f32⟩
  | 8 => ⟨S8x32x64x64x64, .f32⟩
  | 9 => ⟨S8x1x64x64x64, .f32⟩
  | 10 => ⟨S32x1x1x1x1, .f32⟩
  | 11 => ⟨S32x1, .f32⟩
  | 12 => ⟨S32x8x64x64x64, .f32⟩
  | 13 => ⟨S8x32x64x64x64, .f32⟩
  | 14 => ⟨S8x32x64x64x64, .f32⟩
  | 15 => ⟨S8x1x64x64x64, .f32⟩
  | 16 => ⟨S32x1x1x1x1, .f32⟩
  | 17 => ⟨S32x1, .f32⟩
  | 18 => ⟨S32x8x64x64x64, .f32⟩
  | 19 => ⟨S8x32x64x64x64, .f32⟩
  | 20 => ⟨S8x32x64x64x64, .f32⟩
  | 21 => ⟨S8x1x64x64x64, .f32⟩
  | 22 => ⟨S32x1x1x1x1, .f32⟩
  | 23 => ⟨S32x1, .f32⟩
  | 24 => ⟨S32x8x64x64x64, .f32⟩
  | 25 => ⟨S8x32x64x64x64, .f32⟩
  | 26 => ⟨S8x32x64x64x64, .f32⟩
  | 27 => ⟨S8x1x64x64x64, .f32⟩
  | 28 => ⟨S32x1x1x1x1, .f32⟩
  | 29 => ⟨S32x1, .f32⟩
  | 30 => ⟨S32x8x64x64x64, .f32⟩
  | 31 => ⟨S8x32x64x64x64, .f32⟩
  | 32 => ⟨S8x32x64x64x64, .f32⟩
  | 33 => ⟨S8x1x64x64x64, .f32⟩
  | 34 => ⟨S32x1x1x1x1, .f32⟩
  | 35 => ⟨S32x1, .f32⟩
  | 36 => ⟨S32x8x64x64x64, .f32⟩
  | 37 => ⟨S8x32x64x64x64, .f32⟩
  | 38 => ⟨S8x32x64x64x64, .f32⟩
  | 39 => ⟨S8x1x64x64x64, .f32⟩
  | 40 => ⟨S32x1x1x1x1, .f32⟩
  | 41 => ⟨S32x1, .f32⟩
  | 42 => ⟨S32x8x64x64x64, .f32⟩
  | 43 => ⟨S8x32x64x64x64, .f32⟩
  | 44 => ⟨S8x32x64x64x64, .f32⟩
  | 45 => ⟨S8x1x64x64x64, .f32⟩
  | 46 => ⟨S32x1x1x1x1, .f32⟩
  | 47 => ⟨S32x1, .f32⟩
  | 48 => ⟨S32x8x64x64x64, .f32⟩
  | 49 => ⟨S8x32x64x64x64, .f32⟩
  | 50 => ⟨S8x32x64x64x64, .f32⟩
  | 51 => ⟨S_, .f32⟩
  | 52 => ⟨S32, .f32⟩
  | 53 => ⟨S1x32x1x1x1, .f32⟩
  | 54 => ⟨S_, .f32⟩
  | 55 => ⟨S1x32x1x1x1, .f32⟩
  | 56 => ⟨S1x32x1x1x1, .f32⟩
  | 57 => ⟨S8x32x64x64x64, .f32⟩
  | 58 => ⟨S8x32x64x64x64, .f32⟩
  | 59 => ⟨S8x32x64x64x64, .f32⟩
  | 60 => ⟨S_, .f32⟩
  | 61 => ⟨S32, .f32⟩
  | 62 => ⟨S1x32x1x1x1, .f32⟩
  | 63 => ⟨S_, .f32⟩
  | 64 => ⟨S1x32x1x1x1, .f32⟩
  | 65 => ⟨S1x32x1x1x1, .f32⟩
  | 66 => ⟨S8x32x64x64x64, .f32⟩
  | 67 => ⟨S8x32x64x64x64, .f32⟩
  | 68 => ⟨S_, .f32⟩
  | 69 => ⟨S1x32x1x1x1, .f32⟩
  | 70 => ⟨S1x32x1x1x1, .f32⟩
  | 71 => ⟨S1x32x1x1x1, .f32⟩
  | 72 => ⟨S8x32x64x64x64, .f32⟩
  | 73 => ⟨S8x32x64x64x64, .f32⟩
  | 74 => ⟨S1x32x1x1x1, .f32⟩
  | 75 => ⟨S8x32x64x64x64, .f32⟩
  | 76 => ⟨S8x32x64x64x64, .f32⟩
  | 77 => ⟨S1x32x1x1x1, .f32⟩
  | 78 => ⟨S8x32x64x64x64, .f32⟩
  | 79 => ⟨S8x32x64x64x64, .f32⟩
  | 80 => ⟨S_, .f32⟩
  | 81 => ⟨S8x32x64x64x64, .f32⟩
  | 82 => ⟨S8x32x64x64x64, .f32⟩
  | 83 => ⟨S_, .i32⟩
  | 84 => ⟨S_, .f32⟩
  | 85 => ⟨S8x32x66x66x66, .f32⟩
  | 86 => ⟨S_, .f32⟩
  | 87 => ⟨S8x64x32x32x32, .f32⟩
  | 88 => ⟨S8x32x32x32x32, .f32⟩
  | 89 => ⟨S64x32x1x1x1, .f32⟩
  | 90 => ⟨S64x32, .f32⟩
  | 91 => ⟨S64x8x32x32x32, .f32⟩
  | 92 => ⟨S8x64x32x32x32, .f32⟩
  | 93 => ⟨S8x64x32x32x32, .f32⟩
  | 94 => ⟨S8x32x32x32x32, .f32⟩
  | 95 => ⟨S64x32x1x1x1, .f32⟩
  | 96 => ⟨S64x32, .f32⟩
  | 97 => ⟨S64x8x32x32x32, .f32⟩
  | 98 => ⟨S8x64x32x32x32, .f32⟩
  | 99 => ⟨S8x64x32x32x32, .f32⟩
  | 100 => ⟨S8x32x32x32x32, .f32⟩
  | 101 => ⟨S64x32x1x1x1, .f32⟩
  | 102 => ⟨S64x32, .f32⟩
  | 103 => ⟨S64x8x32x32x32, .f32⟩
  | 104 => ⟨S8x64x32x32x32, .f32⟩
  | 105 => ⟨S8x64x32x32x32, .f32⟩
  | 106 => ⟨S8x32x32x32x32, .f32⟩
  | 107 => ⟨S64x32x1x1x1, .f32⟩
  | 108 => ⟨S64x32, .f32⟩
  | 109 => ⟨S64x8x32x32x32, .f32⟩
  | 110 => ⟨S8x64x32x32x32, .f32⟩
  | 111 => ⟨S8x64x32x32x32, .f32⟩
  | 112 => ⟨S8x32x32x32x32, .f32⟩
  | 113 => ⟨S64x32x1x1x1, .f32⟩
  | 114 => ⟨S64x32, .f32⟩
  | 115 => ⟨S64x8x32x32x32, .f32⟩
  | 116 => ⟨S8x64x32x32x32, .f32⟩
  | 117 => ⟨S8x64x32x32x32, .f32⟩
  | 118 => ⟨S8x32x32x32x32, .f32⟩
  | 119 => ⟨S64x32x1x1x1, .f32⟩
  | 120 => ⟨S64x32, .f32⟩
  | 121 => ⟨S64x8x32x32x32, .f32⟩
  | 122 => ⟨S8x64x32x32x32, .f32⟩
  | 123 => ⟨S8x64x32x32x32, .f32⟩
  | 124 => ⟨S8x32x32x32x32, .f32⟩
  | 125 => ⟨S64x32x1x1x1, .f32⟩
  | 126 => ⟨S64x32, .f32⟩
  | 127 => ⟨S64x8x32x32x32, .f32⟩
  | _ => ⟨S8x1x64x64x64, .f32⟩

abbrev hbmTy0_2 (i : Nat) : BufTy := match i % 128 with
  | 0 => ⟨S8x64x32x32x32, .f32⟩
  | 1 => ⟨S8x64x32x32x32, .f32⟩
  | 2 => ⟨S8x32x32x32x32, .f32⟩
  | 3 => ⟨S64x32x1x1x1, .f32⟩
  | 4 => ⟨S64x32, .f32⟩
  | 5 => ⟨S64x8x32x32x32, .f32⟩
  | 6 => ⟨S8x64x32x32x32, .f32⟩
  | 7 => ⟨S8x64x32x32x32, .f32⟩
  | 8 => ⟨S8x32x32x32x32, .f32⟩
  | 9 => ⟨S64x32x1x1x1, .f32⟩
  | 10 => ⟨S64x32, .f32⟩
  | 11 => ⟨S64x8x32x32x32, .f32⟩
  | 12 => ⟨S8x64x32x32x32, .f32⟩
  | 13 => ⟨S8x64x32x32x32, .f32⟩
  | 14 => ⟨S8x32x32x32x32, .f32⟩
  | 15 => ⟨S64x32x1x1x1, .f32⟩
  | 16 => ⟨S64x32, .f32⟩
  | 17 => ⟨S64x8x32x32x32, .f32⟩
  | 18 => ⟨S8x64x32x32x32, .f32⟩
  | 19 => ⟨S8x64x32x32x32, .f32⟩
  | 20 => ⟨S8x32x32x32x32, .f32⟩
  | 21 => ⟨S64x32x1x1x1, .f32⟩
  | 22 => ⟨S64x32, .f32⟩
  | 23 => ⟨S64x8x32x32x32, .f32⟩
  | 24 => ⟨S8x64x32x32x32, .f32⟩
  | 25 => ⟨S8x64x32x32x32, .f32⟩
  | 26 => ⟨S8x32x32x32x32, .f32⟩
  | 27 => ⟨S64x32x1x1x1, .f32⟩
  | 28 => ⟨S64x32, .f32⟩
  | 29 => ⟨S64x8x32x32x32, .f32⟩
  | 30 => ⟨S8x64x32x32x32, .f32⟩
  | 31 => ⟨S8x64x32x32x32, .f32⟩
  | 32 => ⟨S8x32x32x32x32, .f32⟩
  | 33 => ⟨S64x32x1x1x1, .f32⟩
  | 34 => ⟨S64x32, .f32⟩
  | 35 => ⟨S64x8x32x32x32, .f32⟩
  | 36 => ⟨S8x64x32x32x32, .f32⟩
  | 37 => ⟨S8x64x32x32x32, .f32⟩
  | 38 => ⟨S8x32x32x32x32, .f32⟩
  | 39 => ⟨S64x32x1x1x1, .f32⟩
  | 40 => ⟨S64x32, .f32⟩
  | 41 => ⟨S64x8x32x32x32, .f32⟩
  | 42 => ⟨S8x64x32x32x32, .f32⟩
  | 43 => ⟨S8x64x32x32x32, .f32⟩
  | 44 => ⟨S8x32x32x32x32, .f32⟩
  | 45 => ⟨S64x32x1x1x1, .f32⟩
  | 46 => ⟨S64x32, .f32⟩
  | 47 => ⟨S64x8x32x32x32, .f32⟩
  | 48 => ⟨S8x64x32x32x32, .f32⟩
  | 49 => ⟨S8x64x32x32x32, .f32⟩
  | 50 => ⟨S8x32x32x32x32, .f32⟩
  | 51 => ⟨S64x32x1x1x1, .f32⟩
  | 52 => ⟨S64x32, .f32⟩
  | 53 => ⟨S64x8x32x32x32, .f32⟩
  | 54 => ⟨S8x64x32x32x32, .f32⟩
  | 55 => ⟨S8x64x32x32x32, .f32⟩
  | 56 => ⟨S8x32x32x32x32, .f32⟩
  | 57 => ⟨S64x32x1x1x1, .f32⟩
  | 58 => ⟨S64x32, .f32⟩
  | 59 => ⟨S64x8x32x32x32, .f32⟩
  | 60 => ⟨S8x64x32x32x32, .f32⟩
  | 61 => ⟨S8x64x32x32x32, .f32⟩
  | 62 => ⟨S8x32x32x32x32, .f32⟩
  | 63 => ⟨S64x32x1x1x1, .f32⟩
  | 64 => ⟨S64x32, .f32⟩
  | 65 => ⟨S64x8x32x32x32, .f32⟩
  | 66 => ⟨S8x64x32x32x32, .f32⟩
  | 67 => ⟨S8x64x32x32x32, .f32⟩
  | 68 => ⟨S8x32x32x32x32, .f32⟩
  | 69 => ⟨S64x32x1x1x1, .f32⟩
  | 70 => ⟨S64x32, .f32⟩
  | 71 => ⟨S64x8x32x32x32, .f32⟩
  | 72 => ⟨S8x64x32x32x32, .f32⟩
  | 73 => ⟨S8x64x32x32x32, .f32⟩
  | 74 => ⟨S8x32x32x32x32, .f32⟩
  | 75 => ⟨S64x32x1x1x1, .f32⟩
  | 76 => ⟨S64x32, .f32⟩
  | 77 => ⟨S64x8x32x32x32, .f32⟩
  | 78 => ⟨S8x64x32x32x32, .f32⟩
  | 79 => ⟨S8x64x32x32x32, .f32⟩
  | 80 => ⟨S8x32x32x32x32, .f32⟩
  | 81 => ⟨S64x32x1x1x1, .f32⟩
  | 82 => ⟨S64x32, .f32⟩
  | 83 => ⟨S64x8x32x32x32, .f32⟩
  | 84 => ⟨S8x64x32x32x32, .f32⟩
  | 85 => ⟨S8x64x32x32x32, .f32⟩
  | 86 => ⟨S8x32x32x32x32, .f32⟩
  | 87 => ⟨S64x32x1x1x1, .f32⟩
  | 88 => ⟨S64x32, .f32⟩
  | 89 => ⟨S64x8x32x32x32, .f32⟩
  | 90 => ⟨S8x64x32x32x32, .f32⟩
  | 91 => ⟨S8x64x32x32x32, .f32⟩
  | 92 => ⟨S8x32x32x32x32, .f32⟩
  | 93 => ⟨S64x32x1x1x1, .f32⟩
  | 94 => ⟨S64x32, .f32⟩
  | 95 => ⟨S64x8x32x32x32, .f32⟩
  | 96 => ⟨S8x64x32x32x32, .f32⟩
  | 97 => ⟨S8x64x32x32x32, .f32⟩
  | 98 => ⟨S8x32x32x32x32, .f32⟩
  | 99 => ⟨S64x32x1x1x1, .f32⟩
  | 100 => ⟨S64x32, .f32⟩
  | 101 => ⟨S64x8x32x32x32, .f32⟩
  | 102 => ⟨S8x64x32x32x32, .f32⟩
  | 103 => ⟨S8x64x32x32x32, .f32⟩
  | 104 => ⟨S8x32x32x32x32, .f32⟩
  | 105 => ⟨S64x32x1x1x1, .f32⟩
  | 106 => ⟨S64x32, .f32⟩
  | 107 => ⟨S64x8x32x32x32, .f32⟩
  | 108 => ⟨S8x64x32x32x32, .f32⟩
  | 109 => ⟨S8x64x32x32x32, .f32⟩
  | 110 => ⟨S8x32x32x32x32, .f32⟩
  | 111 => ⟨S64x32x1x1x1, .f32⟩
  | 112 => ⟨S64x32, .f32⟩
  | 113 => ⟨S64x8x32x32x32, .f32⟩
  | 114 => ⟨S8x64x32x32x32, .f32⟩
  | 115 => ⟨S8x64x32x32x32, .f32⟩
  | 116 => ⟨S8x32x32x32x32, .f32⟩
  | 117 => ⟨S64x32x1x1x1, .f32⟩
  | 118 => ⟨S64x32, .f32⟩
  | 119 => ⟨S64x8x32x32x32, .f32⟩
  | 120 => ⟨S8x64x32x32x32, .f32⟩
  | 121 => ⟨S8x64x32x32x32, .f32⟩
  | 122 => ⟨S_, .f32⟩
  | 123 => ⟨S64, .f32⟩
  | 124 => ⟨S1x64x1x1x1, .f32⟩
  | 125 => ⟨S_, .f32⟩
  | 126 => ⟨S1x64x1x1x1, .f32⟩
  | 127 => ⟨S1x64x1x1x1, .f32⟩
  | _ => ⟨S8x1x64x64x64, .f32⟩

abbrev hbmTy0_3 (i : Nat) : BufTy := match i % 128 with
  | 0 => ⟨S8x64x32x32x32, .f32⟩
  | 1 => ⟨S8x64x32x32x32, .f32⟩
  | 2 => ⟨S8x64x32x32x32, .f32⟩
  | 3 => ⟨S_, .f32⟩
  | 4 => ⟨S64, .f32⟩
  | 5 => ⟨S1x64x1x1x1, .f32⟩
  | 6 => ⟨S_, .f32⟩
  | 7 => ⟨S1x64x1x1x1, .f32⟩
  | 8 => ⟨S1x64x1x1x1, .f32⟩
  | 9 => ⟨S8x64x32x32x32, .f32⟩
  | 10 => ⟨S8x64x32x32x32, .f32⟩
  | 11 => ⟨S_, .f32⟩
  | 12 => ⟨S1x64x1x1x1, .f32⟩
  | 13 => ⟨S1x64x1x1x1, .f32⟩
  | 14 => ⟨S1x64x1x1x1, .f32⟩
  | 15 => ⟨S8x64x32x32x32, .f32⟩
  | 16 => ⟨S8x64x32x32x32, .f32⟩
  | 17 => ⟨S1x64x1x1x1, .f32⟩
  | 18 => ⟨S8x64x32x32x32, .f32⟩
  | 19 => ⟨S8x64x32x32x32, .f32⟩
  | 20 => ⟨S1x64x1x1x1, .f32⟩
  | 21 => ⟨S8x64x32x32x32, .f32⟩
  | 22 => ⟨S8x64x32x32x32, .f32⟩
  | 23 => ⟨S_, .f32⟩
  | 24 => ⟨S8x64x32x32x32, .f32⟩
  | 25 => ⟨S8x64x32x32x32, .f32⟩
  | 26 => ⟨S_, .i32⟩
  | 27 => ⟨S_, .f32⟩
  | 28 => ⟨S8x64x34x34x34, .f32⟩
  | 29 => ⟨S_, .f32⟩
  | 30 => ⟨S8x128x16x16x16, .f32⟩
  | 31 => ⟨S8x64x16x16x16, .f32⟩
  | 32 => ⟨S128x64x1x1x1, .f32⟩
  | 33 => ⟨S128x64, .f32⟩
  | 34 => ⟨S128x8x16x16x16, .f32⟩
  | 35 => ⟨S8x128x16x16x16, .f32⟩
  | 36 => ⟨S8x128x16x16x16, .f32⟩
  | 37 => ⟨S8x64x16x16x16, .f32⟩
  | 38 => ⟨S128x64x1x1x1, .f32⟩
  | 39 => ⟨S128x64, .f32⟩
  | 40 => ⟨S128x8x16x16x16, .f32⟩
  | 41 => ⟨S8x128x16x16x16, .f32⟩
  | 42 => ⟨S8x128x16x16x16, .f32⟩
  | 43 => ⟨S8x64x16x16x16, .f32⟩
  | 44 => ⟨S128x64x1x1x1, .f32⟩
  | 45 => ⟨S128x64, .f32⟩
  | 46 => ⟨S128x8x16x16x16, .f32⟩
  | 47 => ⟨S8x128x16x16x16, .f32⟩
  | 48 => ⟨S8x128x16x16x16, .f32⟩
  | 49 => ⟨S8x64x16x16x16, .f32⟩
  | 50 => ⟨S128x64x1x1x1, .f32⟩
  | 51 => ⟨S128x64, .f32⟩
  | 52 => ⟨S128x8x16x16x16, .f32⟩
  | 53 => ⟨S8x128x16x16x16, .f32⟩
  | 54 => ⟨S8x128x16x16x16, .f32⟩
  | 55 => ⟨S8x64x16x16x16, .f32⟩
  | 56 => ⟨S128x64x1x1x1, .f32⟩
  | 57 => ⟨S128x64, .f32⟩
  | 58 => ⟨S128x8x16x16x16, .f32⟩
  | 59 => ⟨S8x128x16x16x16, .f32⟩
  | 60 => ⟨S8x128x16x16x16, .f32⟩
  | 61 => ⟨S8x64x16x16x16, .f32⟩
  | 62 => ⟨S128x64x1x1x1, .f32⟩
  | 63 => ⟨S128x64, .f32⟩
  | 64 => ⟨S128x8x16x16x16, .f32⟩
  | 65 => ⟨S8x128x16x16x16, .f32⟩
  | 66 => ⟨S8x128x16x16x16, .f32⟩
  | 67 => ⟨S8x64x16x16x16, .f32⟩
  | 68 => ⟨S128x64x1x1x1, .f32⟩
  | 69 => ⟨S128x64, .f32⟩
  | 70 => ⟨S128x8x16x16x16, .f32⟩
  | 71 => ⟨S8x128x16x16x16, .f32⟩
  | 72 => ⟨S8x128x16x16x16, .f32⟩
  | 73 => ⟨S8x64x16x16x16, .f32⟩
  | 74 => ⟨S128x64x1x1x1, .f32⟩
  | 75 => ⟨S128x64, .f32⟩
  | 76 => ⟨S128x8x16x16x16, .f32⟩
  | 77 => ⟨S8x128x16x16x16, .f32⟩
  | 78 => ⟨S8x128x16x16x16, .f32⟩
  | 79 => ⟨S8x64x16x16x16, .f32⟩
  | 80 => ⟨S128x64x1x1x1, .f32⟩
  | 81 => ⟨S128x64, .f32⟩
  | 82 => ⟨S128x8x16x16x16, .f32⟩
  | 83 => ⟨S8x128x16x16x16, .f32⟩
  | 84 => ⟨S8x128x16x16x16, .f32⟩
  | 85 => ⟨S8x64x16x16x16, .f32⟩
  | 86 => ⟨S128x64x1x1x1, .f32⟩
  | 87 => ⟨S128x64, .f32⟩
  | 88 => ⟨S128x8x16x16x16, .f32⟩
  | 89 => ⟨S8x128x16x16x16, .f32⟩
  | 90 => ⟨S8x128x16x16x16, .f32⟩
  | 91 => ⟨S8x64x16x16x16, .f32⟩
  | 92 => ⟨S128x64x1x1x1, .f32⟩
  | 93 => ⟨S128x64, .f32⟩
  | 94 => ⟨S128x8x16x16x16, .f32⟩
  | 95 => ⟨S8x128x16x16x16, .f32⟩
  | 96 => ⟨S8x128x16x16x16, .f32⟩
  | 97 => ⟨S8x64x16x16x16, .f32⟩
  | 98 => ⟨S128x64x1x1x1, .f32⟩
  | 99 => ⟨S128x64, .f32⟩
  | 100 => ⟨S128x8x16x16x16, .f32⟩
  | 101 => ⟨S8x128x16x16x16, .f32⟩
  | 102 => ⟨S8x128x16x16x16, .f32⟩
  | 103 => ⟨S8x64x16x16x16, .f32⟩
  | 104 => ⟨S128x64x1x1x1, .f32⟩
  | 105 => ⟨S128x64, .f32⟩
  | 106 => ⟨S128x8x16x16x16, .f32⟩
  | 107 => ⟨S8x128x16x16x16, .f32⟩
  | 108 => ⟨S8x128x16x16x16, .f32⟩
  | 109 => ⟨S8x64x16x16x16, .f32⟩
  | 110 => ⟨S128x64x1x1x1, .f32⟩
  | 111 => ⟨S128x64, .f32⟩
  | 112 => ⟨S128x8x16x16x16, .f32⟩
  | 113 => ⟨S8x128x16x16x16, .f32⟩
  | 114 => ⟨S8x128x16x16x16, .f32⟩
  | 115 => ⟨S8x64x16x16x16, .f32⟩
  | 116 => ⟨S128x64x1x1x1, .f32⟩
  | 117 => ⟨S128x64, .f32⟩
  | 118 => ⟨S128x8x16x16x16, .f32⟩
  | 119 => ⟨S8x128x16x16x16, .f32⟩
  | 120 => ⟨S8x128x16x16x16, .f32⟩
  | 121 => ⟨S8x64x16x16x16, .f32⟩
  | 122 => ⟨S128x64x1x1x1, .f32⟩
  | 123 => ⟨S128x64, .f32⟩
  | 124 => ⟨S128x8x16x16x16, .f32⟩
  | 125 => ⟨S8x128x16x16x16, .f32⟩
  | 126 => ⟨S8x128x16x16x16, .f32⟩
  | 127 => ⟨S8x64x16x16x16, .f32⟩
  | _ => ⟨S8x1x64x64x64, .f32⟩

abbrev hbmTy0_4 (i : Nat) : BufTy := match i % 128 with
  | 0 => ⟨S128x64x1x1x1, .f32⟩
  | 1 => ⟨S128x64, .f32⟩
  | 2 => ⟨S128x8x16x16x16, .f32⟩
  | 3 => ⟨S8x128x16x16x16, .f32⟩
  | 4 => ⟨S8x128x16x16x16, .f32⟩
  | 5 => ⟨S8x64x16x16x16, .f32⟩
  | 6 => ⟨S128x64x1x1x1, .f32⟩
  | 7 => ⟨S128x64, .f32⟩
  | 8 => ⟨S128x8x16x16x16, .f32⟩
  | 9 => ⟨S8x128x16x16x16, .f32⟩
  | 10 => ⟨S8x128x16x16x16, .f32⟩
  | 11 => ⟨S8x64x16x16x16, .f32⟩
  | 12 => ⟨S128x64x1x1x1, .f32⟩
  | 13 => ⟨S128x64, .f32⟩
  | 14 => ⟨S128x8x16x16x16, .f32⟩
  | 15 => ⟨S8x128x16x16x16, .f32⟩
  | 16 => ⟨S8x128x16x16x16, .f32⟩
  | 17 => ⟨S8x64x16x16x16, .f32⟩
  | 18 => ⟨S128x64x1x1x1, .f32⟩
  | 19 => ⟨S128x64, .f32⟩
  | 20 => ⟨S128x8x16x16x16, .f32⟩
  | 21 => ⟨S8x128x16x16x16, .f32⟩
  | 22 => ⟨S8x128x16x16x16, .f32⟩
  | 23 => ⟨S8x64x16x16x16, .f32⟩
  | 24 => ⟨S128x64x1x1x1, .f32⟩
  | 25 => ⟨S128x64, .f32⟩
  | 26 => ⟨S128x8x16x16x16, .f32⟩
  | 27 => ⟨S8x128x16x16x16, .f32⟩
  | 28 => ⟨S8x128x16x16x16, .f32⟩
  | 29 => ⟨S8x64x16x16x16, .f32⟩
  | 30 => ⟨S128x64x1x1x1, .f32⟩
  | 31 => ⟨S128x64, .f32⟩
  | 32 => ⟨S128x8x16x16x16, .f32⟩
  | 33 => ⟨S8x128x16x16x16, .f32⟩
  | 34 => ⟨S8x128x16x16x16, .f32⟩
  | 35 => ⟨S8x64x16x16x16, .f32⟩
  | 36 => ⟨S128x64x1x1x1, .f32⟩
  | 37 => ⟨S128x64, .f32⟩
  | 38 => ⟨S128x8x16x16x16, .f32⟩
  | 39 => ⟨S8x128x16x16x16, .f32⟩
  | 40 => ⟨S8x128x16x16x16, .f32⟩
  | 41 => ⟨S8x64x16x16x16, .f32⟩
  | 42 => ⟨S128x64x1x1x1, .f32⟩
  | 43 => ⟨S128x64, .f32⟩
  | 44 => ⟨S128x8x16x16x16, .f32⟩
  | 45 => ⟨S8x128x16x16x16, .f32⟩
  | 46 => ⟨S8x128x16x16x16, .f32⟩
  | 47 => ⟨S8x64x16x16x16, .f32⟩
  | 48 => ⟨S128x64x1x1x1, .f32⟩
  | 49 => ⟨S128x64, .f32⟩
  | 50 => ⟨S128x8x16x16x16, .f32⟩
  | 51 => ⟨S8x128x16x16x16, .f32⟩
  | 52 => ⟨S8x128x16x16x16, .f32⟩
  | 53 => ⟨S8x64x16x16x16, .f32⟩
  | 54 => ⟨S128x64x1x1x1, .f32⟩
  | 55 => ⟨S128x64, .f32⟩
  | 56 => ⟨S128x8x16x16x16, .f32⟩
  | 57 => ⟨S8x128x16x16x16, .f32⟩
  | 58 => ⟨S8x128x16x16x16, .f32⟩
  | 59 => ⟨S8x64x16x16x16, .f32⟩
  | 60 => ⟨S128x64x1x1x1, .f32⟩
  | 61 => ⟨S128x64, .f32⟩
  | 62 => ⟨S128x8x16x16x16, .f32⟩
  | 63 => ⟨S8x128x16x16x16, .f32⟩
  | 64 => ⟨S8x128x16x16x16, .f32⟩
  | 65 => ⟨S_, .f32⟩
  | 66 => ⟨S128, .f32⟩
  | 67 => ⟨S1x128x1x1x1, .f32⟩
  | 68 => ⟨S_, .f32⟩
  | 69 => ⟨S1x128x1x1x1, .f32⟩
  | 70 => ⟨S1x128x1x1x1, .f32⟩
  | 71 => ⟨S8x128x16x16x16, .f32⟩
  | 72 => ⟨S8x128x16x16x16, .f32⟩
  | 73 => ⟨S8x128x16x16x16, .f32⟩
  | 74 => ⟨S_, .f32⟩
  | 75 => ⟨S128, .f32⟩
  | 76 => ⟨S1x128x1x1x1, .f32⟩
  | 77 => ⟨S_, .f32⟩
  | 78 => ⟨S1x128x1x1x1, .f32⟩
  | 79 => ⟨S1x128x1x1x1, .f32⟩
  | 80 => ⟨S8x128x16x16x16, .f32⟩
  | 81 => ⟨S8x128x16x16x16, .f32⟩
  | 82 => ⟨S_, .f32⟩
  | 83 => ⟨S1x128x1x1x1, .f32⟩
  | 84 => ⟨S1x128x1x1x1, .f32⟩
  | 85 => ⟨S1x128x1x1x1, .f32⟩
  | 86 => ⟨S8x128x16x16x16, .f32⟩
  | 87 => ⟨S8x128x16x16x16, .f32⟩
  | 88 => ⟨S1x128x1x1x1, .f32⟩
  | 89 => ⟨S8x128x16x16x16, .f32⟩
  | 90 => ⟨S8x128x16x16x16, .f32⟩
  | 91 => ⟨S1x128x1x1x1, .f32⟩
  | 92 => ⟨S8x128x16x16x16, .f32⟩
  | 93 => ⟨S8x128x16x16x16, .f32⟩
  | 94 => ⟨S_, .f32⟩
  | 95 => ⟨S8x128x16x16x16, .f32⟩
  | 96 => ⟨S8x128x16x16x16, .f32⟩
  | 97 => ⟨S8x128x1x1x1, .f32⟩
  | 98 => ⟨S8x128, .f32⟩
  | 99 => ⟨S128x256, .f32⟩
  | 100 => ⟨S8x256, .f32⟩
  | 101 => ⟨S1x256, .f32⟩
  | 102 => ⟨S8x256, .f32⟩
  | 103 => ⟨S8x256, .f32⟩
  | _ => ⟨S8x1x64x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x1x64x64x64, .f32⟩

abbrev bufTy : (tb : Table) → Fin (tcTables nBuf tb) → BufTy
  | .hbm, ⟨i, _⟩ => hbmTy i
  | _, _ => ⟨S8x1x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_cst_0 : Ref sig .tc := ⟨.hbm, 179, rfl⟩
abbrev main_v164 : Ref sig .tc := ⟨.hbm, 180, rfl⟩
abbrev main_v165 : Ref sig .tc := ⟨.hbm, 181, rfl⟩
abbrev main_cst_1 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_cst_2 : Ref sig .tc := ⟨.hbm, 188, rfl⟩
abbrev main_v171 : Ref sig .tc := ⟨.hbm, 189, rfl⟩
abbrev main_v172 : Ref sig .tc := ⟨.hbm, 190, rfl⟩
abbrev main_cst_3 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_cst_4 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_cst_5 : Ref sig .tc := ⟨.hbm, 208, rfl⟩
abbrev main_v188 : Ref sig .tc := ⟨.hbm, 209, rfl⟩
abbrev main_v189 : Ref sig .tc := ⟨.hbm, 210, rfl⟩
abbrev main_c_6 : Ref sig .tc := ⟨.hbm, 211, rfl⟩
abbrev main_call1_v0 : Ref sig .tc := ⟨.hbm, 212, rfl⟩
abbrev main_v190 : Ref sig .tc := ⟨.hbm, 213, rfl⟩
abbrev main_cst_7 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_v233 : Ref sig .tc := ⟨.hbm, 257, rfl⟩
abbrev main_v234 : Ref sig .tc := ⟨.hbm, 258, rfl⟩
abbrev main_v235 : Ref sig .tc := ⟨.hbm, 259, rfl⟩
abbrev main_v236 : Ref sig .tc := ⟨.hbm, 260, rfl⟩
abbrev main_v237 : Ref sig .tc := ⟨.hbm, 261, rfl⟩
abbrev main_v238 : Ref sig .tc := ⟨.hbm, 262, rfl⟩
abbrev main_v239 : Ref sig .tc := ⟨.hbm, 263, rfl⟩
abbrev main_v240 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_v244 : Ref sig .tc := ⟨.hbm, 268, rfl⟩
abbrev main_v245 : Ref sig .tc := ⟨.hbm, 269, rfl⟩
abbrev main_v246 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩
abbrev main_v261 : Ref sig .tc := ⟨.hbm, 285, rfl⟩
abbrev main_v262 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev main_v276 : Ref sig .tc := ⟨.hbm, 300, rfl⟩
abbrev main_v277 : Ref sig .tc := ⟨.hbm, 301, rfl⟩
abbrev main_v278 : Ref sig .tc := ⟨.hbm, 302, rfl⟩
abbrev main_v279 : Ref sig .tc := ⟨.hbm, 303, rfl⟩
abbrev main_v280 : Ref sig .tc := ⟨.hbm, 304, rfl⟩
abbrev main_v281 : Ref sig .tc := ⟨.hbm, 305, rfl⟩
abbrev main_v282 : Ref sig .tc := ⟨.hbm, 306, rfl⟩
abbrev main_v283 : Ref sig .tc := ⟨.hbm, 307, rfl⟩
abbrev main_v284 : Ref sig .tc := ⟨.hbm, 308, rfl⟩
abbrev main_v285 : Ref sig .tc := ⟨.hbm, 309, rfl⟩
abbrev main_v286 : Ref sig .tc := ⟨.hbm, 310, rfl⟩
abbrev main_v287 : Ref sig .tc := ⟨.hbm, 311, rfl⟩
abbrev main_v288 : Ref sig .tc := ⟨.hbm, 312, rfl⟩
abbrev main_v289 : Ref sig .tc := ⟨.hbm, 313, rfl⟩
abbrev main_v290 : Ref sig .tc := ⟨.hbm, 314, rfl⟩
abbrev main_v291 : Ref sig .tc := ⟨.hbm, 315, rfl⟩
abbrev main_v292 : Ref sig .tc := ⟨.hbm, 316, rfl⟩
abbrev main_v293 : Ref sig .tc := ⟨.hbm, 317, rfl⟩
abbrev main_v294 : Ref sig .tc := ⟨.hbm, 318, rfl⟩
abbrev main_v295 : Ref sig .tc := ⟨.hbm, 319, rfl⟩
abbrev main_v296 : Ref sig .tc := ⟨.hbm, 320, rfl⟩
abbrev main_v297 : Ref sig .tc := ⟨.hbm, 321, rfl⟩
abbrev main_v298 : Ref sig .tc := ⟨.hbm, 322, rfl⟩
abbrev main_v299 : Ref sig .tc := ⟨.hbm, 323, rfl⟩
abbrev main_v300 : Ref sig .tc := ⟨.hbm, 324, rfl⟩
abbrev main_v301 : Ref sig .tc := ⟨.hbm, 325, rfl⟩
abbrev main_v302 : Ref sig .tc := ⟨.hbm, 326, rfl⟩
abbrev main_v303 : Ref sig .tc := ⟨.hbm, 327, rfl⟩
abbrev main_v304 : Ref sig .tc := ⟨.hbm, 328, rfl⟩
abbrev main_v305 : Ref sig .tc := ⟨.hbm, 329, rfl⟩
abbrev main_v306 : Ref sig .tc := ⟨.hbm, 330, rfl⟩
abbrev main_v307 : Ref sig .tc := ⟨.hbm, 331, rfl⟩
abbrev main_v308 : Ref sig .tc := ⟨.hbm, 332, rfl⟩
abbrev main_v309 : Ref sig .tc := ⟨.hbm, 333, rfl⟩
abbrev main_v310 : Ref sig .tc := ⟨.hbm, 334, rfl⟩
abbrev main_v311 : Ref sig .tc := ⟨.hbm, 335, rfl⟩
abbrev main_v312 : Ref sig .tc := ⟨.hbm, 336, rfl⟩
abbrev main_v313 : Ref sig .tc := ⟨.hbm, 337, rfl⟩
abbrev main_v314 : Ref sig .tc := ⟨.hbm, 338, rfl⟩
abbrev main_v315 : Ref sig .tc := ⟨.hbm, 339, rfl⟩
abbrev main_v316 : Ref sig .tc := ⟨.hbm, 340, rfl⟩
abbrev main_v317 : Ref sig .tc := ⟨.hbm, 341, rfl⟩
abbrev main_v318 : Ref sig .tc := ⟨.hbm, 342, rfl⟩
abbrev main_v319 : Ref sig .tc := ⟨.hbm, 343, rfl⟩
abbrev main_v320 : Ref sig .tc := ⟨.hbm, 344, rfl⟩
abbrev main_v321 : Ref sig .tc := ⟨.hbm, 345, rfl⟩
abbrev main_v322 : Ref sig .tc := ⟨.hbm, 346, rfl⟩
abbrev main_v323 : Ref sig .tc := ⟨.hbm, 347, rfl⟩
abbrev main_v324 : Ref sig .tc := ⟨.hbm, 348, rfl⟩
abbrev main_v325 : Ref sig .tc := ⟨.hbm, 349, rfl⟩
abbrev main_v326 : Ref sig .tc := ⟨.hbm, 350, rfl⟩
abbrev main_v327 : Ref sig .tc := ⟨.hbm, 351, rfl⟩
abbrev main_v328 : Ref sig .tc := ⟨.hbm, 352, rfl⟩
abbrev main_v329 : Ref sig .tc := ⟨.hbm, 353, rfl⟩
abbrev main_v330 : Ref sig .tc := ⟨.hbm, 354, rfl⟩
abbrev main_v331 : Ref sig .tc := ⟨.hbm, 355, rfl⟩
abbrev main_v332 : Ref sig .tc := ⟨.hbm, 356, rfl⟩
abbrev main_v333 : Ref sig .tc := ⟨.hbm, 357, rfl⟩
abbrev main_v334 : Ref sig .tc := ⟨.hbm, 358, rfl⟩
abbrev main_v335 : Ref sig .tc := ⟨.hbm, 359, rfl⟩
abbrev main_v336 : Ref sig .tc := ⟨.hbm, 360, rfl⟩
abbrev main_v337 : Ref sig .tc := ⟨.hbm, 361, rfl⟩
abbrev main_v338 : Ref sig .tc := ⟨.hbm, 362, rfl⟩
abbrev main_v339 : Ref sig .tc := ⟨.hbm, 363, rfl⟩
abbrev main_v340 : Ref sig .tc := ⟨.hbm, 364, rfl⟩
abbrev main_v341 : Ref sig .tc := ⟨.hbm, 365, rfl⟩
abbrev main_v342 : Ref sig .tc := ⟨.hbm, 366, rfl⟩
abbrev main_v343 : Ref sig .tc := ⟨.hbm, 367, rfl⟩
abbrev main_v344 : Ref sig .tc := ⟨.hbm, 368, rfl⟩
abbrev main_v345 : Ref sig .tc := ⟨.hbm, 369, rfl⟩
abbrev main_v346 : Ref sig .tc := ⟨.hbm, 370, rfl⟩
abbrev main_v347 : Ref sig .tc := ⟨.hbm, 371, rfl⟩
abbrev main_v348 : Ref sig .tc := ⟨.hbm, 372, rfl⟩
abbrev main_v349 : Ref sig .tc := ⟨.hbm, 373, rfl⟩
abbrev main_v350 : Ref sig .tc := ⟨.hbm, 374, rfl⟩
abbrev main_v351 : Ref sig .tc := ⟨.hbm, 375, rfl⟩
abbrev main_v352 : Ref sig .tc := ⟨.hbm, 376, rfl⟩
abbrev main_v353 : Ref sig .tc := ⟨.hbm, 377, rfl⟩
abbrev main_cst_8 : Ref sig .tc := ⟨.hbm, 378, rfl⟩
abbrev main_v354 : Ref sig .tc := ⟨.hbm, 379, rfl⟩
abbrev main_v355 : Ref sig .tc := ⟨.hbm, 380, rfl⟩
abbrev main_cst_9 : Ref sig .tc := ⟨.hbm, 381, rfl⟩
abbrev main_v356 : Ref sig .tc := ⟨.hbm, 382, rfl⟩
abbrev main_v357 : Ref sig .tc := ⟨.hbm, 383, rfl⟩
abbrev main_v358 : Ref sig .tc := ⟨.hbm, 384, rfl⟩
abbrev main_v359 : Ref sig .tc := ⟨.hbm, 385, rfl⟩
abbrev main_v360 : Ref sig .tc := ⟨.hbm, 386, rfl⟩
abbrev main_cst_10 : Ref sig .tc := ⟨.hbm, 387, rfl⟩
abbrev main_v361 : Ref sig .tc := ⟨.hbm, 388, rfl⟩
abbrev main_v362 : Ref sig .tc := ⟨.hbm, 389, rfl⟩
abbrev main_cst_11 : Ref sig .tc := ⟨.hbm, 390, rfl⟩
abbrev main_v363 : Ref sig .tc := ⟨.hbm, 391, rfl⟩
abbrev main_v364 : Ref sig .tc := ⟨.hbm, 392, rfl⟩
abbrev main_v365 : Ref sig .tc := ⟨.hbm, 393, rfl⟩
abbrev main_v366 : Ref sig .tc := ⟨.hbm, 394, rfl⟩
abbrev main_cst_12 : Ref sig .tc := ⟨.hbm, 395, rfl⟩
abbrev main_v367 : Ref sig .tc := ⟨.hbm, 396, rfl⟩
abbrev main_v368 : Ref sig .tc := ⟨.hbm, 397, rfl⟩
abbrev main_v369 : Ref sig .tc := ⟨.hbm, 398, rfl⟩
abbrev main_v370 : Ref sig .tc := ⟨.hbm, 399, rfl⟩
abbrev main_v371 : Ref sig .tc := ⟨.hbm, 400, rfl⟩
abbrev main_v372 : Ref sig .tc := ⟨.hbm, 401, rfl⟩
abbrev main_v373 : Ref sig .tc := ⟨.hbm, 402, rfl⟩
abbrev main_v374 : Ref sig .tc := ⟨.hbm, 403, rfl⟩
abbrev main_v375 : Ref sig .tc := ⟨.hbm, 404, rfl⟩
abbrev main_v376 : Ref sig .tc := ⟨.hbm, 405, rfl⟩
abbrev main_v377 : Ref sig .tc := ⟨.hbm, 406, rfl⟩
abbrev main_cst_13 : Ref sig .tc := ⟨.hbm, 407, rfl⟩
abbrev main_v378 : Ref sig .tc := ⟨.hbm, 408, rfl⟩
abbrev main_v379 : Ref sig .tc := ⟨.hbm, 409, rfl⟩
abbrev main_c_14 : Ref sig .tc := ⟨.hbm, 410, rfl⟩
abbrev main_call2_v0 : Ref sig .tc := ⟨.hbm, 411, rfl⟩
abbrev main_v380 : Ref sig .tc := ⟨.hbm, 412, rfl⟩
abbrev main_cst_15 : Ref sig .tc := ⟨.hbm, 413, rfl⟩
abbrev main_v381 : Ref sig .tc := ⟨.hbm, 414, rfl⟩
abbrev main_v382 : Ref sig .tc := ⟨.hbm, 415, rfl⟩
abbrev main_v383 : Ref sig .tc := ⟨.hbm, 416, rfl⟩
abbrev main_v384 : Ref sig .tc := ⟨.hbm, 417, rfl⟩
abbrev main_v385 : Ref sig .tc := ⟨.hbm, 418, rfl⟩
abbrev main_v386 : Ref sig .tc := ⟨.hbm, 419, rfl⟩
abbrev main_v387 : Ref sig .tc := ⟨.hbm, 420, rfl⟩
abbrev main_v388 : Ref sig .tc := ⟨.hbm, 421, rfl⟩
abbrev main_v389 : Ref sig .tc := ⟨.hbm, 422, rfl⟩
abbrev main_v390 : Ref sig .tc := ⟨.hbm, 423, rfl⟩
abbrev main_v391 : Ref sig .tc := ⟨.hbm, 424, rfl⟩
abbrev main_v392 : Ref sig .tc := ⟨.hbm, 425, rfl⟩
abbrev main_v393 : Ref sig .tc := ⟨.hbm, 426, rfl⟩
abbrev main_v394 : Ref sig .tc := ⟨.hbm, 427, rfl⟩
abbrev main_v395 : Ref sig .tc := ⟨.hbm, 428, rfl⟩
abbrev main_v396 : Ref sig .tc := ⟨.hbm, 429, rfl⟩
abbrev main_v397 : Ref sig .tc := ⟨.hbm, 430, rfl⟩
abbrev main_v398 : Ref sig .tc := ⟨.hbm, 431, rfl⟩
abbrev main_v399 : Ref sig .tc := ⟨.hbm, 432, rfl⟩
abbrev main_v400 : Ref sig .tc := ⟨.hbm, 433, rfl⟩
abbrev main_v401 : Ref sig .tc := ⟨.hbm, 434, rfl⟩
abbrev main_v402 : Ref sig .tc := ⟨.hbm, 435, rfl⟩
abbrev main_v403 : Ref sig .tc := ⟨.hbm, 436, rfl⟩
abbrev main_v404 : Ref sig .tc := ⟨.hbm, 437, rfl⟩
abbrev main_v405 : Ref sig .tc := ⟨.hbm, 438, rfl⟩
abbrev main_v406 : Ref sig .tc := ⟨.hbm, 439, rfl⟩
abbrev main_v407 : Ref sig .tc := ⟨.hbm, 440, rfl⟩
abbrev main_v408 : Ref sig .tc := ⟨.hbm, 441, rfl⟩
abbrev main_v409 : Ref sig .tc := ⟨.hbm, 442, rfl⟩
abbrev main_v410 : Ref sig .tc := ⟨.hbm, 443, rfl⟩
abbrev main_v411 : Ref sig .tc := ⟨.hbm, 444, rfl⟩
abbrev main_v412 : Ref sig .tc := ⟨.hbm, 445, rfl⟩
abbrev main_v413 : Ref sig .tc := ⟨.hbm, 446, rfl⟩
abbrev main_v414 : Ref sig .tc := ⟨.hbm, 447, rfl⟩
abbrev main_v415 : Ref sig .tc := ⟨.hbm, 448, rfl⟩
abbrev main_v416 : Ref sig .tc := ⟨.hbm, 449, rfl⟩
abbrev main_v417 : Ref sig .tc := ⟨.hbm, 450, rfl⟩
abbrev main_v418 : Ref sig .tc := ⟨.hbm, 451, rfl⟩
abbrev main_v419 : Ref sig .tc := ⟨.hbm, 452, rfl⟩
abbrev main_v420 : Ref sig .tc := ⟨.hbm, 453, rfl⟩
abbrev main_v421 : Ref sig .tc := ⟨.hbm, 454, rfl⟩
abbrev main_v422 : Ref sig .tc := ⟨.hbm, 455, rfl⟩
abbrev main_v423 : Ref sig .tc := ⟨.hbm, 456, rfl⟩
abbrev main_v424 : Ref sig .tc := ⟨.hbm, 457, rfl⟩
abbrev main_v425 : Ref sig .tc := ⟨.hbm, 458, rfl⟩
abbrev main_v426 : Ref sig .tc := ⟨.hbm, 459, rfl⟩
abbrev main_v427 : Ref sig .tc := ⟨.hbm, 460, rfl⟩
abbrev main_v428 : Ref sig .tc := ⟨.hbm, 461, rfl⟩
abbrev main_v429 : Ref sig .tc := ⟨.hbm, 462, rfl⟩
abbrev main_v430 : Ref sig .tc := ⟨.hbm, 463, rfl⟩
abbrev main_v431 : Ref sig .tc := ⟨.hbm, 464, rfl⟩
abbrev main_v432 : Ref sig .tc := ⟨.hbm, 465, rfl⟩
abbrev main_v433 : Ref sig .tc := ⟨.hbm, 466, rfl⟩
abbrev main_v434 : Ref sig .tc := ⟨.hbm, 467, rfl⟩
abbrev main_v435 : Ref sig .tc := ⟨.hbm, 468, rfl⟩
abbrev main_v436 : Ref sig .tc := ⟨.hbm, 469, rfl⟩
abbrev main_v437 : Ref sig .tc := ⟨.hbm, 470, rfl⟩
abbrev main_v438 : Ref sig .tc := ⟨.hbm, 471, rfl⟩
abbrev main_v439 : Ref sig .tc := ⟨.hbm, 472, rfl⟩
abbrev main_v440 : Ref sig .tc := ⟨.hbm, 473, rfl⟩
abbrev main_v441 : Ref sig .tc := ⟨.hbm, 474, rfl⟩
abbrev main_v442 : Ref sig .tc := ⟨.hbm, 475, rfl⟩
abbrev main_v443 : Ref sig .tc := ⟨.hbm, 476, rfl⟩
abbrev main_v444 : Ref sig .tc := ⟨.hbm, 477, rfl⟩
abbrev main_v445 : Ref sig .tc := ⟨.hbm, 478, rfl⟩
abbrev main_v446 : Ref sig .tc := ⟨.hbm, 479, rfl⟩
abbrev main_v447 : Ref sig .tc := ⟨.hbm, 480, rfl⟩
abbrev main_v448 : Ref sig .tc := ⟨.hbm, 481, rfl⟩
abbrev main_v449 : Ref sig .tc := ⟨.hbm, 482, rfl⟩
abbrev main_v450 : Ref sig .tc := ⟨.hbm, 483, rfl⟩
abbrev main_v451 : Ref sig .tc := ⟨.hbm, 484, rfl⟩
abbrev main_v452 : Ref sig .tc := ⟨.hbm, 485, rfl⟩
abbrev main_v453 : Ref sig .tc := ⟨.hbm, 486, rfl⟩
abbrev main_v454 : Ref sig .tc := ⟨.hbm, 487, rfl⟩
abbrev main_v455 : Ref sig .tc := ⟨.hbm, 488, rfl⟩
abbrev main_v456 : Ref sig .tc := ⟨.hbm, 489, rfl⟩
abbrev main_v457 : Ref sig .tc := ⟨.hbm, 490, rfl⟩
abbrev main_v458 : Ref sig .tc := ⟨.hbm, 491, rfl⟩
abbrev main_v459 : Ref sig .tc := ⟨.hbm, 492, rfl⟩
abbrev main_v460 : Ref sig .tc := ⟨.hbm, 493, rfl⟩
abbrev main_v461 : Ref sig .tc := ⟨.hbm, 494, rfl⟩
abbrev main_v462 : Ref sig .tc := ⟨.hbm, 495, rfl⟩
abbrev main_v463 : Ref sig .tc := ⟨.hbm, 496, rfl⟩
abbrev main_v464 : Ref sig .tc := ⟨.hbm, 497, rfl⟩
abbrev main_v465 : Ref sig .tc := ⟨.hbm, 498, rfl⟩
abbrev main_v466 : Ref sig .tc := ⟨.hbm, 499, rfl⟩
abbrev main_v467 : Ref sig .tc := ⟨.hbm, 500, rfl⟩
abbrev main_v468 : Ref sig .tc := ⟨.hbm, 501, rfl⟩
abbrev main_v469 : Ref sig .tc := ⟨.hbm, 502, rfl⟩
abbrev main_v470 : Ref sig .tc := ⟨.hbm, 503, rfl⟩
abbrev main_v471 : Ref sig .tc := ⟨.hbm, 504, rfl⟩
abbrev main_v472 : Ref sig .tc := ⟨.hbm, 505, rfl⟩
abbrev main_v473 : Ref sig .tc := ⟨.hbm, 506, rfl⟩
abbrev main_v474 : Ref sig .tc := ⟨.hbm, 507, rfl⟩
abbrev main_v475 : Ref sig .tc := ⟨.hbm, 508, rfl⟩
abbrev main_v476 : Ref sig .tc := ⟨.hbm, 509, rfl⟩
abbrev main_v477 : Ref sig .tc := ⟨.hbm, 510, rfl⟩
abbrev main_v478 : Ref sig .tc := ⟨.hbm, 511, rfl⟩
abbrev main_v479 : Ref sig .tc := ⟨.hbm, 512, rfl⟩
abbrev main_v480 : Ref sig .tc := ⟨.hbm, 513, rfl⟩
abbrev main_v481 : Ref sig .tc := ⟨.hbm, 514, rfl⟩
abbrev main_v482 : Ref sig .tc := ⟨.hbm, 515, rfl⟩
abbrev main_v483 : Ref sig .tc := ⟨.hbm, 516, rfl⟩
abbrev main_v484 : Ref sig .tc := ⟨.hbm, 517, rfl⟩
abbrev main_v485 : Ref sig .tc := ⟨.hbm, 518, rfl⟩
abbrev main_v486 : Ref sig .tc := ⟨.hbm, 519, rfl⟩
abbrev main_v487 : Ref sig .tc := ⟨.hbm, 520, rfl⟩
abbrev main_v488 : Ref sig .tc := ⟨.hbm, 521, rfl⟩
abbrev main_v489 : Ref sig .tc := ⟨.hbm, 522, rfl⟩
abbrev main_v490 : Ref sig .tc := ⟨.hbm, 523, rfl⟩
abbrev main_v491 : Ref sig .tc := ⟨.hbm, 524, rfl⟩
abbrev main_v492 : Ref sig .tc := ⟨.hbm, 525, rfl⟩
abbrev main_v493 : Ref sig .tc := ⟨.hbm, 526, rfl⟩
abbrev main_v494 : Ref sig .tc := ⟨.hbm, 527, rfl⟩
abbrev main_v495 : Ref sig .tc := ⟨.hbm, 528, rfl⟩
abbrev main_v496 : Ref sig .tc := ⟨.hbm, 529, rfl⟩
abbrev main_v497 : Ref sig .tc := ⟨.hbm, 530, rfl⟩
abbrev main_v498 : Ref sig .tc := ⟨.hbm, 531, rfl⟩
abbrev main_v499 : Ref sig .tc := ⟨.hbm, 532, rfl⟩
abbrev main_v500 : Ref sig .tc := ⟨.hbm, 533, rfl⟩
abbrev main_v501 : Ref sig .tc := ⟨.hbm, 534, rfl⟩
abbrev main_v502 : Ref sig .tc := ⟨.hbm, 535, rfl⟩
abbrev main_v503 : Ref sig .tc := ⟨.hbm, 536, rfl⟩
abbrev main_v504 : Ref sig .tc := ⟨.hbm, 537, rfl⟩
abbrev main_v505 : Ref sig .tc := ⟨.hbm, 538, rfl⟩
abbrev main_v506 : Ref sig .tc := ⟨.hbm, 539, rfl⟩
abbrev main_v507 : Ref sig .tc := ⟨.hbm, 540, rfl⟩
abbrev main_v508 : Ref sig .tc := ⟨.hbm, 541, rfl⟩
abbrev main_v509 : Ref sig .tc := ⟨.hbm, 542, rfl⟩
abbrev main_v510 : Ref sig .tc := ⟨.hbm, 543, rfl⟩
abbrev main_v511 : Ref sig .tc := ⟨.hbm, 544, rfl⟩
abbrev main_v512 : Ref sig .tc := ⟨.hbm, 545, rfl⟩
abbrev main_v513 : Ref sig .tc := ⟨.hbm, 546, rfl⟩
abbrev main_v514 : Ref sig .tc := ⟨.hbm, 547, rfl⟩
abbrev main_v515 : Ref sig .tc := ⟨.hbm, 548, rfl⟩
abbrev main_v516 : Ref sig .tc := ⟨.hbm, 549, rfl⟩
abbrev main_v517 : Ref sig .tc := ⟨.hbm, 550, rfl⟩
abbrev main_v518 : Ref sig .tc := ⟨.hbm, 551, rfl⟩
abbrev main_v519 : Ref sig .tc := ⟨.hbm, 552, rfl⟩
abbrev main_v520 : Ref sig .tc := ⟨.hbm, 553, rfl⟩
abbrev main_v521 : Ref sig .tc := ⟨.hbm, 554, rfl⟩
abbrev main_v522 : Ref sig .tc := ⟨.hbm, 555, rfl⟩
abbrev main_v523 : Ref sig .tc := ⟨.hbm, 556, rfl⟩
abbrev main_v524 : Ref sig .tc := ⟨.hbm, 557, rfl⟩
abbrev main_v525 : Ref sig .tc := ⟨.hbm, 558, rfl⟩
abbrev main_v526 : Ref sig .tc := ⟨.hbm, 559, rfl⟩
abbrev main_v527 : Ref sig .tc := ⟨.hbm, 560, rfl⟩
abbrev main_v528 : Ref sig .tc := ⟨.hbm, 561, rfl⟩
abbrev main_v529 : Ref sig .tc := ⟨.hbm, 562, rfl⟩
abbrev main_v530 : Ref sig .tc := ⟨.hbm, 563, rfl⟩
abbrev main_v531 : Ref sig .tc := ⟨.hbm, 564, rfl⟩
abbrev main_v532 : Ref sig .tc := ⟨.hbm, 565, rfl⟩
abbrev main_v533 : Ref sig .tc := ⟨.hbm, 566, rfl⟩
abbrev main_v534 : Ref sig .tc := ⟨.hbm, 567, rfl⟩
abbrev main_v535 : Ref sig .tc := ⟨.hbm, 568, rfl⟩
abbrev main_v536 : Ref sig .tc := ⟨.hbm, 569, rfl⟩
abbrev main_v537 : Ref sig .tc := ⟨.hbm, 570, rfl⟩
abbrev main_v538 : Ref sig .tc := ⟨.hbm, 571, rfl⟩
abbrev main_v539 : Ref sig .tc := ⟨.hbm, 572, rfl⟩
abbrev main_v540 : Ref sig .tc := ⟨.hbm, 573, rfl⟩
abbrev main_v541 : Ref sig .tc := ⟨.hbm, 574, rfl⟩
abbrev main_v542 : Ref sig .tc := ⟨.hbm, 575, rfl⟩
abbrev main_v543 : Ref sig .tc := ⟨.hbm, 576, rfl⟩
abbrev main_cst_16 : Ref sig .tc := ⟨.hbm, 577, rfl⟩
abbrev main_v544 : Ref sig .tc := ⟨.hbm, 578, rfl⟩
abbrev main_v545 : Ref sig .tc := ⟨.hbm, 579, rfl⟩
abbrev main_cst_17 : Ref sig .tc := ⟨.hbm, 580, rfl⟩
abbrev main_v546 : Ref sig .tc := ⟨.hbm, 581, rfl⟩
abbrev main_v547 : Ref sig .tc := ⟨.hbm, 582, rfl⟩
abbrev main_v548 : Ref sig .tc := ⟨.hbm, 583, rfl⟩
abbrev main_v549 : Ref sig .tc := ⟨.hbm, 584, rfl⟩
abbrev main_v550 : Ref sig .tc := ⟨.hbm, 585, rfl⟩
abbrev main_cst_18 : Ref sig .tc := ⟨.hbm, 586, rfl⟩
abbrev main_v551 : Ref sig .tc := ⟨.hbm, 587, rfl⟩
abbrev main_v552 : Ref sig .tc := ⟨.hbm, 588, rfl⟩
abbrev main_cst_19 : Ref sig .tc := ⟨.hbm, 589, rfl⟩
abbrev main_v553 : Ref sig .tc := ⟨.hbm, 590, rfl⟩
abbrev main_v554 : Ref sig .tc := ⟨.hbm, 591, rfl⟩
abbrev main_v555 : Ref sig .tc := ⟨.hbm, 592, rfl⟩
abbrev main_v556 : Ref sig .tc := ⟨.hbm, 593, rfl⟩
abbrev main_cst_20 : Ref sig .tc := ⟨.hbm, 594, rfl⟩
abbrev main_v557 : Ref sig .tc := ⟨.hbm, 595, rfl⟩
abbrev main_v558 : Ref sig .tc := ⟨.hbm, 596, rfl⟩
abbrev main_v559 : Ref sig .tc := ⟨.hbm, 597, rfl⟩
abbrev main_v560 : Ref sig .tc := ⟨.hbm, 598, rfl⟩
abbrev main_v561 : Ref sig .tc := ⟨.hbm, 599, rfl⟩
abbrev main_v562 : Ref sig .tc := ⟨.hbm, 600, rfl⟩
abbrev main_v563 : Ref sig .tc := ⟨.hbm, 601, rfl⟩
abbrev main_v564 : Ref sig .tc := ⟨.hbm, 602, rfl⟩
abbrev main_v565 : Ref sig .tc := ⟨.hbm, 603, rfl⟩
abbrev main_v566 : Ref sig .tc := ⟨.hbm, 604, rfl⟩
abbrev main_v567 : Ref sig .tc := ⟨.hbm, 605, rfl⟩
abbrev main_cst_21 : Ref sig .tc := ⟨.hbm, 606, rfl⟩
abbrev main_v568 : Ref sig .tc := ⟨.hbm, 607, rfl⟩
abbrev main_v569 : Ref sig .tc := ⟨.hbm, 608, rfl⟩
abbrev main_v570 : Ref sig .tc := ⟨.hbm, 609, rfl⟩
abbrev main_v571 : Ref sig .tc := ⟨.hbm, 610, rfl⟩
abbrev main_v572 : Ref sig .tc := ⟨.hbm, 611, rfl⟩
abbrev main_v573 : Ref sig .tc := ⟨.hbm, 612, rfl⟩
abbrev main_v574 : Ref sig .tc := ⟨.hbm, 613, rfl⟩
abbrev main_v575 : Ref sig .tc := ⟨.hbm, 614, rfl⟩
abbrev main_v576 : Ref sig .tc := ⟨.hbm, 615, rfl⟩

abbrev nD : Nat := 1
abbrev τ : Topo := Topo.v7x

variable {F : FTy → Type} [FloatOps F]
-- ==== Proof.Ideal.Region0.lean ====
/- The first call: its blocks, its body run at one grid point, and what it leaves. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_body` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 66) — by arithmetic of the point. -/
theorem hcond0_0 : ∀ t : Fin cfg0.N, cond0_0 (grid0.coords t) ↔ t.val % 66 = 0 :=
  (fun t => by
    have ht : t.val < 528 := Nat.lt_of_lt_of_eq t.isLt N_0
    have e0 : (grid0.coords t 0).val = t.val / 66 % 8 := Pipeline.Grid.coords_val t 0 (by decide) rfl
    have e1 : (grid0.coords t 1).val = t.val / 1 % 66 := Pipeline.Grid.coords_val t 1 (by decide) rfl
    simp only [cond0_0, k0_cond1, e0, e1]
    word_cmp
   : ∀ t : Fin grid0.N, cond0_0 (grid0.coords t) ↔ t.val % 66 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — by arithmetic of the point. -/
theorem hcond0_1 : ∀ t : Fin cfg0.N, cond0_1 (grid0.coords t) ↔ 1 ≤ t.val % 66 :=
  (fun t => by
    have ht : t.val < 528 := Nat.lt_of_lt_of_eq t.isLt N_0
    have e0 : (grid0.coords t 0).val = t.val / 66 % 8 := Pipeline.Grid.coords_val t 0 (by decide) rfl
    have e1 : (grid0.coords t 1).val = t.val / 1 % 66 := Pipeline.Grid.coords_val t 1 (by decide) rfl
    simp only [cond0_1, k0_cond2, e0, e1]
    word_cmp
   : ∀ t : Fin grid0.N, cond0_1 (grid0.coords t) ↔ 1 ≤ t.val % 66)

/-! ## Where the windows are idle (the configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an output stored at every point, under no condition). -/
theorem liveAt0_4 : ∀ t : Fin cfg0.N, cfg0.idle 4 (grid0.coords t) = false := fun _ => rfl
/-- Whether output 5's buffer is FRESH at each position `1 ‥ N` — holds nothing the body stored since the region's entry or the
    last write-back (written back at the point before, or idle there and fresh before it) —, as a
    bitmask, bit `n` for position `n + 1`; position 0 is fresh. `freshTab0_5_step` checks it against the configuration's own
    step point by point and `Cfg.fresh_tab` makes it `Cfg.fresh` (`fresh0_5_eq`). -/
def freshTab0_5 : ℕ → Bool
  | 0 => true
  | n + 1 => (0x800000000000000020000000000000000800000000000000020000000000000000800000000000000020000000000000000800000000000000020000000000000000 : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- At the points of case A the configuration (`Cfg.idle`) calls output 5 live: the case stores into it. -/
theorem liveAt0_5_A : ∀ t : Fin cfg0.N, cond0_0 (grid0.coords t) → ¬cond0_1 (grid0.coords t) → cfg0.idle 5 (grid0.coords t) = false := by decide +kernel
/-- At the points of case B the configuration (`Cfg.idle`) calls output 5 live: the case stores into it. -/
theorem liveAt0_5_B : ∀ t : Fin cfg0.N, ¬cond0_0 (grid0.coords t) → cond0_1 (grid0.coords t) → cfg0.idle 5 (grid0.coords t) = false := by decide +kernel
/-- At the points of case B, which keeps output 5's prior contents (reads it before covering, or covers it in part), the
    window's buffer is not FRESH: something was stored into it since the region's entry or its last write-back, idle points
    between or not (`Cfg.fresh`, by the table `freshTab0_5`). -/
theorem notFresh0_5_B : ∀ t : Fin cfg0.N, ¬cond0_0 (grid0.coords t) → cond0_1 (grid0.coords t) → cfg0.fresh 5 t.val = false := by
  intro t; rw [fresh0_5_eq t]; revert t; decide +kernel

/-! ## The kernel body on any staging memrefs: a subtype the run finds -/

/-- One staging buffer of output window 4, through which its contents are stated (`View.read_writes_of_cover`: the
    choice does not matter). -/
abbrev VO0_4 : View sig .tc .vmem S1x1x66x66x32 .f32 := (Memref.whole cc0_stg4_0 : Memref sig .tc .vmem S1x1x66x66x32 .f32).view
/-- One staging buffer of output window 5, through which its contents are stated (`View.read_writes_of_cover`: the
    choice does not matter). -/
abbrev VO0_5 : View sig .tc .vmem S1x2x32 .f32 := (Memref.whole cc0_stg5_0 : Memref sig .tc .vmem S1x2x32 .f32).view
/-- Each window's current staging memref at point `t`, spelled as the pipeline passes it (`bodyAt0`), and its wholeness. -/
abbrev ms0_0 (t : Fin cfg0.N) : Memref sig .tc .vmem S1x1x66x66 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x66x66 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x66x66 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S27x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x66x66x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x32 .f32 := win0_5.stage (cfg0.slots t 5)
abbrev hs0_5 (t : Fin cfg0.N) : (ms0_5 t).IsWhole := hstage0_5 ((cfg0.slots t 5).cast nbuf0_5)

set_option maxHeartbeats 1000000 in
/-- What the body's stores leave in each output's staging memref, as pieces (last first) IN CASE A (`scf.if` 0 taken, `scf.if` 1 not taken: points 0, 66, … 462: 8 of 528), WITH the
    proof that on whole staging memrefs — the inputs' at their contents, the other outputs' at
    anything, the body runs to the continuation holding the inputs' as they were,
    each output's buffer with its pieces written: the functions are their skeletons
    (`Gen.*_eq_skeleton`) — each `scf.if` decided by the case's hypotheses `hc·`; the pieces are
    those the run finds. -/
noncomputable def kernelRun0_A (c : Dev nD) (i : grid0.Coords) (arg2 : Memref sig .tc .vmem S1x1x66x66 .f32) (harg2 : arg2.IsWhole) (arg3 : Memref sig .tc .vmem S1x1x66x66 .f32) (harg3 : arg3.IsWhole) (arg4 : Memref sig .tc .vmem S1x1x66x66 .f32) (harg4 : arg4.IsWhole) (arg5 : Memref sig .tc .vmem S27x32 .f32) (harg5 : arg5.IsWhole) (arg6 : Memref sig .tc .vmem S1x1x66x66x32 .f32) (harg6 : arg6.IsWhole) (arg7 : Memref sig .tc .vmem S1x2x32 .f32) (harg7 : arg7.IsWhole) (hc0 : cond0_0 i) (hc1 : ¬cond0_1 i)
    (x0 : Vec F S1x1x66x66 .f32) (x1 : Vec F S1x1x66x66 .f32) (x2 : Vec F S1x1x66x66 .f32) (x3 : Vec F S27x32 .f32) :
    Σ' (L4 : List (View.Piece (Elt F) S1x1x66x66x32 .f32)), { L5 : List (View.Piece (Elt F) S1x2x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0_body i arg2 harg2 arg3 harg3 arg4 harg4 arg5 harg5 arg6 harg6 arg7 harg7) K } := by
  refine ⟨?_, ?_, fun E K => ?run⟩
  case run =>
    simp only [cc0_body_eq_skeleton]; unfold cc0_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

/-- Case A's pieces for output 4 tile its block (1 store of `S1x1x66x66x32`), so they cover it. -/
theorem cover0_A_4 (c : Dev nD) (i : grid0.Coords) (arg2 : Memref sig .tc .vmem S1x1x66x66 .f32) (harg2 : arg2.IsWhole) (arg3 : Memref sig .tc .vmem S1x1x66x66 .f32) (harg3 : arg3.IsWhole) (arg4 : Memref sig .tc .vmem S1x1x66x66 .f32) (harg4 : arg4.IsWhole) (arg5 : Memref sig .tc .vmem S27x32 .f32) (harg5 : arg5.IsWhole) (arg6 : Memref sig .tc .vmem S1x1x66x66x32 .f32) (harg6 : arg6.IsWhole) (arg7 : Memref sig .tc .vmem S1x2x32 .f32) (harg7 : arg7.IsWhole) (hc0 : cond0_0 i) (hc1 : ¬cond0_1 i)
    (x0 : Vec F S1x1x66x66 .f32) (x1 : Vec F S1x1x66x66 .f32) (x2 : Vec F S1x1x66x66 .f32) (x3 : Vec F S27x32 .f32) (y : S1x1x66x66x32.Idx) :
    ∃ pc ∈ (kernelRun0_A c i arg2 harg2 arg3 harg3 arg4 harg4 arg5 harg5 arg6 harg6 arg7 harg7 hc0 hc1 x0 x1 x2 x3).1, y ∈ pc.1.set :=
  View.cover_of_tiledL (kernelRun0_A c i arg2 harg2 arg3 harg3 arg4 harg4 arg5 harg5 arg6 harg6 arg7 harg7 hc0 hc1 x0 x1 x2 x3).1 S1x1x66x66x32.size (by sl_kernel_rfl) y

/-- What case A leaves in output 4's staging buffer: its pieces read back over junk. -/
def out0_A_4 (c : Dev nD) (i : grid0.Coords) (arg2 : Memref sig .tc .vmem S1x1x66x66 .f32) (harg2 : arg2.IsWhole) (arg3 : Memref sig .tc .vmem S1x1x66x66 .f32) (harg3 : arg3.IsWhole) (arg4 : Memref sig .tc .vmem S1x1x66x66 .f32) (harg4 : arg4.IsWhole) (arg5 : Memref sig .tc .vmem S27x32 .f32) (harg5 : arg5.IsWhole) (arg6 : Memref sig .tc .vmem S1x1x66x66x32 .f32) (harg6 : arg6.IsWhole) (arg7 : Memref sig .tc .vmem S1x2x32 .f32) (harg7 : arg7.IsWhole) (hc0 : cond0_0 i) (hc1 : ¬cond0_1 i)
    (x0 : Vec F S1x1x66x66 .f32) (x1 : Vec F S1x1x66x66 .f32) (x2 : Vec F S1x1x66x66 .f32) (x3 : Vec F S27x32 .f32) : Vec F S1x1x66x66x32 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's pieces for output 5 tile its block (1 store of `S1x2x32`), so they cover it. -/
theorem cover0_A_5 (c : Dev nD) (i : grid0.Coords) (arg2 : Memref sig .tc .vmem S1x1x66x66 .f32) (harg2 : arg2.IsWhole) (arg3 : Memref sig .tc .vmem S1x1x66x66 .f32) (harg3 : arg3.IsWhole) (arg4 : Memref sig .tc .vmem S1x1x66x66 .f32) (harg4 : arg4.IsWhole) (arg5 : Memref sig .tc .vmem S27x32 .f32) (harg5 : arg5.IsWhole) (arg6 : Memref sig .tc .vmem S1x1x66x66x32 .f32) (harg6 : arg6.IsWhole) (arg7 : Memref sig .tc .vmem S1x2x32 .f32) (harg7 : arg7.IsWhole) (hc0 : cond0_0 i) (hc1 : ¬cond0_1 i)
    (x0 : Vec F S1x1x66x66 .f32) (x1 : Vec F S1x1x66x66 .f32) (x2 : Vec F S1x1x66x66 .f32) (x3 : Vec F S27x32 .f32) (y : S1x2x32.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1x2x32.size (by sl_kernel_rfl) y

/-- What case A leaves in output 5's staging buffer: its pieces read back over junk. -/
def out0_A_5 (c : Dev nD) (i : grid0.Coords) (arg2 : Memref sig .tc .vmem S1x1x66x66 .f32) (harg2 : arg2.IsWhole) (arg3 : Memref sig .tc .vmem S1x1x66x66 .f32) (harg3 : arg3.IsWhole) (arg4 : Memref sig .tc .vmem S1x1x66x66 .f32) (harg4 : arg4.IsWhole) (arg5 : Memref sig .tc .vmem S27x32 .f32) (harg5 : arg5.IsWhole) (arg6 : Memref sig .tc .vmem S1x1x66x66x32 .f32) (harg6 : arg6.IsWhole) (arg7 : Memref sig .tc .vmem S1x2x32 .f32) (harg7 : arg7.IsWhole) (hc0 : cond0_0 i) (hc1 : ¬cond0_1 i)
    (x0 : Vec F S1x1x66x66 .f32) (x1 : Vec F S1x1x66x66 .f32) (x2 : Vec F S1x1x66x66 .f32) (x3 : Vec F S27x32 .f32) : Vec F S1x2x32 .f32 :=
  VO0_5.read (Elt F) (VO0_5.writes (Elt F) VO0_5.junk (kernelRun0_A c i arg2 harg2 arg3 harg3 arg4 harg4 arg5 harg5 arg6 harg6 arg7 harg7 hc0 hc1 x0 x1 x2 x3).2.1)

set_option maxHeartbeats 1000000 in
/-- What the body's stores leave in each output's staging memref, as pieces (last first) IN CASE B (`scf.if` 0 not taken, `scf.if` 1 taken: points 1, 2, … 527: 520 of 528), WITH the
    proof that on whole staging memrefs — the inputs' at their contents, the outputs it reads before covering (5) at their running contents `xo·`, the other outputs' at
    anything, the body runs to the continuation holding the inputs' as they were,
    each output's buffer with its pieces written: the functions are their skeletons
    (`Gen.*_eq_skeleton`) — each `scf.if` decided by the case's hypotheses `hc·`; the pieces are
    those the run finds. -/
noncomputable def kernelRun0_B (c : Dev nD) (i : grid0.Coords) (arg2 : Memref sig .tc .vmem S1x1x66x66 .f32) (harg2 : arg2.IsWhole) (arg3 : Memref sig .tc .vmem S1x1x66x66 .f32) (harg3 : arg3.IsWhole) (arg4 : Memref sig .tc .vmem S1x1x66x66 .f32) (harg4 : arg4.IsWhole) (arg5 : Memref sig .tc .vmem S27x32 .f32) (harg5 : arg5.IsWhole) (arg6 : Memref sig .tc .vmem S1x1x66x66x32 .f32) (harg6 : arg6.IsWhole) (arg7 : Memref sig .tc .vmem S1x2x32 .f32) (harg7 : arg7.IsWhole) (hc0 : ¬cond0_0 i) (hc1 : cond0_1 i)
    (x0 : Vec F S1x1x66x66 .f32) (x1 : Vec F S1x1x66x66 .f32) (x2 : Vec F S1x1x66x66 .f32) (x3 : Vec F S27x32 .f32) (xo5 : Vec F S1x2x32 .f32) :
    Σ' (L4 : List (View.Piece (Elt F) S1x1x66x66x32 .f32)), { L5 : List (View.Piece (Elt F) S1x2x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0_body i arg2 harg2 arg3 harg3 arg4 harg4 arg5 harg5 arg6 harg6 arg7 harg7) K } := by
  refine ⟨?_, ?_, fun E K => ?run⟩
  case run =>
    simp only [cc0_body_eq_skeleton]; unfold cc0_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1; obtain rfl := harg4.eq_unread hf2; obtain rfl := harg5.eq_unread hf3; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact H5

/-- Case B's pieces for output 4 tile its block (1 store of `S1x1x66x66x32`), so they cover it. -/
theorem cover0_B_4 (c : Dev nD) (i : grid0.Coords) (arg2 : Memref sig .tc .vmem S1x1x66x66 .f32) (harg2 : arg2.IsWhole) (arg3 : Memref sig .tc .vmem S1x1x66x66 .f32) (harg3 : arg3.IsWhole) (arg4 : Memref sig .tc .vmem S1x1x66x66 .f32) (harg4 : arg4.IsWhole) (arg5 : Memref sig .tc .vmem S27x32 .f32) (harg5 : arg5.IsWhole) (arg6 : Memref sig .tc .vmem S1x1x66x66x32 .f32) (harg6 : arg6.IsWhole) (arg7 : Memref sig .tc .vmem S1x2x32 .f32) (harg7 : arg7.IsWhole) (hc0 : ¬cond0_0 i) (hc1 : cond0_1 i)
    (x0 : Vec F S1x1x66x66 .f32) (x1 : Vec F S1x1x66x66 .f32) (x2 : Vec F S1x1x66x66 .f32) (x3 : Vec F S27x32 .f32) (xo5 : Vec F S1x2x32 .f32) (y : S1x1x66x66x32.Idx) :
    ∃ pc ∈ (kernelRun0_B c i arg2 harg2 arg3 harg3 arg4 harg4 arg5 harg5 arg6 harg6 arg7 harg7 hc0 hc1 x0 x1 x2 x3 xo5).1, y ∈ pc.1.set :=
  View.cover_of_tiledL (kernelRun0_B c i arg2 harg2 arg3 harg3 arg4 harg4 arg5 harg5 arg6 harg6 arg7 harg7 hc0 hc1 x0 x1 x2 x3 xo5).1 S1x1x66x66x32.size (by sl_kernel_rfl) y

/-- What case B leaves in output 4's staging buffer: its pieces read back over junk. -/
def out0_B_4 (c : Dev nD) (i : grid0.Coords) (arg2 : Memref sig .tc .vmem S1x1x66x66 .f32) (harg2 : arg2.IsWhole) (arg3 : Memref sig .tc .vmem S1x1x66x66 .f32) (harg3 : arg3.IsWhole) (arg4 : Memref sig .tc .vmem S1x1x66x66 .f32) (harg4 : arg4.IsWhole) (arg5 : Memref sig .tc .vmem S27x32 .f32) (harg5 : arg5.IsWhole) (arg6 : Memref sig .tc .vmem S1x1x66x66x32 .f32) (harg6 : arg6.IsWhole) (arg7 : Memref sig .tc .vmem S1x2x32 .f32) (harg7 : arg7.IsWhole) (hc0 : ¬cond0_0 i) (hc1 : cond0_1 i)
    (x0 : Vec F S1x1x66x66 .f32) (x1 : Vec F S1x1x66x66 .f32) (x2 : Vec F S1x1x66x66 .f32) (x3 : Vec F S27x32 .f32) (xo5 : Vec F S1x2x32 .f32) : Vec F S1x1x66x66x32 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xo5).1)

/-- Case B's pieces for output 5 tile its block (1 store of `S1x2x32`), so they cover it. -/
theorem cover0_B_5 (c : Dev nD) (i : grid0.Coords) (arg2 : Memref sig .tc .vmem S1x1x66x66 .f32) (harg2 : arg2.IsWhole) (arg3 : Memref sig .tc .vmem S1x1x66x66 .f32) (harg3 : arg3.IsWhole) (arg4 : Memref sig .tc .vmem S1x1x66x66 .f32) (harg4 : arg4.IsWhole) (arg5 : Memref sig .tc .vmem S27x32 .f32) (harg5 : arg5.IsWhole) (arg6 : Memref sig .tc .vmem S1x1x66x66x32 .f32) (harg6 : arg6.IsWhole) (arg7 : Memref sig .tc .vmem S1x2x32 .f32) (harg7 : arg7.IsWhole) (hc0 : ¬cond0_0 i) (hc1 : cond0_1 i)
    (x0 : Vec F S1x1x66x66 .f32) (x1 : Vec F S1x1x66x66 .f32) (x2 : Vec F S1x1x66x66 .f32) (x3 : Vec F S27x32 .f32) (xo5 : Vec F S1x2x32 .f32) (y : S1x2x32.Idx) :
    ∃ pc ∈ (kernelRun0_B c i arg2 harg2 arg3 harg3 arg4 harg4 arg5 harg5 arg6 harg6 arg7 harg7 hc0 hc1 x0 x1 x2 x3 xo5).2.1, y ∈ pc.1.set :=
  View.cover_of_tiledL (kernelRun0_B c i arg2 harg2 arg3 harg3 arg4 harg4 arg5 harg5 arg6 harg6 arg7 harg7 hc0 hc1 x0 x1 x2 x3 xo5).2.1 S1x2x32.size (by sl_kernel_rfl) y

/-- What case B leaves in output 5's staging buffer: its pieces read back over junk. -/
def out0_B_5 (c : Dev nD) (i : grid0.Coords) (arg2 : Memref sig .tc .vmem S1x1x66x66 .f32) (harg2 : arg2.IsWhole) (arg3 : Memref sig .tc .vmem S1x1x66x66 .f32) (harg3 : arg3.IsWhole) (arg4 : Memref sig .tc .vmem S1x1x66x66 .f32) (harg4 : arg4.IsWhole) (arg5 : Memref sig .tc .vmem S27x32 .f32) (harg5 : arg5.IsWhole) (arg6 : Memref sig .tc .vmem S1x1x66x66x32 .f32) (harg6 : arg6.IsWhole) (arg7 : Memref sig .tc .vmem S1x2x32 .f32) (harg7 : arg7.IsWhole) (hc0 : ¬cond0_0 i) (hc1 : cond0_1 i)
    (x0 : Vec F S1x1x66x66 .f32) (x1 : Vec F S1x1x66x66 .f32) (x2 : Vec F S1x1x66x66 .f32) (x3 : Vec F S27x32 .f32) (xo5 : Vec F S1x2x32 .f32) : Vec F S1x2x32 .f32 :=
  VO0_5.read (Elt F) (VO0_5.writes (Elt F) VO0_5.junk (kernelRun0_B c i arg2 harg2 arg3 harg3 arg4 harg4 arg5 harg5 arg6 harg6 arg7 harg7 hc0 hc1 x0 x1 x2 x3 xo5).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1x1x66x66x32 .f32 × Vec F S1x2x32 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 66 = 0 then
      if h1 : 1 ≤ (n + 1) % 66 then
        False.elim (by have hN : n + 1 < 528 := lt_of_lt_of_eq hn (show cfg0.N = 528 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : 1 ≤ (n + 1) % 66 then
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        False.elim (by have hN : n + 1 < 528 := lt_of_lt_of_eq hn (show cfg0.N = 528 from N_0); omega)

/-- `outsAt0` at a point of case A: that case's contents. -/
theorem outsAt0_A (c : Dev nD) (t : Fin cfg0.N) (h0 : t.val % 66 = 0) (h1 : ¬1 ≤ t.val % 66) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 66 = 0) (h1 : 1 ≤ t.val % 66) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 0 on core `c`: the arrays as the region finds them (`V`); after the body at
    point `t` each input's buffer at its block and the outputs' at `outsAt0`; the invariant
    (`ΦA`: the scoped rest and the generator register); nothing owed; each input's share of its array
    (`Pipeline.shareOf`: the full share of an array several windows stage, dealt among them). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2
  Φ _ := Pipeline.ΦA spec0 c
  q w := Pipeline.shareOf spec0 w
  owed _ := 0

/-- The proof data's arrays are the region-entry contents, by the definition. -/
theorem A_eq0 (c : Dev nD) (w : Fin cfg0.W) : (dat0 V c).A w = V c (Pipeline.arrRef spec0 w) := by
  dsimp only [dat0]

/-- What the body leaves, window bywindow. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- Output 5's contents CARRY through the points that leave it idle: at such a point, its buffer not fresh, the proof data's
    `after` is the point before's (the case there stores nothing into the window and its term says so; a case that stores
    into it is not idle there by `liveAt0_5_κ`) — the hypothesis of `Dat.before_out_traj`. -/
theorem hcarry0_5 (c : Dev nD) : ∀ (t : Fin cfg0.N) (_ : t.val ≠ 0), cfg0.idle 5 (grid0.coords t) = true → cfg0.fresh 5 t.val = false →
    (dat0 V c).after 5 t = (dat0 V c).after 5 ⟨t.val - 1, by omega⟩ := by
  intro t _ hi _
  have hN : t.val < 528 := lt_of_lt_of_eq t.isLt (show cfg0.N = 528 from N_0)
  rw [after0_5, after0_5]
  by_cases h0 : t.val % 66 = 0
  · by_cases h1 : 1 ≤ t.val % 66
    · exfalso; omega
    · rw [liveAt0_5_A t ((hcond0_0 t).mpr h0) (fun h => h1 ((hcond0_1 t).mp h))] at hi
      exact absurd hi Bool.false_ne_true
  · by_cases h1 : 1 ≤ t.val % 66
    · rw [liveAt0_5_B t (fun h => h0 ((hcond0_0 t).mp h)) ((hcond0_1 t).mpr h1)] at hi
      exact absurd hi Bool.false_ne_true
    · exfalso; omega
/-- At a point of case B output 5's current staging buffer holds what the point before left: the buffer is not fresh
    there (`notFresh0_5_B`: stored into since the region's entry or the last write-back, carried through the points that
    leave it idle by `hcarry0_5`; `Dat.before_out_traj`). -/
theorem before0_5_B (c : Dev nD) (t : Fin cfg0.N) (h0 : ¬t.val % 66 = 0) (h1 : 1 ≤ t.val % 66) (d) :
    (dat0 V c).before 5 t d = (outsAt0 V c (t.val - 1) (Nat.lt_of_le_of_lt (Nat.sub_le _ _) t.isLt)).2 := by
  rw [Dat.before_out_traj _ 5 rfl (fun _ _ => rfl) (hcarry0_5 V c) t.val t rfl d,
    if_neg (by rw [notFresh0_5_B t (fun h => h0 ((hcond0_0 t).mp h)) ((hcond0_1 t).mpr h1)]; exact Bool.false_ne_true)]
  dsimp only [dat0]

/-! ## The body obligation, at a generic point -/

/-- What the body is called with at point `t` (`BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl]
  have hN : t.val < 528 := lt_of_lt_of_eq t.isLt (show cfg0.N = 528 from N_0)
  by_cases h0 : t.val % 66 = 0
  · by_cases h1 : 1 ≤ t.val % 66
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5_A t ((hcond0_0 t).mpr h0) (fun h => h1 ((hcond0_1 t).mp h))], after0_5]
      rw [outsAt0_A V c t h0 h1]
      unfold out0_A_4 out0_A_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _)
  · by_cases h1 : 1 ≤ t.val % 66
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5_B t (fun h => h0 ((hcond0_0 t).mp h)) ((hcond0_1 t).mpr h1)], after0_5]
      rw [outsAt0_B V c t h0 h1]
      simp only [before0_5_B V c t h0 h1]
      unfold out0_B_4 out0_B_5; (try dsimp only)
      iintro ⟨HΦ, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [H5]; · iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _)
      unfold owns; iexists _; isplitr
      swap; · iexact H5
      ipureintro; exact View.read_writes_of_cover _ _ _ _ _ (cover0_B_5 c _ _ _ _ _ _ _ _ _ _ _ _ _ _ _ _ _ _ _ _)
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.Ideal.Region1.lean ====
/- The second call: its blocks, its body run at one grid point, and what it leaves. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_body` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the points ≡ 0 (mod 34) — by arithmetic of the point. -/
theorem hcond1_0 : ∀ t : Fin cfg1.N, cond1_0 (grid1.coords t) ↔ t.val % 34 = 0 :=
  (fun t => by
    have ht : t.val < 272 := Nat.lt_of_lt_of_eq t.isLt N_1
    have e0 : (grid1.coords t 0).val = t.val / 34 % 8 := Pipeline.Grid.coords_val t 0 (by decide) rfl
    have e1 : (grid1.coords t 1).val = t.val / 1 % 34 := Pipeline.Grid.coords_val t 1 (by decide) rfl
    simp only [cond1_0, k1_cond1, e0, e1]
    word_cmp
   : ∀ t : Fin grid1.N, cond1_0 (grid1.coords t) ↔ t.val % 34 = 0)

/-- The condition of the body's `scf.if` 1 (`k1_h2`), from the grid coordinates (the skeleton's scalar
    chain substituted). -/
abbrev cond1_1 (i : grid1.Coords) : Prop := k1_cond2 i = 1#1
/-- It holds at the points whose coordinates have 1 ≤ i1 — by arithmetic of the point. -/
theorem hcond1_1 : ∀ t : Fin cfg1.N, cond1_1 (grid1.coords t) ↔ 1 ≤ t.val % 34 :=
  (fun t => by
    have ht : t.val < 272 := Nat.lt_of_lt_of_eq t.isLt N_1
    have e0 : (grid1.coords t 0).val = t.val / 34 % 8 := Pipeline.Grid.coords_val t 0 (by decide) rfl
    have e1 : (grid1.coords t 1).val = t.val / 1 % 34 := Pipeline.Grid.coords_val t 1 (by decide) rfl
    simp only [cond1_1, k1_cond2, e0, e1]
    word_cmp
   : ∀ t : Fin grid1.N, cond1_1 (grid1.coords t) ↔ 1 ≤ t.val % 34)

/-! ## Where the windows are idle (the configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an output stored at every point, under no condition). -/
theorem liveAt1_6 : ∀ t : Fin cfg1.N, cfg1.idle 6 (grid1.coords t) = false := fun _ => rfl
/-- Whether output 7's buffer is FRESH at each position `1 ‥ N` — holds nothing the body stored since the region's entry or the
    last write-back (written back at the point before, or idle there and fresh before it) —, as a
    bitmask, bit `n` for position `n + 1`; position 0 is fresh. `freshTab1_7_step` checks it against the configuration's own
    step point by point and `Cfg.fresh_tab` makes it `Cfg.fresh` (`fresh1_7_eq`). -/
def freshTab1_7 : ℕ → Bool
  | 0 => true
  | n + 1 => (0x80000000200000000800000002000000008000000020000000080000000200000000 : ℕ).testBit n
theorem freshTab1_7_step : ∀ t : Fin cfg1.N,
    freshTab1_7 (t.val + 1) = ((cfg1.win 7).flush t || (cfg1.idle 7 (cfg1.grid.coords t) && freshTab1_7 t.val)) := by decide +kernel
theorem fresh1_7_eq (t : Fin cfg1.N) : cfg1.fresh 7 t.val = freshTab1_7 t.val :=
  Pipeline.Cfg.fresh_tab cfg1 7 freshTab1_7 rfl freshTab1_7_step t.val (Nat.le_of_lt t.isLt)
/-- At the points of case A the configuration (`Cfg.idle`) calls output 7 live: the case stores into it. -/
theorem liveAt1_7_A : ∀ t : Fin cfg1.N, cond1_0 (grid1.coords t) → ¬cond1_1 (grid1.coords t) → cfg1.idle 7 (grid1.coords t) = false := by decide +kernel
/-- At the points of case B the configuration (`Cfg.idle`) calls output 7 live: the case stores into it. -/
theorem liveAt1_7_B : ∀ t : Fin cfg1.N, ¬cond1_0 (grid1.coords t) → cond1_1 (grid1.coords t) → cfg1.idle 7 (grid1.coords t) = false := by decide +kernel
/-- At the points of case B, which keeps output 7's prior contents (reads it before covering, or covers it in part), the
    window's buffer is not FRESH: something was stored into it since the region's entry or its last write-back, idle points
    between or not (`Cfg.fresh`, by the table `freshTab1_7`). -/
theorem notFresh1_7_B : ∀ t : Fin cfg1.N, ¬cond1_0 (grid1.coords t) → cond1_1 (grid1.coords t) → cfg1.fresh 7 t.val = false := by
  intro t; rw [fresh1_7_eq t]; revert t; decide +kernel

/-! ## The kernel body on any staging memrefs: a subtype the run finds -/

/-- One staging buffer of output window 6, through which its contents are stated (`View.read_writes_of_cover`: the
    choice does not matter). -/
abbrev VO1_6 : View sig .tc .vmem S1x1x34x34x64 .f32 := (Memref.whole cc1_stg6_0 : Memref sig .tc .vmem S1x1x34x34x64 .f32).view
/-- One staging buffer of output window 7, through which its contents are stated (`View.read_writes_of_cover`: the
    choice does not matter). -/
abbrev VO1_7 : View sig .tc .vmem S1x2x64 .f32 := (Memref.whole cc1_stg7_0 : Memref sig .tc .vmem S1x2x64 .f32).view
/-- Each window's current staging memref at point `t`, spelled as the pipeline passes it (`bodyAt1`), and its wholeness. -/
abbrev ms1_0 (t : Fin cfg1.N) : Memref sig .tc .vmem S1x1x66x66x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x66x66x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x66x66x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x32 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x32 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S3x3x3x32x64 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x34x34x64 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x2x64 .f32 := win1_7.stage (cfg1.slots t 7)
abbrev hs1_7 (t : Fin cfg1.N) : (ms1_7 t).IsWhole := hstage1_7 ((cfg1.slots t 7).cast nbuf1_7)

set_option maxHeartbeats 1000000 in
/-- What the body's stores leave in each output's staging memref, as pieces (last first) IN CASE A (`scf.if` 0 taken, `scf.if` 1 not taken: points 0, 34, … 238: 8 of 272), WITH the
    proof that on whole staging memrefs — the inputs' at their contents, the other outputs' at
    anything, the body runs to the continuation holding the inputs' as they were,
    each output's buffer with its pieces written: the functions are their skeletons
    (`Gen.*_eq_skeleton`) — each `scf.if` decided by the case's hypotheses `hc·`; the pieces are
    those the run finds. -/
noncomputable def kernelRun1_A (c : Dev nD) (i : grid1.Coords) (arg2 : Memref sig .tc .vmem S1x1x66x66x32 .f32) (harg2 : arg2.IsWhole) (arg3 : Memref sig .tc .vmem S1x1x66x66x32 .f32) (harg3 : arg3.IsWhole) (arg4 : Memref sig .tc .vmem S1x1x66x66x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S3x3x3x32x64 .f32) (harg7 : arg7.IsWhole) (arg8 : Memref sig .tc .vmem S1x1x34x34x64 .f32) (harg8 : arg8.IsWhole) (arg9 : Memref sig .tc .vmem S1x2x64 .f32) (harg9 : arg9.IsWhole) (hc0 : cond1_0 i) (hc1 : ¬cond1_1 i)
    (x0 : Vec F S1x1x66x66x32 .f32) (x1 : Vec F S1x1x66x66x32 .f32) (x2 : Vec F S1x1x66x66x32 .f32) (x3 : Vec F S1x32 .f32) (x4 : Vec F S1x32 .f32) (x5 : Vec F S3x3x3x32x64 .f32) :
    Σ' (L6 : List (View.Piece (Elt F) S1x1x34x34x64 .f32)), { L7 : List (View.Piece (Elt F) S1x2x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc1_body i arg2 harg2 arg3 harg3 arg4 harg4 arg5 harg5 arg6 harg6 arg7 harg7 arg8 harg8 arg9 harg9) K } := by
  refine ⟨?_, ?_, fun E K => ?run⟩
  case run =>
    simp only [cc1_body_eq_skeleton]; unfold cc1_body_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

/-- Case A's pieces for output 6 tile its block (1 store of `S1x1x34x34x64`), so they cover it. -/
theorem cover1_A_6 (c : Dev nD) (i : grid1.Coords) (arg2 : Memref sig .tc .vmem S1x1x66x66x32 .f32) (harg2 : arg2.IsWhole) (arg3 : Memref sig .tc .vmem S1x1x66x66x32 .f32) (harg3 : arg3.IsWhole) (arg4 : Memref sig .tc .vmem S1x1x66x66x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S3x3x3x32x64 .f32) (harg7 : arg7.IsWhole) (arg8 : Memref sig .tc .vmem S1x1x34x34x64 .f32) (harg8 : arg8.IsWhole) (arg9 : Memref sig .tc .vmem S1x2x64 .f32) (harg9 : arg9.IsWhole) (hc0 : cond1_0 i) (hc1 : ¬cond1_1 i)
    (x0 : Vec F S1x1x66x66x32 .f32) (x1 : Vec F S1x1x66x66x32 .f32) (x2 : Vec F S1x1x66x66x32 .f32) (x3 : Vec F S1x32 .f32) (x4 : Vec F S1x32 .f32) (x5 : Vec F S3x3x3x32x64 .f32) (y : S1x1x34x34x64.Idx) :
    ∃ pc ∈ (kernelRun1_A c i arg2 harg2 arg3 harg3 arg4 harg4 arg5 harg5 arg6 harg6 arg7 harg7 arg8 harg8 arg9 harg9 hc0 hc1 x0 x1 x2 x3 x4 x5).1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).1 S1x1x34x34x64.size (by sl_kernel_rfl) y

/-- What case A leaves in output 6's staging buffer: its pieces read back over junk. -/
def out1_A_6 (c : Dev nD) (i : grid1.Coords) (arg2 : Memref sig .tc .vmem S1x1x66x66x32 .f32) (harg2 : arg2.IsWhole) (arg3 : Memref sig .tc .vmem S1x1x66x66x32 .f32) (harg3 : arg3.IsWhole) (arg4 : Memref sig .tc .vmem S1x1x66x66x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S3x3x3x32x64 .f32) (harg7 : arg7.IsWhole) (arg8 : Memref sig .tc .vmem S1x1x34x34x64 .f32) (harg8 : arg8.IsWhole) (arg9 : Memref sig .tc .vmem S1x2x64 .f32) (harg9 : arg9.IsWhole) (hc0 : cond1_0 i) (hc1 : ¬cond1_1 i)
    (x0 : Vec F S1x1x66x66x32 .f32) (x1 : Vec F S1x1x66x66x32 .f32) (x2 : Vec F S1x1x66x66x32 .f32) (x3 : Vec F S1x32 .f32) (x4 : Vec F S1x32 .f32) (x5 : Vec F S3x3x3x32x64 .f32) : Vec F S1x1x34x34x64 .f32 :=
  VO1_6.read (Elt F) (VO1_6.writes (Elt F) VO1_6.junk (kernelRun1_A c i arg2 harg2 arg3 harg3 arg4 harg4 arg5 harg5 arg6 harg6 arg7 harg7 arg8 harg8 arg9 harg9 hc0 hc1 x0 x1 x2 x3 x4 x5).1)

/-- Case A's pieces for output 7 tile its block (1 store of `S1x2x64`), so they cover it. -/
theorem cover1_A_7 (c : Dev nD) (i : grid1.Coords) (arg2 : Memref sig .tc .vmem S1x1x66x66x32 .f32) (harg2 : arg2.IsWhole) (arg3 : Memref sig .tc .vmem S1x1x66x66x32 .f32) (harg3 : arg3.IsWhole) (arg4 : Memref sig .tc .vmem S1x1x66x66x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S3x3x3x32x64 .f32) (harg7 : arg7.IsWhole) (arg8 : Memref sig .tc .vmem S1x1x34x34x64 .f32) (harg8 : arg8.IsWhole) (arg9 : Memref sig .tc .vmem S1x2x64 .f32) (harg9 : arg9.IsWhole) (hc0 : cond1_0 i) (hc1 : ¬cond1_1 i)
    (x0 : Vec F S1x1x66x66x32 .f32) (x1 : Vec F S1x1x66x66x32 .f32) (x2 : Vec F S1x1x66x66x32 .f32) (x3 : Vec F S1x32 .f32) (x4 : Vec F S1x32 .f32) (x5 : Vec F S3x3x3x32x64 .f32) (y : S1x2x64.Idx) :
    ∃ pc ∈ (kernelRun1_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 hc0 hc1 x0 x1 x2 x3 x4 x5).2.1 S1x2x64.size (by sl_kernel_rfl) y

/-- What case A leaves in output 7's staging buffer: its pieces read back over junk. -/
def out1_A_7 (c : Dev nD) (i : grid1.Coords) (arg2 : Memref sig .tc .vmem S1x1x66x66x32 .f32) (harg2 : arg2.IsWhole) (arg3 : Memref sig .tc .vmem S1x1x66x66x32 .f32) (harg3 : arg3.IsWhole) (arg4 : Memref sig .tc .vmem S1x1x66x66x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S3x3x3x32x64 .f32) (harg7 : arg7.IsWhole) (arg8 : Memref sig .tc .vmem S1x1x34x34x64 .f32) (harg8 : arg8.IsWhole) (arg9 : Memref sig .tc .vmem S1x2x64 .f32) (harg9 : arg9.IsWhole) (hc0 : cond1_0 i) (hc1 : ¬cond1_1 i)
    (x0 : Vec F S1x1x66x66x32 .f32) (x1 : Vec F S1x1x66x66x32 .f32) (x2 : Vec F S1x1x66x66x32 .f32) (x3 : Vec F S1x32 .f32) (x4 : Vec F S1x32 .f32) (x5 : Vec F S3x3x3x32x64 .f32) : Vec F S1x2x64 .f32 :=
  VO1_7.read (Elt F) (VO1_7.writes (Elt F) VO1_7.junk (kernelRun1_A c i arg2 harg2 arg3 harg3 arg4 harg4 arg5 harg5 arg6 harg6 arg7 harg7 arg8 harg8 arg9 harg9 hc0 hc1 x0 x1 x2 x3 x4 x5).2.1)

set_option maxHeartbeats 1000000 in
/-- What the body's stores leave in each output's staging memref, as pieces (last first) IN CASE B (`scf.if` 0 not taken, `scf.if` 1 taken: points 1, 2, … 271: 264 of 272), WITH the
    proof that on whole staging memrefs — the inputs' at their contents, the outputs it reads before covering (7) at their running contents `xo·`, the other outputs' at
    anything, the body runs to the continuation holding the inputs' as they were,
    each output's buffer with its pieces written: the functions are their skeletons
    (`Gen.*_eq_skeleton`) — each `scf.if` decided by the case's hypotheses `hc·`; the pieces are
    those the run finds. -/
noncomputable def kernelRun1_B (c : Dev nD) (i : grid1.Coords) (arg2 : Memref sig .tc .vmem S1x1x66x66x32 .f32) (harg2 : arg2.IsWhole) (arg3 : Memref sig .tc .vmem S1x1x66x66x32 .f32) (harg3 : arg3.IsWhole) (arg4 : Memref sig .tc .vmem S1x1x66x66x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S3x3x3x32x64 .f32) (harg7 : arg7.IsWhole) (arg8 : Memref sig .tc .vmem S1x1x34x34x64 .f32) (harg8 : arg8.IsWhole) (arg9 : Memref sig .tc .vmem S1x2x64 .f32) (harg9 : arg9.IsWhole) (hc0 : ¬cond1_0 i) (hc1 : cond1_1 i)
    (x0 : Vec F S1x1x66x66x32 .f32) (x1 : Vec F S1x1x66x66x32 .f32) (x2 : Vec F S1x1x66x66x32 .f32) (x3 : Vec F S1x32 .f32) (x4 : Vec F S1x32 .f32) (x5 : Vec F S3x3x3x32x64 .f32) (xo7 : Vec F S1x2x64 .f32) :
    Σ' (L6 : List (View.Piece (Elt F) S1x1x34x34x64 .f32)), { L7 : List (View.Piece (Elt F) S1x2x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc1_body i arg2 harg2 arg3 harg3 arg4 harg4 arg5 harg5 arg6 harg6 arg7 harg7 arg8 harg8 arg9 harg9) K } := by
  refine ⟨?_, ?_, fun E K => ?run⟩
  case run =>
    simp only [cc1_body_eq_skeleton]; unfold cc1_body_skel
    simp only [k1_part1_eq_skeleton, k1_part2_eq_skeleton, k1_part3_eq_skeleton, k1_part4_eq_skeleton, k1_part5_eq_skeleton, k1_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

/-- Case B's pieces for output 6 tile its block (1 store of `S1x1x34x34x64`), so they cover it. -/
theorem cover1_B_6 (c : Dev nD) (i : grid1.Coords) (arg2 : Memref sig .tc .vmem S1x1x66x66x32 .f32) (harg2 : arg2.IsWhole) (arg3 : Memref sig .tc .vmem S1x1x66x66x32 .f32) (harg3 : arg3.IsWhole) (arg4 : Memref sig .tc .vmem S1x1x66x66x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S3x3x3x32x64 .f32) (harg7 : arg7.IsWhole) (arg8 : Memref sig .tc .vmem S1x1x34x34x64 .f32) (harg8 : arg8.IsWhole) (arg9 : Memref sig .tc .vmem S1x2x64 .f32) (harg9 : arg9.IsWhole) (hc0 : ¬cond1_0 i) (hc1 : cond1_1 i)
    (x0 : Vec F S1x1x66x66x32 .f32) (x1 : Vec F S1x1x66x66x32 .f32) (x2 : Vec F S1x1x66x66x32 .f32) (x3 : Vec F S1x32 .f32) (x4 : Vec F S1x32 .f32) (x5 : Vec F S3x3x3x32x64 .f32) (xo7 : Vec F S1x2x64 .f32) (y : S1x1x34x34x64.Idx) :
    ∃ pc ∈ (kernelRun1_B c i arg2 harg2 arg3 harg3 arg4 harg4 arg5 harg5 arg6 harg6 arg7 harg7 arg8 harg8 arg9 harg9 hc0 hc1 x0 x1 x2 x3 x4 x5 xo7).1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xo7).1 S1x1x34x34x64.size (by sl_kernel_rfl) y

/-- What case B leaves in output 6's staging buffer: its pieces read back over junk. -/
def out1_B_6 (c : Dev nD) (i : grid1.Coords) (arg2 : Memref sig .tc .vmem S1x1x66x66x32 .f32) (harg2 : arg2.IsWhole) (arg3 : Memref sig .tc .vmem S1x1x66x66x32 .f32) (harg3 : arg3.IsWhole) (arg4 : Memref sig .tc .vmem S1x1x66x66x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S3x3x3x32x64 .f32) (harg7 : arg7.IsWhole) (arg8 : Memref sig .tc .vmem S1x1x34x34x64 .f32) (harg8 : arg8.IsWhole) (arg9 : Memref sig .tc .vmem S1x2x64 .f32) (harg9 : arg9.IsWhole) (hc0 : ¬cond1_0 i) (hc1 : cond1_1 i)
    (x0 : Vec F S1x1x66x66x32 .f32) (x1 : Vec F S1x1x66x66x32 .f32) (x2 : Vec F S1x1x66x66x32 .f32) (x3 : Vec F S1x32 .f32) (x4 : Vec F S1x32 .f32) (x5 : Vec F S3x3x3x32x64 .f32) (xo7 : Vec F S1x2x64 .f32) : Vec F S1x1x34x34x64 .f32 :=
  VO1_6.read (Elt F) (VO1_6.writes (Elt F) VO1_6.junk (kernelRun1_B c i arg2 harg2 arg3 harg3 arg4 harg4 arg5 harg5 arg6 harg6 arg7 harg7 arg8 harg8 arg9 harg9 hc0 hc1 x0 x1 x2 x3 x4 x5 xo7).1)

/-- Case B's pieces for output 7 tile its block (1 store of `S1x2x64`), so they cover it. -/
theorem cover1_B_7 (c : Dev nD) (i : grid1.Coords) (arg2 : Memref sig .tc .vmem S1x1x66x66x32 .f32) (harg2 : arg2.IsWhole) (arg3 : Memref sig .tc .vmem S1x1x66x66x32 .f32) (harg3 : arg3.IsWhole) (arg4 : Memref sig .tc .vmem S1x1x66x66x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S3x3x3x32x64 .f32) (harg7 : arg7.IsWhole) (arg8 : Memref sig .tc .vmem S1x1x34x34x64 .f32) (harg8 : arg8.IsWhole) (arg9 : Memref sig .tc .vmem S1x2x64 .f32) (harg9 : arg9.IsWhole) (hc0 : ¬cond1_0 i) (hc1 : cond1_1 i)
    (x0 : Vec F S1x1x66x66x32 .f32) (x1 : Vec F S1x1x66x66x32 .f32) (x2 : Vec F S1x1x66x66x32 .f32) (x3 : Vec F S1x32 .f32) (x4 : Vec F S1x32 .f32) (x5 : Vec F S3x3x3x32x64 .f32) (xo7 : Vec F S1x2x64 .f32) (y : S1x2x64.Idx) :
    ∃ pc ∈ (kernelRun1_B c i arg2 harg2 arg3 harg3 arg4 harg4 arg5 harg5 arg6 harg6 arg7 harg7 arg8 harg8 arg9 harg9 hc0 hc1 x0 x1 x2 x3 x4 x5 xo7).2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 x4 x5 xo7).2.1 S1x2x64.size (by sl_kernel_rfl) y

/-- What case B leaves in output 7's staging buffer: its pieces read back over junk. -/
def out1_B_7 (c : Dev nD) (i : grid1.Coords) (arg2 : Memref sig .tc .vmem S1x1x66x66x32 .f32) (harg2 : arg2.IsWhole) (arg3 : Memref sig .tc .vmem S1x1x66x66x32 .f32) (harg3 : arg3.IsWhole) (arg4 : Memref sig .tc .vmem S1x1x66x66x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S3x3x3x32x64 .f32) (harg7 : arg7.IsWhole) (arg8 : Memref sig .tc .vmem S1x1x34x34x64 .f32) (harg8 : arg8.IsWhole) (arg9 : Memref sig .tc .vmem S1x2x64 .f32) (harg9 : arg9.IsWhole) (hc0 : ¬cond1_0 i) (hc1 : cond1_1 i)
    (x0 : Vec F S1x1x66x66x32 .f32) (x1 : Vec F S1x1x66x66x32 .f32) (x2 : Vec F S1x1x66x66x32 .f32) (x3 : Vec F S1x32 .f32) (x4 : Vec F S1x32 .f32) (x5 : Vec F S3x3x3x32x64 .f32) (xo7 : Vec F S1x2x64 .f32) : Vec F S1x2x64 .f32 :=
  VO1_7.read (Elt F) (VO1_7.writes (Elt F) VO1_7.junk (kernelRun1_B c i arg2 harg2 arg3 harg3 arg4 harg4 arg5 harg5 arg6 harg6 arg7 harg7 arg8 harg8 arg9 harg9 hc0 hc1 x0 x1 x2 x3 x4 x5 xo7).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`); an output it leaves idle whose contents another case keeps stays
    what this leaves at `n - 1`, carried. An assignment of the conditions no point meets is no case (`False.elim`). -/
def outsAt1 (c : Dev nD) : (n : ℕ) → n < cfg1.N → Vec F S1x1x34x34x64 .f32 × Vec F S1x2x64 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 34 = 0 then
      if h1 : 1 ≤ (n + 1) % 34 then
        False.elim (by have hN : n + 1 < 272 := lt_of_lt_of_eq hn (show cfg1.N = 272 from N_1); omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : 1 ≤ (n + 1) % 34 then
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2)
      else
        False.elim (by have hN : n + 1 < 272 := lt_of_lt_of_eq hn (show cfg1.N = 272 from N_1); omega)

/-- `outsAt1` at a point of case A: that case's contents. -/
theorem outsAt1_A (c : Dev nD) (t : Fin cfg1.N) (h0 : t.val % 34 = 0) (h1 : ¬1 ≤ t.val % 34) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (fun h => h1 ((hcond1_1 t).mp h)) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 34 = 0) (h1 : 1 ≤ t.val % 34) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of pipeline 1 on core `c`: the arrays as the region finds them (`V`); after the body at
    point `t` each input's buffer at its block and the outputs' at `outsAt1`; the invariant
    (`ΦA`: the scoped rest and the generator register); nothing owed; each input's share of its array
    (`Pipeline.shareOf`: the full share of an array several windows stage, dealt among them). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2
  Φ _ := Pipeline.ΦA spec1 c
  q w := Pipeline.shareOf spec1 w
  owed _ := 0

/-- The proof data's arrays are the region-entry contents, by the definition. -/
theorem A_eq1 (c : Dev nD) (w : Fin cfg1.W) : (dat1 V c).A w = V c (Pipeline.arrRef spec1 w) := by
  dsimp only [dat1]

/-- What the body leaves, window bywindow. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- Output 7's contents CARRY through the points that leave it idle: at such a point, its buffer not fresh, the proof data's
    `after` is the point before's (the case there stores nothing into the window and its term says so; a case that stores
    into it is not idle there by `liveAt1_7_κ`) — the hypothesis of `Dat.before_out_traj`. -/
theorem hcarry1_7 (c : Dev nD) : ∀ (t : Fin cfg1.N) (_ : t.val ≠ 0), cfg1.idle 7 (grid1.coords t) = true → cfg1.fresh 7 t.val = false →
    (dat1 V c).after 7 t = (dat1 V c).after 7 ⟨t.val - 1, by omega⟩ := by
  intro t _ hi _
  have hN : t.val < 272 := lt_of_lt_of_eq t.isLt (show cfg1.N = 272 from N_1)
  rw [after1_7, after1_7]
  by_cases h0 : t.val % 34 = 0
  · by_cases h1 : 1 ≤ t.val % 34
    · exfalso; omega
    · rw [liveAt1_7_A t ((hcond1_0 t).mpr h0) (fun h => h1 ((hcond1_1 t).mp h))] at hi
      exact absurd hi Bool.false_ne_true
  · by_cases h1 : 1 ≤ t.val % 34
    · rw [liveAt1_7_B t (fun h => h0 ((hcond1_0 t).mp h)) ((hcond1_1 t).mpr h1)] at hi
      exact absurd hi Bool.false_ne_true
    · exfalso; omega
/-- At a point of case B output 7's current staging buffer holds what the point before left: the buffer is not fresh
    there (`notFresh1_7_B`: stored into since the region's entry or the last write-back, carried through the points that
    leave it idle by `hcarry1_7`; `Dat.before_out_traj`). -/
theorem before1_7_B (c : Dev nD) (t : Fin cfg1.N) (h0 : ¬t.val % 34 = 0) (h1 : 1 ≤ t.val % 34) (d) :
    (dat1 V c).before 7 t d = (outsAt1 V c (t.val - 1) (Nat.lt_of_le_of_lt (Nat.sub_le _ _) t.isLt)).2 := by
  rw [Dat.before_out_traj _ 7 rfl (fun _ _ => rfl) (hcarry1_7 V c) t.val t rfl d,
    if_neg (by rw [notFresh1_7_B t (fun h => h0 ((hcond1_0 t).mp h)) ((hcond1_1 t).mpr h1)]; exact Bool.false_ne_true)]
  dsimp only [dat1]

/-! ## The body obligation, at a generic point -/

/-- What the body is called with at point `t` (`BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 1600000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl]
  have hN : t.val < 272 := lt_of_lt_of_eq t.isLt (show cfg1.N = 272 from N_1)
  by_cases h0 : t.val % 34 = 0
  · by_cases h1 : 1 ≤ t.val % 34
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7_A t ((hcond1_0 t).mpr h0) (fun h => h1 ((hcond1_1 t).mp h))], after1_7]
      rw [outsAt1_A V c t h0 h1]
      unfold out1_A_6 out1_A_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _)
      unfold owns; iexists _; isplitr
      swap; · iexact H7
      ipureintro; exact View.read_writes_of_cover _ _ _ _ _ (cover1_A_7 c _ _ _ _ _ _ _ _ _ _ _ _ _ _ _ _ _ _ _ _ _ _ _ _ _)
  · by_cases h1 : 1 ≤ t.val % 34
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5 t], after1_5]
      rw [show (dat1 V c).leavesExact 6 t = owns (c : Thread nD τ) (ms1_6 t) fullShare ((dat1 V c).after 6 t) from by
      unfold Dat.leavesExact; rw [liveAt1_6 t], after1_6]
      rw [show (dat1 V c).leavesExact 7 t = owns (c : Thread nD τ) (ms1_7 t) fullShare ((dat1 V c).after 7 t) from by
      unfold Dat.leavesExact; rw [liveAt1_7_B t (fun h => h0 ((hcond1_0 t).mp h)) ((hcond1_1 t).mpr h1)], after1_7]
      rw [outsAt1_B V c t h0 h1]
      simp only [before1_7_B V c t h0 h1]
      unfold out1_B_6 out1_B_7; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      iintro ⟨H0, H1, H2, H3, H4, H5, ⟨%e6, H6⟩, ⟨%e7, H7⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _)
      unfold owns; iexists _; isplitr
      swap; · iexact H7
      ipureintro; exact View.read_writes_of_cover _ _ _ _ _ (cover1_B_7 c _ _ _ _ _ _ _ _ _ _ _ _ _ _ _ _ _ _ _ _ _ _ _ _ _ _)
    · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.Ideal.Region2.lean ====
/- The third call: its blocks, its body run at one grid point, and what it leaves. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_body` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := k2_cond1 i = 1#1
/-- It holds at the points ≡ 0 (mod 16) — by arithmetic of the point. -/
theorem hcond2_0 : ∀ t : Fin cfg2.N, cond2_0 (grid2.coords t) ↔ t.val % 16 = 0 :=
  (fun t => by
    have ht : t.val < 128 := Nat.lt_of_lt_of_eq t.isLt N_2
    have e0 : (grid2.coords t 0).val = t.val / 16 % 8 := Pipeline.Grid.coords_val t 0 (by decide) rfl
    have e1 : (grid2.coords t 1).val = t.val / 1 % 16 := Pipeline.Grid.coords_val t 1 (by decide) rfl
    simp only [cond2_0, k2_cond1, e0, e1]
    word_cmp
   : ∀ t : Fin grid2.N, cond2_0 (grid2.coords t) ↔ t.val % 16 = 0)

/-- The condition of the body's `scf.if` 1 (`k2_h2`), from the grid coordinates (the skeleton's scalar
    chain substituted). -/
abbrev cond2_1 (i : grid2.Coords) : Prop := k2_cond2 i = 1#1
/-- It holds at the points whose coordinates have 1 ≤ i1 — by arithmetic of the point. -/
theorem hcond2_1 : ∀ t : Fin cfg2.N, cond2_1 (grid2.coords t) ↔ 1 ≤ t.val % 16 :=
  (fun t => by
    have ht : t.val < 128 := Nat.lt_of_lt_of_eq t.isLt N_2
    have e0 : (grid2.coords t 0).val = t.val / 16 % 8 := Pipeline.Grid.coords_val t 0 (by decide) rfl
    have e1 : (grid2.coords t 1).val = t.val / 1 % 16 := Pipeline.Grid.coords_val t 1 (by decide) rfl
    simp only [cond2_1, k2_cond2, e0, e1]
    word_cmp
   : ∀ t : Fin grid2.N, cond2_1 (grid2.coords t) ↔ 1 ≤ t.val % 16)

/-- The condition of the body's `scf.if` 2 (`k2_h3`), from the grid coordinates (the skeleton's scalar
    chain substituted). -/
abbrev cond2_2 (i : grid2.Coords) : Prop := k2_cond3 i = 1#1
/-- It holds at the points ≡ 8 (mod 16) — by arithmetic of the point. -/
theorem hcond2_2 : ∀ t : Fin cfg2.N, cond2_2 (grid2.coords t) ↔ t.val % 16 = 8 :=
  (fun t => by
    have ht : t.val < 128 := Nat.lt_of_lt_of_eq t.isLt N_2
    have e0 : (grid2.coords t 0).val = t.val / 16 % 8 := Pipeline.Grid.coords_val t 0 (by decide) rfl
    have e1 : (grid2.coords t 1).val = t.val / 1 % 16 := Pipeline.Grid.coords_val t 1 (by decide) rfl
    simp only [cond2_2, k2_cond3, e0, e1]
    word_cmp
   : ∀ t : Fin grid2.N, cond2_2 (grid2.coords t) ↔ t.val % 16 = 8)

/-! ## Where the windows are idle (the configuration's table `Cfg.idle`) -/

/-- Window 0 is never idle (an input). -/
theorem liveAt2_0 : ∀ t : Fin cfg2.N, cfg2.idle 0 (grid2.coords t) = false := fun _ => rfl
/-- Window 1 is never idle (an input). -/
theorem liveAt2_1 : ∀ t : Fin cfg2.N, cfg2.idle 1 (grid2.coords t) = false := fun _ => rfl
/-- Window 2 is never idle (an input). -/
theorem liveAt2_2 : ∀ t : Fin cfg2.N, cfg2.idle 2 (grid2.coords t) = false := fun _ => rfl
/-- Window 3 is never idle (an input). -/
theorem liveAt2_3 : ∀ t : Fin cfg2.N, cfg2.idle 3 (grid2.coords t) = false := fun _ => rfl
/-- Window 4 is never idle (an input). -/
theorem liveAt2_4 : ∀ t : Fin cfg2.N, cfg2.idle 4 (grid2.coords t) = false := fun _ => rfl
/-- Window 5 is never idle (an input). -/
theorem liveAt2_5 : ∀ t : Fin cfg2.N, cfg2.idle 5 (grid2.coords t) = false := fun _ => rfl
/-- Whether output 6's buffer is FRESH at each position `1 ‥ N` — holds nothing the body stored since the region's entry or the
    last write-back (written back at the point before, or idle there and fresh before it) —, as a
    bitmask, bit `n` for position `n + 1`; position 0 is fresh. `freshTab2_6_step` checks it against the configuration's own
    step point by point and `Cfg.fresh_tab` makes it `Cfg.fresh` (`fresh2_6_eq`). -/
def freshTab2_6 : ℕ → Bool
  | 0 => true
  | n + 1 => (0x80ff80ff80ff80ff80ff80ff80ff80ff : ℕ).testBit n
theorem freshTab2_6_step : ∀ t : Fin cfg2.N,
    freshTab2_6 (t.val + 1) = ((cfg2.win 6).flush t || (cfg2.idle 6 (cfg2.grid.coords t) && freshTab2_6 t.val)) := by decide +kernel
theorem fresh2_6_eq (t : Fin cfg2.N) : cfg2.fresh 6 t.val = freshTab2_6 t.val :=
  Pipeline.Cfg.fresh_tab cfg2 6 freshTab2_6 rfl freshTab2_6_step t.val (Nat.le_of_lt t.isLt)
/-- At the points of case A the configuration (`Cfg.idle`) calls output 6 idle: the case stores nothing into it. -/
theorem idleAt2_6_A : ∀ t : Fin cfg2.N, cond2_0 (grid2.coords t) → ¬cond2_1 (grid2.coords t) → ¬cond2_2 (grid2.coords t) → cfg2.idle 6 (grid2.coords t) = true := by decide +kernel
/-- At the points of case A the pipeline does not write output 6's block back. -/
theorem noFlush2_6_A : ∀ t : Fin cfg2.N, cond2_0 (grid2.coords t) → ¬cond2_1 (grid2.coords t) → ¬cond2_2 (grid2.coords t) → (cfg2.win 6).flush t = false := by decide +kernel
/-- At the points of case B the configuration (`Cfg.idle`) calls output 6 idle: the case stores nothing into it. -/
theorem idleAt2_6_B : ∀ t : Fin cfg2.N, ¬cond2_0 (grid2.coords t) → cond2_1 (grid2.coords t) → ¬cond2_2 (grid2.coords t) → cfg2.idle 6 (grid2.coords t) = true := by decide +kernel
/-- At a point of case B other than a sample's last the pipeline does not write output 6's block back. -/
theorem noFlush2_6_B : ∀ t : Fin cfg2.N, ¬cond2_0 (grid2.coords t) → cond2_1 (grid2.coords t) → ¬cond2_2 (grid2.coords t) → t.val % 16 ≠ 15 → (cfg2.win 6).flush t = false := by decide +kernel
/-- At a sample's last point output 6's buffer is not fresh: the sample's middle point stored into it. -/
theorem notFresh2_6 : ∀ t : Fin cfg2.N, t.val % 16 = 15 → cfg2.fresh 6 t.val = false := by
  intro t; rw [fresh2_6_eq t]; revert t; decide +kernel
/-- At the points of case C the configuration (`Cfg.idle`) calls output 6 live: the case stores into it. -/
theorem liveAt2_6_C : ∀ t : Fin cfg2.N, ¬cond2_0 (grid2.coords t) → cond2_1 (grid2.coords t) → cond2_2 (grid2.coords t) → cfg2.idle 6 (grid2.coords t) = false := by decide +kernel
/-- Whether output 7's buffer is FRESH at each position `1 ‥ N` — holds nothing the body stored since the region's entry or the
    last write-back (written back at the point before, or idle there and fresh before it) —, as a
    bitmask, bit `n` for position `n + 1`; position 0 is fresh. `freshTab2_7_step` checks it against the configuration's own
    step point by point and `Cfg.fresh_tab` makes it `Cfg.fresh` (`fresh2_7_eq`). -/
def freshTab2_7 : ℕ → Bool
  | 0 => true
  | n + 1 => (0x80008000800080008000800080008000 : ℕ).testBit n
theorem freshTab2_7_step : ∀ t : Fin cfg2.N,
    freshTab2_7 (t.val + 1) = ((cfg2.win 7).flush t || (cfg2.idle 7 (cfg2.grid.coords t) && freshTab2_7 t.val)) := by decide +kernel
theorem fresh2_7_eq (t : Fin cfg2.N) : cfg2.fresh 7 t.val = freshTab2_7 t.val :=
  Pipeline.Cfg.fresh_tab cfg2 7 freshTab2_7 rfl freshTab2_7_step t.val (Nat.le_of_lt t.isLt)
/-- At the points of case A the configuration (`Cfg.idle`) calls output 7 live: the case stores into it. -/
theorem liveAt2_7_A : ∀ t : Fin cfg2.N, cond2_0 (grid2.coords t) → ¬cond2_1 (grid2.coords t) → ¬cond2_2 (grid2.coords t) → cfg2.idle 7 (grid2.coords t) = false := by decide +kernel
/-- At the points of case B the configuration (`Cfg.idle`) calls output 7 live: the case stores into it. -/
theorem liveAt2_7_B : ∀ t : Fin cfg2.N, ¬cond2_0 (grid2.coords t) → cond2_1 (grid2.coords t) → ¬cond2_2 (grid2.coords t) → cfg2.idle 7 (grid2.coords t) = false := by decide +kernel
/-- At the points of case B, which keeps output 7's prior contents (reads it before covering, or covers it in part), the
    window's buffer is not FRESH: something was stored into it since the region's entry or its last write-back, idle points
    between or not (`Cfg.fresh`, by the table `freshTab2_7`). -/
theorem notFresh2_7_B : ∀ t : Fin cfg2.N, ¬cond2_0 (grid2.coords t) → cond2_1 (grid2.coords t) → ¬cond2_2 (grid2.coords t) → cfg2.fresh 7 t.val = false := by
  intro t; rw [fresh2_7_eq t]; revert t; decide +kernel
/-- At the points of case C the configuration (`Cfg.idle`) calls output 7 live: the case stores into it. -/
theorem liveAt2_7_C : ∀ t : Fin cfg2.N, ¬cond2_0 (grid2.coords t) → cond2_1 (grid2.coords t) → cond2_2 (grid2.coords t) → cfg2.idle 7 (grid2.coords t) = false := by decide +kernel
/-- At the points of case C, which keeps output 7's prior contents (reads it before covering, or covers it in part), the
    window's buffer is not FRESH: something was stored into it since the region's entry or its last write-back, idle points
    between or not (`Cfg.fresh`, by the table `freshTab2_7`). -/
theorem notFresh2_7_C : ∀ t : Fin cfg2.N, ¬cond2_0 (grid2.coords t) → cond2_1 (grid2.coords t) → cond2_2 (grid2.coords t) → cfg2.fresh 7 t.val = false := by
  intro t; rw [fresh2_7_eq t]; revert t; decide +kernel

/-! ## The kernel body on any staging memrefs: a subtype the run finds -/

/-- One staging buffer of output window 6, through which its contents are stated (`View.read_writes_of_cover`: the
    choice does not matter). -/
abbrev VO2_6 : View sig .tc .vmem S1x1x128 .f32 := (Memref.whole cc2_stg6_0 : Memref sig .tc .vmem S1x1x128 .f32).view
/-- One staging buffer of output window 7, through which its contents are stated (`View.read_writes_of_cover`: the
    choice does not matter). -/
abbrev VO2_7 : View sig .tc .vmem S1x2x128 .f32 := (Memref.whole cc2_stg7_0 : Memref sig .tc .vmem S1x2x128 .f32).view
/-- Each window's current staging memref at point `t`, spelled as the pipeline passes it (`bodyAt2`), and its wholeness. -/
abbrev ms2_0 (t : Fin cfg2.N) : Memref sig .tc .vmem S1x1x34x34x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1x34x34x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1x34x34x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S3x3x3x64x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x2x128 .f32 := win2_7.stage (cfg2.slots t 7)
abbrev hs2_7 (t : Fin cfg2.N) : (ms2_7 t).IsWhole := hstage2_7 ((cfg2.slots t 7).cast nbuf2_7)

set_option maxHeartbeats 1000000 in
/-- What the body's stores leave in each output's staging memref, as pieces (last first) IN CASE A (`scf.if` 0 taken, `scf.if` 1 not taken, `scf.if` 2 not taken: points 0, 16, … 112: 8 of 128), WITH the
    proof that on whole staging memrefs — the inputs' at their contents, the outputs it leaves idle (6: no store, the window idle and not written back at the case's points) at contents `xi·` handed back untouched, the other outputs' at
    anything, the body runs to the continuation holding the inputs' as they were,
    each output's buffer with its pieces written: the functions are their skeletons
    (`Gen.*_eq_skeleton`) — each `scf.if` decided by the case's hypotheses `hc·`; the pieces are
    those the run finds. -/
noncomputable def kernelRun2_A (c : Dev nD) (i : grid2.Coords) (arg2 : Memref sig .tc .vmem S1x1x34x34x64 .f32) (harg2 : arg2.IsWhole) (arg3 : Memref sig .tc .vmem S1x1x34x34x64 .f32) (harg3 : arg3.IsWhole) (arg4 : Memref sig .tc .vmem S1x1x34x34x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S3x3x3x64x128 .f32) (harg7 : arg7.IsWhole) (arg8 : Memref sig .tc .vmem S1x1x128 .f32) (harg8 : arg8.IsWhole) (arg9 : Memref sig .tc .vmem S1x2x128 .f32) (harg9 : arg9.IsWhole) (hc0 : cond2_0 i) (hc1 : ¬cond2_1 i) (hc2 : ¬cond2_2 i)
    (x0 : Vec F S1x1x34x34x64 .f32) (x1 : Vec F S1x1x34x34x64 .f32) (x2 : Vec F S1x1x34x34x64 .f32) (x3 : Vec F S1x64 .f32) (x4 : Vec F S1x64 .f32) (x5 : Vec F S3x3x3x64x128 .f32) :
    Σ' (L6 : List (View.Piece (Elt F) S1x1x128 .f32)), { L7 : List (View.Piece (Elt F) S1x2x128 .f32) //
      ∀ (xi6 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f L7)) -∗ K ⟨⟩))
          ⊢ wp frame (wpE (defs₀ (F := F)) Variants.none c none) E (cc2_body i arg2 harg2 arg3 harg3 arg4 harg4 arg5 harg5 arg6 harg6 arg7 harg7 arg8 harg8 arg9 harg9) K } := by
  refine ⟨[], ?_, fun xi6 E K => ?run⟩
  case run =>
    simp only [cc2_body_eq_skeleton]; unfold cc2_body_skel
    simp only [k2_part1_eq_skeleton, k2_part2_eq_skeleton, k2_part3_eq_skeleton, k2_part4_eq_skeleton, k2_part5_eq_skeleton, k2_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

/-- Case A stores nothing into output 6 (the window is idle at its points and not written back there) and another
    case keeps its prior contents (reads it before covering, or covers it in part): what its buffer holds after the body is what the
    point before left, CARRIED — an argument of this term alone, which the run does not take. -/
def out2_A_6 (c : Dev nD) (i : grid2.Coords) (arg2 : Memref sig .tc .vmem S1x1x34x34x64 .f32) (harg2 : arg2.IsWhole) (arg3 : Memref sig .tc .vmem S1x1x34x34x64 .f32) (harg3 : arg3.IsWhole) (arg4 : Memref sig .tc .vmem S1x1x34x34x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S3x3x3x64x128 .f32) (harg7 : arg7.IsWhole) (arg8 : Memref sig .tc .vmem S1x1x128 .f32) (harg8 : arg8.IsWhole) (arg9 : Memref sig .tc .vmem S1x2x128 .f32) (harg9 : arg9.IsWhole) (hc0 : cond2_0 i) (hc1 : ¬cond2_1 i) (hc2 : ¬cond2_2 i)
    (x0 : Vec F S1x1x34x34x64 .f32) (x1 : Vec F S1x1x34x34x64 .f32) (x2 : Vec F S1x1x34x34x64 .f32) (x3 : Vec F S1x64 .f32) (x4 : Vec F S1x64 .f32) (x5 : Vec F S3x3x3x64x128 .f32) (xo6 : Vec F S1x1x128 .f32) : Vec F S1x1x128 .f32 := xo6

/-- Case A's pieces for output 7 tile its block (1 store of `S1x2x128`), so they cover it. -/
theorem cover2_A_7 (c : Dev nD) (i : grid2.Coords) (arg2 : Memref sig .tc .vmem S1x1x34x34x64 .f32) (harg2 : arg2.IsWhole) (arg3 : Memref sig .tc .vmem S1x1x34x34x64 .f32) (harg3 : arg3.IsWhole) (arg4 : Memref sig .tc .vmem S1x1x34x34x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S3x3x3x64x128 .f32) (harg7 : arg7.IsWhole) (arg8 : Memref sig .tc .vmem S1x1x128 .f32) (harg8 : arg8.IsWhole) (arg9 : Memref sig .tc .vmem S1x2x128 .f32) (harg9 : arg9.IsWhole) (hc0 : cond2_0 i) (hc1 : ¬cond2_1 i) (hc2 : ¬cond2_2 i)
    (x0 : Vec F S1x1x34x34x64 .f32) (x1 : Vec F S1x1x34x34x64 .f32) (x2 : Vec F S1x1x34x34x64 .f32) (x3 : Vec F S1x64 .f32) (x4 : Vec F S1x64 .f32) (x5 : Vec F S3x3x3x64x128 .f32) (y : S1x2x128.Idx) :
    ∃ pc ∈ (kernelRun2_A c i arg2 harg2 arg3 harg3 arg4 harg4 arg5 harg5 arg6 harg6 arg7 harg7 arg8 harg8 arg9 harg9 hc0 hc1 hc2 x0 x1 x2 x3 x4 x5).2.1, y ∈ pc.1.set :=
  View.cover_of_tiledL (kernelRun2_A c i arg2 harg2 arg3 harg3 arg4 harg4 arg5 harg5 arg6 harg6 arg7 harg7 arg8 harg8 arg9 harg9 hc0 hc1 hc2 x0 x1 x2 x3 x4 x5).2.1 S1x2x128.size (by sl_kernel_rfl) y

/-- What case A leaves in output 7's staging buffer: its pieces read back over junk. -/
def out2_A_7 (c : Dev nD) (i : grid2.Coords) (arg2 : Memref sig .tc .vmem S1x1x34x34x64 .f32) (harg2 : arg2.IsWhole) (arg3 : Memref sig .tc .vmem S1x1x34x34x64 .f32) (harg3 : arg3.IsWhole) (arg4 : Memref sig .tc .vmem S1x1x34x34x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S3x3x3x64x128 .f32) (harg7 : arg7.IsWhole) (arg8 : Memref sig .tc .vmem S1x1x128 .f32) (harg8 : arg8.IsWhole) (arg9 : Memref sig .tc .vmem S1x2x128 .f32) (harg9 : arg9.IsWhole) (hc0 : cond2_0 i) (hc1 : ¬cond2_1 i) (hc2 : ¬cond2_2 i)
    (x0 : Vec F S1x1x34x34x64 .f32) (x1 : Vec F S1x1x34x34x64 .f32) (x2 : Vec F S1x1x34x34x64 .f32) (x3 : Vec F S1x64 .f32) (x4 : Vec F S1x64 .f32) (x5 : Vec F S3x3x3x64x128 .f32) : Vec F S1x2x128 .f32 :=
  VO2_7.read (Elt F) (VO2_7.writes (Elt F) VO2_7.junk (kernelRun2_A c i arg2 harg2 arg3 harg3 arg4 harg4 arg5 harg5 arg6 harg6 arg7 harg7 arg8 harg8 arg9 harg9 hc0 hc1 hc2 x0 x1 x2 x3 x4 x5).2.1)

set_option maxHeartbeats 1000000 in
/-- What the body's stores leave in each output's staging memref, as pieces (last first) IN CASE B (`scf.if` 0 not taken, `scf.if` 1 taken, `scf.if` 2 not taken: points 1, 2, … 127: 112 of 128), WITH the
    proof that on whole staging memrefs — the inputs' at their contents, the outputs it reads before covering (7) at their running contents `xo·`, the outputs it leaves idle (6: no store, the window idle and not written back at the case's points) at contents `xi·` handed back untouched, the other outputs' at
    anything, the body runs to the continuation holding the inputs' as they were,
    each output's buffer with its pieces written: the functions are their skeletons
    (`Gen.*_eq_skeleton`) — each `scf.if` decided by the case's hypotheses `hc·`; the pieces are
    those the run finds. -/
noncomputable def kernelRun2_B (c : Dev nD) (i : grid2.Coords) (arg2 : Memref sig .tc .vmem S1x1x34x34x64 .f32) (harg2 : arg2.IsWhole) (arg3 : Memref sig .tc .vmem S1x1x34x34x64 .f32) (harg3 : arg3.IsWhole) (arg4 : Memref sig .tc .vmem S1x1x34x34x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S3x3x3x64x128 .f32) (harg7 : arg7.IsWhole) (arg8 : Memref sig .tc .vmem S1x1x128 .f32) (harg8 : arg8.IsWhole) (arg9 : Memref sig .tc .vmem S1x2x128 .f32) (harg9 : arg9.IsWhole) (hc0 : ¬cond2_0 i) (hc1 : cond2_1 i) (hc2 : ¬cond2_2 i)
    (x0 : Vec F S1x1x34x34x64 .f32) (x1 : Vec F S1x1x34x34x64 .f32) (x2 : Vec F S1x1x34x34x64 .f32) (x3 : Vec F S1x64 .f32) (x4 : Vec F S1x64 .f32) (x5 : Vec F S3x3x3x64x128 .f32) (xo7 : Vec F S1x2x128 .f32) :
    Σ' (L6 : List (View.Piece (Elt F) S1x1x128 .f32)), { L7 : List (View.Piece (Elt F) S1x2x128 .f32) //
      ∀ (xi6 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f L7)) -∗ K ⟨⟩))
          ⊢ wp frame (wpE (defs₀ (F := F)) Variants.none c none) E (cc2_body i arg2 harg2 arg3 harg3 arg4 harg4 arg5 harg5 arg6 harg6 arg7 harg7 arg8 harg8 arg9 harg9) K } := by
  refine ⟨[], ?_, fun xi6 E K => ?run⟩
  case run =>
    simp only [cc2_body_eq_skeleton]; unfold cc2_body_skel
    simp only [k2_part1_eq_skeleton, k2_part2_eq_skeleton, k2_part3_eq_skeleton, k2_part4_eq_skeleton, k2_part5_eq_skeleton, k2_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

/-- Case B stores nothing into output 6 (the window is idle at its points and not written back there) and another
    case keeps its prior contents (reads it before covering, or covers it in part): what its buffer holds after the body is what the
    point before left, CARRIED — an argument of this term alone, which the run does not take. -/
def out2_B_6 (c : Dev nD) (i : grid2.Coords) (arg2 : Memref sig .tc .vmem S1x1x34x34x64 .f32) (harg2 : arg2.IsWhole) (arg3 : Memref sig .tc .vmem S1x1x34x34x64 .f32) (harg3 : arg3.IsWhole) (arg4 : Memref sig .tc .vmem S1x1x34x34x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S3x3x3x64x128 .f32) (harg7 : arg7.IsWhole) (arg8 : Memref sig .tc .vmem S1x1x128 .f32) (harg8 : arg8.IsWhole) (arg9 : Memref sig .tc .vmem S1x2x128 .f32) (harg9 : arg9.IsWhole) (hc0 : ¬cond2_0 i) (hc1 : cond2_1 i) (hc2 : ¬cond2_2 i)
    (x0 : Vec F S1x1x34x34x64 .f32) (x1 : Vec F S1x1x34x34x64 .f32) (x2 : Vec F S1x1x34x34x64 .f32) (x3 : Vec F S1x64 .f32) (x4 : Vec F S1x64 .f32) (x5 : Vec F S3x3x3x64x128 .f32) (xo7 : Vec F S1x2x128 .f32) (xo6 : Vec F S1x1x128 .f32) : Vec F S1x1x128 .f32 := xo6

/-- Case B's pieces for output 7 tile its block (1 store of `S1x2x128`), so they cover it. -/
theorem cover2_B_7 (c : Dev nD) (i : grid2.Coords) (arg2 : Memref sig .tc .vmem S1x1x34x34x64 .f32) (harg2 : arg2.IsWhole) (arg3 : Memref sig .tc .vmem S1x1x34x34x64 .f32) (harg3 : arg3.IsWhole) (arg4 : Memref sig .tc .vmem S1x1x34x34x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S3x3x3x64x128 .f32) (harg7 : arg7.IsWhole) (arg8 : Memref sig .tc .vmem S1x1x128 .f32) (harg8 : arg8.IsWhole) (arg9 : Memref sig .tc .vmem S1x2x128 .f32) (harg9 : arg9.IsWhole) (hc0 : ¬cond2_0 i) (hc1 : cond2_1 i) (hc2 : ¬cond2_2 i)
    (x0 : Vec F S1x1x34x34x64 .f32) (x1 : Vec F S1x1x34x34x64 .f32) (x2 : Vec F S1x1x34x34x64 .f32) (x3 : Vec F S1x64 .f32) (x4 : Vec F S1x64 .f32) (x5 : Vec F S3x3x3x64x128 .f32) (xo7 : Vec F S1x2x128 .f32) (y : S1x2x128.Idx) :
    ∃ pc ∈ (kernelRun2_B c i arg2 harg2 arg3 harg3 arg4 harg4 arg5 harg5 arg6 harg6 arg7 harg7 arg8 harg8 arg9 harg9 hc0 hc1 hc2 x0 x1 x2 x3 x4 x5 xo7).2.1, y ∈ pc.1.set :=
  View.cover_of_tiledL (kernelRun2_B c i arg2 harg2 arg3 harg3 arg4 harg4 arg5 harg5 arg6 harg6 arg7 harg7 arg8 harg8 arg9 harg9 hc0 hc1 hc2 x0 x1 x2 x3 x4 x5 xo7).2.1 S1x2x128.size (by sl_kernel_rfl) y

/-- What case B leaves in output 7's staging buffer: its pieces read back over junk. -/
def out2_B_7 (c : Dev nD) (i : grid2.Coords) (arg2 : Memref sig .tc .vmem S1x1x34x34x64 .f32) (harg2 : arg2.IsWhole) (arg3 : Memref sig .tc .vmem S1x1x34x34x64 .f32) (harg3 : arg3.IsWhole) (arg4 : Memref sig .tc .vmem S1x1x34x34x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S3x3x3x64x128 .f32) (harg7 : arg7.IsWhole) (arg8 : Memref sig .tc .vmem S1x1x128 .f32) (harg8 : arg8.IsWhole) (arg9 : Memref sig .tc .vmem S1x2x128 .f32) (harg9 : arg9.IsWhole) (hc0 : ¬cond2_0 i) (hc1 : cond2_1 i) (hc2 : ¬cond2_2 i)
    (x0 : Vec F S1x1x34x34x64 .f32) (x1 : Vec F S1x1x34x34x64 .f32) (x2 : Vec F S1x1x34x34x64 .f32) (x3 : Vec F S1x64 .f32) (x4 : Vec F S1x64 .f32) (x5 : Vec F S3x3x3x64x128 .f32) (xo7 : Vec F S1x2x128 .f32) : Vec F S1x2x128 .f32 :=
  VO2_7.read (Elt F) (VO2_7.writes (Elt F) VO2_7.junk (kernelRun2_B c i arg2 harg2 arg3 harg3 arg4 harg4 arg5 harg5 arg6 harg6 arg7 harg7 arg8 harg8 arg9 harg9 hc0 hc1 hc2 x0 x1 x2 x3 x4 x5 xo7).2.1)

set_option maxHeartbeats 1000000 in
/-- What the body's stores leave in each output's staging memref, as pieces (last first) IN CASE C (`scf.if` 0 not taken, `scf.if` 1 taken, `scf.if` 2 taken: points 8, 24, … 120: 8 of 128), WITH the
    proof that on whole staging memrefs — the inputs' at their contents, the outputs it reads before covering (7) at their running contents `xo·`, the other outputs' at
    anything, the body runs to the continuation holding the inputs' as they were,
    each output's buffer with its pieces written: the functions are their skeletons
    (`Gen.*_eq_skeleton`) — each `scf.if` decided by the case's hypotheses `hc·`; the pieces are
    those the run finds. -/
noncomputable def kernelRun2_C (c : Dev nD) (i : grid2.Coords) (arg2 : Memref sig .tc .vmem S1x1x34x34x64 .f32) (harg2 : arg2.IsWhole) (arg3 : Memref sig .tc .vmem S1x1x34x34x64 .f32) (harg3 : arg3.IsWhole) (arg4 : Memref sig .tc .vmem S1x1x34x34x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S3x3x3x64x128 .f32) (harg7 : arg7.IsWhole) (arg8 : Memref sig .tc .vmem S1x1x128 .f32) (harg8 : arg8.IsWhole) (arg9 : Memref sig .tc .vmem S1x2x128 .f32) (harg9 : arg9.IsWhole) (hc0 : ¬cond2_0 i) (hc1 : cond2_1 i) (hc2 : cond2_2 i)
    (x0 : Vec F S1x1x34x34x64 .f32) (x1 : Vec F S1x1x34x34x64 .f32) (x2 : Vec F S1x1x34x34x64 .f32) (x3 : Vec F S1x64 .f32) (x4 : Vec F S1x64 .f32) (x5 : Vec F S3x3x3x64x128 .f32) (xo7 : Vec F S1x2x128 .f32) :
    Σ' (L6 : List (View.Piece (Elt F) S1x1x128 .f32)), { L7 : List (View.Piece (Elt F) S1x2x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xo7
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc2_body i arg2 harg2 arg3 harg3 arg4 harg4 arg5 harg5 arg6 harg6 arg7 harg7 arg8 harg8 arg9 harg9) K } := by
  refine ⟨?_, ?_, fun E K => ?run⟩
  case run =>
    simp only [cc2_body_eq_skeleton]; unfold cc2_body_skel
    simp only [k2_part1_eq_skeleton, k2_part2_eq_skeleton, k2_part3_eq_skeleton, k2_part4_eq_skeleton, k2_part5_eq_skeleton, k2_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

/-- Case C's pieces for output 6 tile its block (1 store of `S1x1x128`), so they cover it. -/
theorem cover2_C_6 (c : Dev nD) (i : grid2.Coords) (arg2 : Memref sig .tc .vmem S1x1x34x34x64 .f32) (harg2 : arg2.IsWhole) (arg3 : Memref sig .tc .vmem S1x1x34x34x64 .f32) (harg3 : arg3.IsWhole) (arg4 : Memref sig .tc .vmem S1x1x34x34x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S3x3x3x64x128 .f32) (harg7 : arg7.IsWhole) (arg8 : Memref sig .tc .vmem S1x1x128 .f32) (harg8 : arg8.IsWhole) (arg9 : Memref sig .tc .vmem S1x2x128 .f32) (harg9 : arg9.IsWhole) (hc0 : ¬cond2_0 i) (hc1 : cond2_1 i) (hc2 : cond2_2 i)
    (x0 : Vec F S1x1x34x34x64 .f32) (x1 : Vec F S1x1x34x34x64 .f32) (x2 : Vec F S1x1x34x34x64 .f32) (x3 : Vec F S1x64 .f32) (x4 : Vec F S1x64 .f32) (x5 : Vec F S3x3x3x64x128 .f32) (xo7 : Vec F S1x2x128 .f32) (y : S1x1x128.Idx) :
    ∃ pc ∈ (kernelRun2_C c i arg2 harg2 arg3 harg3 arg4 harg4 arg5 harg5 arg6 harg6 arg7 harg7 arg8 harg8 arg9 harg9 hc0 hc1 hc2 x0 x1 x2 x3 x4 x5 xo7).1, y ∈ pc.1.set :=
  View.cover_of_tiledL (kernelRun2_C c i arg2 harg2 arg3 harg3 arg4 harg4 arg5 harg5 arg6 harg6 arg7 harg7 arg8 harg8 arg9 harg9 hc0 hc1 hc2 x0 x1 x2 x3 x4 x5 xo7).1 S1x1x128.size (by sl_kernel_rfl) y

/-- What case C leaves in output 6's staging buffer: its pieces read back over junk. -/
def out2_C_6 (c : Dev nD) (i : grid2.Coords) (arg2 : Memref sig .tc .vmem S1x1x34x34x64 .f32) (harg2 : arg2.IsWhole) (arg3 : Memref sig .tc .vmem S1x1x34x34x64 .f32) (harg3 : arg3.IsWhole) (arg4 : Memref sig .tc .vmem S1x1x34x34x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S3x3x3x64x128 .f32) (harg7 : arg7.IsWhole) (arg8 : Memref sig .tc .vmem S1x1x128 .f32) (harg8 : arg8.IsWhole) (arg9 : Memref sig .tc .vmem S1x2x128 .f32) (harg9 : arg9.IsWhole) (hc0 : ¬cond2_0 i) (hc1 : cond2_1 i) (hc2 : cond2_2 i)
    (x0 : Vec F S1x1x34x34x64 .f32) (x1 : Vec F S1x1x34x34x64 .f32) (x2 : Vec F S1x1x34x34x64 .f32) (x3 : Vec F S1x64 .f32) (x4 : Vec F S1x64 .f32) (x5 : Vec F S3x3x3x64x128 .f32) (xo7 : Vec F S1x2x128 .f32) : Vec F S1x1x128 .f32 :=
  VO2_6.read (Elt F) (VO2_6.writes (Elt F) VO2_6.junk (kernelRun2_C c i arg2 harg2 arg3 harg3 arg4 harg4 arg5 harg5 arg6 harg6 arg7 harg7 arg8 harg8 arg9 harg9 hc0 hc1 hc2 x0 x1 x2 x3 x4 x5 xo7).1)

/-- Case C's pieces for output 7 tile its block (1 store of `S1x2x128`), so they cover it. -/
theorem cover2_C_7 (c : Dev nD) (i : grid2.Coords) (arg2 : Memref sig .tc .vmem S1x1x34x34x64 .f32) (harg2 : arg2.IsWhole) (arg3 : Memref sig .tc .vmem S1x1x34x34x64 .f32) (harg3 : arg3.IsWhole) (arg4 : Memref sig .tc .vmem S1x1x34x34x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S3x3x3x64x128 .f32) (harg7 : arg7.IsWhole) (arg8 : Memref sig .tc .vmem S1x1x128 .f32) (harg8 : arg8.IsWhole) (arg9 : Memref sig .tc .vmem S1x2x128 .f32) (harg9 : arg9.IsWhole) (hc0 : ¬cond2_0 i) (hc1 : cond2_1 i) (hc2 : cond2_2 i)
    (x0 : Vec F S1x1x34x34x64 .f32) (x1 : Vec F S1x1x34x34x64 .f32) (x2 : Vec F S1x1x34x34x64 .f32) (x3 : Vec F S1x64 .f32) (x4 : Vec F S1x64 .f32) (x5 : Vec F S3x3x3x64x128 .f32) (xo7 : Vec F S1x2x128 .f32) (y : S1x2x128.Idx) :
    ∃ pc ∈ (kernelRun2_C c i arg2 harg2 arg3 harg3 arg4 harg4 arg5 harg5 arg6 harg6 arg7 harg7 arg8 harg8 arg9 harg9 hc0 hc1 hc2 x0 x1 x2 x3 x4 x5 xo7).2.1, y ∈ pc.1.set :=
  View.cover_of_tiledL (kernelRun2_C c i arg2 harg2 arg3 harg3 arg4 harg4 arg5 harg5 arg6 harg6 arg7 harg7 arg8 harg8 arg9 harg9 hc0 hc1 hc2 x0 x1 x2 x3 x4 x5 xo7).2.1 S1x2x128.size (by sl_kernel_rfl) y

/-- What case C leaves in output 7's staging buffer: its pieces read back over junk. -/
def out2_C_7 (c : Dev nD) (i : grid2.Coords) (arg2 : Memref sig .tc .vmem S1x1x34x34x64 .f32) (harg2 : arg2.IsWhole) (arg3 : Memref sig .tc .vmem S1x1x34x34x64 .f32) (harg3 : arg3.IsWhole) (arg4 : Memref sig .tc .vmem S1x1x34x34x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S3x3x3x64x128 .f32) (harg7 : arg7.IsWhole) (arg8 : Memref sig .tc .vmem S1x1x128 .f32) (harg8 : arg8.IsWhole) (arg9 : Memref sig .tc .vmem S1x2x128 .f32) (harg9 : arg9.IsWhole) (hc0 : ¬cond2_0 i) (hc1 : cond2_1 i) (hc2 : cond2_2 i)
    (x0 : Vec F S1x1x34x34x64 .f32) (x1 : Vec F S1x1x34x34x64 .f32) (x2 : Vec F S1x1x34x34x64 .f32) (x3 : Vec F S1x64 .f32) (x4 : Vec F S1x64 .f32) (x5 : Vec F S3x3x3x64x128 .f32) (xo7 : Vec F S1x2x128 .f32) : Vec F S1x2x128 .f32 :=
  VO2_7.read (Elt F) (VO2_7.writes (Elt F) VO2_7.junk (kernelRun2_C c i arg2 harg2 arg3 harg3 arg4 harg4 arg5 harg5 arg6 harg6 arg7 harg7 arg8 harg8 arg9 harg9 hc0 hc1 hc2 x0 x1 x2 x3 x4 x5 xo7).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before2_W_κ`); an output it leaves idle whose contents another case keeps stays
    what this leaves at `n - 1`, carried. An assignment of the conditions no point meets is no case (`False.elim`). -/
def outsAt2 (c : Dev nD) : (n : ℕ) → n < cfg2.N → Vec F S1x1x128 .f32 × Vec F S1x2x128 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) ((VO2_6.read (Elt F) VO2_6.junk, VO2_7.read (Elt F) VO2_7.junk) : Vec F S1x1x128 .f32 × Vec F S1x2x128 .f32).1, out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 16 = 0 then
      if h1 : 1 ≤ (n + 1) % 16 then
        False.elim (by have hN : n + 1 < 128 := lt_of_lt_of_eq hn (show cfg2.N = 128 from N_2); omega)
      else
        if h2 : (n + 1) % 16 = 8 then
          False.elim (by have hN : n + 1 < 128 := lt_of_lt_of_eq hn (show cfg2.N = 128 from N_2); omega)
        else
          (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).1, out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      if h1 : 1 ≤ (n + 1) % 16 then
        if h2 : (n + 1) % 16 = 8 then
          (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)
        else
          (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2 (outsAt2 c n (Nat.lt_of_succ_lt hn)).1, out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)
      else
        False.elim (by have hN : n + 1 < 128 := lt_of_lt_of_eq hn (show cfg2.N = 128 from N_2); omega)

/-- `outsAt2` at a point of case A: that case's contents, over what the point before left. -/
theorem outsAt2_A (c : Dev nD) (t : Fin cfg2.N) (h0 : t.val % 16 = 0) (h1 : ¬1 ≤ t.val % 16) (h2 : ¬t.val % 16 = 8) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (fun h => h1 ((hcond2_1 t).mp h)) (fun h => h2 ((hcond2_2 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).1, out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (fun h => h1 ((hcond2_1 t).mp h)) (fun h => h2 ((hcond2_2 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans ((dif_neg h1).trans ((dif_neg h2).trans rfl))

/-- `outsAt2` at a point of case B: that case's contents, over what the point before left. -/
theorem outsAt2_B (c : Dev nD) (t : Fin cfg2.N) (h0 : ¬t.val % 16 = 0) (h1 : 1 ≤ t.val % 16) (h2 : ¬t.val % 16 = 8) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) ((hcond2_1 t).mpr h1) (fun h => h2 ((hcond2_2 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2 (outsAt2 V c (t.val - 1) (Nat.lt_of_le_of_lt (Nat.sub_le _ _) t.isLt)).1, out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) ((hcond2_1 t).mpr h1) (fun h => h2 ((hcond2_2 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt2` at a point of case C: that case's contents, over what the point before left. -/
theorem outsAt2_C (c : Dev nD) (t : Fin cfg2.N) (h0 : ¬t.val % 16 = 0) (h1 : 1 ≤ t.val % 16) (h2 : t.val % 16 = 8) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) ((hcond2_1 t).mpr h1) ((hcond2_2 t).mpr h2) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) ((hcond2_1 t).mpr h1) ((hcond2_2 t).mpr h2) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-! ## The pipeline's proof data -/

/-- The proof data of pipeline 2 on core `c`: the arrays as the region finds them (`V`); after the body at
    point `t` each input's buffer at its block and the outputs' at `outsAt2`; the invariant
    (`ΦA`: the scoped rest and the generator register); nothing owed; each input's share of its array
    (`Pipeline.shareOf`: the full share of an array several windows stage, dealt among them). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2
  Φ _ := Pipeline.ΦA spec2 c
  q w := Pipeline.shareOf spec2 w
  owed _ := 0

/-- The proof data's arrays are the region-entry contents, by the definition. -/
theorem A_eq2 (c : Dev nD) (w : Fin cfg2.W) : (dat2 V c).A w = V c (Pipeline.arrRef spec2 w) := by
  dsimp only [dat2]

/-- What the body leaves, window bywindow. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- Output 6's contents CARRY through the points that leave it idle: at such a point, its buffer not fresh, the proof data's
    `after` is the point before's (the case there stores nothing into the window and its term says so; a case that stores
    into it is not idle there by `liveAt2_6_κ`) — the hypothesis of `Dat.before_out_traj`. -/
theorem hcarry2_6 (c : Dev nD) : ∀ (t : Fin cfg2.N) (_ : t.val ≠ 0), cfg2.idle 6 (grid2.coords t) = true → cfg2.fresh 6 t.val = false →
    (dat2 V c).after 6 t = (dat2 V c).after 6 ⟨t.val - 1, by omega⟩ := by
  intro t _ hi _
  have hN : t.val < 128 := lt_of_lt_of_eq t.isLt (show cfg2.N = 128 from N_2)
  rw [after2_6, after2_6]
  by_cases h0 : t.val % 16 = 0
  · by_cases h1 : 1 ≤ t.val % 16
    · exfalso; omega
    · by_cases h2 : t.val % 16 = 8
      · exfalso; omega
      · rw [outsAt2_A V c t h0 h1 h2]
        dsimp only
        unfold out2_A_6
        rfl
  · by_cases h1 : 1 ≤ t.val % 16
    · by_cases h2 : t.val % 16 = 8
      · rw [liveAt2_6_C t (fun h => h0 ((hcond2_0 t).mp h)) ((hcond2_1 t).mpr h1) ((hcond2_2 t).mpr h2)] at hi
        exact absurd hi Bool.false_ne_true
      · rw [outsAt2_B V c t h0 h1 h2]
        dsimp only
        unfold out2_B_6
        rfl
    · exfalso; omega

/-- Output 7's contents CARRY through the points that leave it idle: at such a point, its buffer not fresh, the proof data's
    `after` is the point before's (the case there stores nothing into the window and its term says so; a case that stores
    into it is not idle there by `liveAt2_7_κ`) — the hypothesis of `Dat.before_out_traj`. -/
theorem hcarry2_7 (c : Dev nD) : ∀ (t : Fin cfg2.N) (_ : t.val ≠ 0), cfg2.idle 7 (grid2.coords t) = true → cfg2.fresh 7 t.val = false →
    (dat2 V c).after 7 t = (dat2 V c).after 7 ⟨t.val - 1, by omega⟩ := by
  intro t _ hi _
  have hN : t.val < 128 := lt_of_lt_of_eq t.isLt (show cfg2.N = 128 from N_2)
  rw [after2_7, after2_7]
  by_cases h0 : t.val % 16 = 0
  · by_cases h1 : 1 ≤ t.val % 16
    · exfalso; omega
    · by_cases h2 : t.val % 16 = 8
      · exfalso; omega
      · rw [liveAt2_7_A t ((hcond2_0 t).mpr h0) (fun h => h1 ((hcond2_1 t).mp h)) (fun h => h2 ((hcond2_2 t).mp h))] at hi
        exact absurd hi Bool.false_ne_true
  · by_cases h1 : 1 ≤ t.val % 16
    · by_cases h2 : t.val % 16 = 8
      · rw [liveAt2_7_C t (fun h => h0 ((hcond2_0 t).mp h)) ((hcond2_1 t).mpr h1) ((hcond2_2 t).mpr h2)] at hi
        exact absurd hi Bool.false_ne_true
      · rw [liveAt2_7_B t (fun h => h0 ((hcond2_0 t).mp h)) ((hcond2_1 t).mpr h1) (fun h => h2 ((hcond2_2 t).mp h))] at hi
        exact absurd hi Bool.false_ne_true
    · exfalso; omega
/-- At a point of case B output 7's current staging buffer holds what the point before left: the buffer is not fresh
    there (`notFresh2_7_B`: stored into since the region's entry or the last write-back, carried through the points that
    leave it idle by `hcarry2_7`; `Dat.before_out_traj`). -/
theorem before2_7_B (c : Dev nD) (t : Fin cfg2.N) (h0 : ¬t.val % 16 = 0) (h1 : 1 ≤ t.val % 16) (h2 : ¬t.val % 16 = 8) (d) :
    (dat2 V c).before 7 t d = (outsAt2 V c (t.val - 1) (Nat.lt_of_le_of_lt (Nat.sub_le _ _) t.isLt)).2 := by
  rw [Dat.before_out_traj _ 7 rfl (fun _ _ => rfl) (hcarry2_7 V c) t.val t rfl d,
    if_neg (by rw [notFresh2_7_B t (fun h => h0 ((hcond2_0 t).mp h)) ((hcond2_1 t).mpr h1) (fun h => h2 ((hcond2_2 t).mp h))]; exact Bool.false_ne_true)]
  dsimp only [dat2]
/-- At a point of case C output 7's current staging buffer holds what the point before left: the buffer is not fresh
    there (`notFresh2_7_C`: stored into since the region's entry or the last write-back, carried through the points that
    leave it idle by `hcarry2_7`; `Dat.before_out_traj`). -/
theorem before2_7_C (c : Dev nD) (t : Fin cfg2.N) (h0 : ¬t.val % 16 = 0) (h1 : 1 ≤ t.val % 16) (h2 : t.val % 16 = 8) (d) :
    (dat2 V c).before 7 t d = (outsAt2 V c (t.val - 1) (Nat.lt_of_le_of_lt (Nat.sub_le _ _) t.isLt)).2 := by
  rw [Dat.before_out_traj _ 7 rfl (fun _ _ => rfl) (hcarry2_7 V c) t.val t rfl d,
    if_neg (by rw [notFresh2_7_C t (fun h => h0 ((hcond2_0 t).mp h)) ((hcond2_1 t).mpr h1) ((hcond2_2 t).mpr h2)]; exact Bool.false_ne_true)]
  dsimp only [dat2]

/-- At a point of case B output 6's buffer is handed back as it was found: away from a sample's last point the pipeline asks
    no more than that; at the last one it writes the block back, and what was found is what the trajectory says, carried from
    the sample's middle point. -/
theorem post2_6_B (c : Dev nD) (t : Fin cfg2.N) (h0 : ¬t.val % 16 = 0) (h1 : 1 ≤ t.val % 16) (h2 : ¬t.val % 16 = 8) (d) :
    owns (c : Thread nD τ) (ms2_6 t) fullShare ((dat2 V c).before 6 t d) ⊢ ((dat2 V c).leavesExact 6 t : sProp 𝕄) := by
  have hi := idleAt2_6_B t (fun h => h0 ((hcond2_0 t).mp h)) ((hcond2_1 t).mpr h1) (fun h => h2 ((hcond2_2 t).mp h))
  by_cases h15 : t.val % 16 = 15
  · rw [show (dat2 V c).leavesExact 6 t = owns (c : Thread nD τ) (ms2_6 t) fullShare ((dat2 V c).after 6 t) from by
      unfold Dat.leavesExact; rw [hi, (flush2_6 t).mpr h15]]
    rw [Dat.before_out_traj _ 6 rfl (fun _ _ => rfl) (hcarry2_6 V c) t.val t rfl d,
      if_neg (by rw [notFresh2_6 t h15]; exact Bool.false_ne_true),
      hcarry2_6 V c t (by omega) hi (notFresh2_6 t h15)]
  · rw [Dat.leavesExact_idle (dat2 V c) 6 t hi (noFlush2_6_B t (fun h => h0 ((hcond2_0 t).mp h)) ((hcond2_1 t).mpr h1) (fun h => h2 ((hcond2_2 t).mp h)) h15)]
    iintro H; iexists _; iexact H

/-! ## The body obligation, at a generic point -/

/-- What the body is called with at point `t` (`BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 2400000 in
/-- The body at any point: the inputs' memrefs hold their blocks (`before2_W`); the closed forms say which case the point is in (`by_cases`), an output the case reads before covering holds what the point before left (`before2_W_κ`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl]
  have hN : t.val < 128 := lt_of_lt_of_eq t.isLt (show cfg2.N = 128 from N_2)
  by_cases h0 : t.val % 16 = 0
  · by_cases h1 : 1 ≤ t.val % 16
    · exfalso; omega
    · by_cases h2 : t.val % 16 = 8
      · exfalso; omega
      · rw [show (dat2 V c).leavesExact 0 t = owns (c : Thread nD τ) (ms2_0 t) fullShare ((dat2 V c).after 0 t) from by
      unfold Dat.leavesExact; rw [liveAt2_0 t], after2_0]
        rw [show (dat2 V c).leavesExact 1 t = owns (c : Thread nD τ) (ms2_1 t) fullShare ((dat2 V c).after 1 t) from by
      unfold Dat.leavesExact; rw [liveAt2_1 t], after2_1]
        rw [show (dat2 V c).leavesExact 2 t = owns (c : Thread nD τ) (ms2_2 t) fullShare ((dat2 V c).after 2 t) from by
      unfold Dat.leavesExact; rw [liveAt2_2 t], after2_2]
        rw [show (dat2 V c).leavesExact 3 t = owns (c : Thread nD τ) (ms2_3 t) fullShare ((dat2 V c).after 3 t) from by
      unfold Dat.leavesExact; rw [liveAt2_3 t], after2_3]
        rw [show (dat2 V c).leavesExact 4 t = owns (c : Thread nD τ) (ms2_4 t) fullShare ((dat2 V c).after 4 t) from by
      unfold Dat.leavesExact; rw [liveAt2_4 t], after2_4]
        rw [show (dat2 V c).leavesExact 5 t = owns (c : Thread nD τ) (ms2_5 t) fullShare ((dat2 V c).after 5 t) from by
      unfold Dat.leavesExact; rw [liveAt2_5 t], after2_5]
        rw [Dat.leavesExact_idle (dat2 V c) 6 t (idleAt2_6_A t ((hcond2_0 t).mpr h0) (fun h => h1 ((hcond2_1 t).mp h)) (fun h => h2 ((hcond2_2 t).mp h))) (noFlush2_6_A t ((hcond2_0 t).mpr h0) (fun h => h1 ((hcond2_1 t).mp h)) (fun h => h2 ((hcond2_2 t).mp h)))]
        rw [show (dat2 V c).leavesExact 7 t = owns (c : Thread nD τ) (ms2_7 t) fullShare ((dat2 V c).after 7 t) from by
      unfold Dat.leavesExact; rw [liveAt2_7_A t ((hcond2_0 t).mpr h0) (fun h => h1 ((hcond2_1 t).mp h)) (fun h => h2 ((hcond2_2 t).mp h))], after2_7]
        rw [outsAt2_A V c t h0 h1 h2]
        unfold out2_A_7; (try dsimp only)
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_A c (grid2.coords t) _ _ _ _ _ _ _ _ _ _ _ _ _ _ _ _ ((hcond2_0 t).mpr h0) (fun h => h1 ((hcond2_1 t).mp h)) (fun h => h2 ((hcond2_2 t).mp h)) (iblk2 V c 0 t) (iblk2 V c 1 t) (iblk2 V c 2 t) (iblk2 V c 3 t) (iblk2 V c 4 t) (iblk2 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        iintro ⟨H0, H1, H2, H3, H4, H5, H6, ⟨%e7, H7⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        unfold owns; iexists _; isplitr
        swap; · iexact H7
        ipureintro; exact View.read_writes_of_cover _ _ _ _ _ (cover2_A_7 c _ _ _ _ _ _ _ _ _ _ _ _ _ _ _ _ _ _ _ _ _ _ _ _ _ _)
  · by_cases h1 : 1 ≤ t.val % 16
    · by_cases h2 : t.val % 16 = 8
      · rw [show (dat2 V c).leavesExact 0 t = owns (c : Thread nD τ) (ms2_0 t) fullShare ((dat2 V c).after 0 t) from by
      unfold Dat.leavesExact; rw [liveAt2_0 t], after2_0]
        rw [show (dat2 V c).leavesExact 1 t = owns (c : Thread nD τ) (ms2_1 t) fullShare ((dat2 V c).after 1 t) from by
      unfold Dat.leavesExact; rw [liveAt2_1 t], after2_1]
        rw [show (dat2 V c).leavesExact 2 t = owns (c : Thread nD τ) (ms2_2 t) fullShare ((dat2 V c).after 2 t) from by
      unfold Dat.leavesExact; rw [liveAt2_2 t], after2_2]
        rw [show (dat2 V c).leavesExact 3 t = owns (c : Thread nD τ) (ms2_3 t) fullShare ((dat2 V c).after 3 t) from by
      unfold Dat.leavesExact; rw [liveAt2_3 t], after2_3]
        rw [show (dat2 V c).leavesExact 4 t = owns (c : Thread nD τ) (ms2_4 t) fullShare ((dat2 V c).after 4 t) from by
      unfold Dat.leavesExact; rw [liveAt2_4 t], after2_4]
        rw [show (dat2 V c).leavesExact 5 t = owns (c : Thread nD τ) (ms2_5 t) fullShare ((dat2 V c).after 5 t) from by
      unfold Dat.leavesExact; rw [liveAt2_5 t], after2_5]
        rw [show (dat2 V c).leavesExact 6 t = owns (c : Thread nD τ) (ms2_6 t) fullShare ((dat2 V c).after 6 t) from by
      unfold Dat.leavesExact; rw [liveAt2_6_C t (fun h => h0 ((hcond2_0 t).mp h)) ((hcond2_1 t).mpr h1) ((hcond2_2 t).mpr h2)], after2_6]
        rw [show (dat2 V c).leavesExact 7 t = owns (c : Thread nD τ) (ms2_7 t) fullShare ((dat2 V c).after 7 t) from by
      unfold Dat.leavesExact; rw [liveAt2_7_C t (fun h => h0 ((hcond2_0 t).mp h)) ((hcond2_1 t).mpr h1) ((hcond2_2 t).mpr h2)], after2_7]
        rw [outsAt2_C V c t h0 h1 h2]
        simp only [before2_7_C V c t h0 h1 h2]
        unfold out2_C_6 out2_C_7; (try dsimp only)
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_C c (grid2.coords t) _ _ _ _ _ _ _ _ _ _ _ _ _ _ _ _ (fun h => h0 ((hcond2_0 t).mp h)) ((hcond2_1 t).mpr h1) ((hcond2_2 t).mpr h2) (iblk2 V c 0 t) (iblk2 V c 1 t) (iblk2 V c 2 t) (iblk2 V c 3 t) (iblk2 V c 4 t) (iblk2 V c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        iintro ⟨H0, H1, H2, H3, H4, H5, ⟨%e6, H6⟩, ⟨%e7, H7⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover2_C_6 c _ _ _ _ _ _ _ _ _ _ _ _ _ _ _ _ _ _ _ _ _ _ _ _ _ _ _)
        unfold owns; iexists _; isplitr
        swap; · iexact H7
        ipureintro; exact View.read_writes_of_cover _ _ _ _ _ (cover2_C_7 c _ _ _ _ _ _ _ _ _ _ _ _ _ _ _ _ _ _ _ _ _ _ _ _ _ _ _)
      · rw [show (dat2 V c).leavesExact 0 t = owns (c : Thread nD τ) (ms2_0 t) fullShare ((dat2 V c).after 0 t) from by
      unfold Dat.leavesExact; rw [liveAt2_0 t], after2_0]
        rw [show (dat2 V c).leavesExact 1 t = owns (c : Thread nD τ) (ms2_1 t) fullShare ((dat2 V c).after 1 t) from by
      unfold Dat.leavesExact; rw [liveAt2_1 t], after2_1]
        rw [show (dat2 V c).leavesExact 2 t = owns (c : Thread nD τ) (ms2_2 t) fullShare ((dat2 V c).after 2 t) from by
      unfold Dat.leavesExact; rw [liveAt2_2 t], after2_2]
        rw [show (dat2 V c).leavesExact 3 t = owns (c : Thread nD τ) (ms2_3 t) fullShare ((dat2 V c).after 3 t) from by
      unfold Dat.leavesExact; rw [liveAt2_3 t], after2_3]
        rw [show (dat2 V c).leavesExact 4 t = owns (c : Thread nD τ) (ms2_4 t) fullShare ((dat2 V c).after 4 t) from by
      unfold Dat.leavesExact; rw [liveAt2_4 t], after2_4]
        rw [show (dat2 V c).leavesExact 5 t = owns (c : Thread nD τ) (ms2_5 t) fullShare ((dat2 V c).after 5 t) from by
      unfold Dat.leavesExact; rw [liveAt2_5 t], after2_5]
        rw [show (dat2 V c).leavesExact 7 t = owns (c : Thread nD τ) (ms2_7 t) fullShare ((dat2 V c).after 7 t) from by
      unfold Dat.leavesExact; rw [liveAt2_7_B t (fun h => h0 ((hcond2_0 t).mp h)) ((hcond2_1 t).mpr h1) (fun h => h2 ((hcond2_2 t).mp h))], after2_7]
        rw [outsAt2_B V c t h0 h1 h2]
        simp only [before2_7_B V c t h0 h1 h2]
        unfold out2_B_7; (try dsimp only)
        iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun2_B c (grid2.coords t) _ _ _ _ _ _ _ _ _ _ _ _ _ _ _ _ (fun h => h0 ((hcond2_0 t).mp h)) ((hcond2_1 t).mpr h1) (fun h => h2 ((hcond2_2 t).mp h)) (iblk2 V c 0 t) (iblk2 V c 1 t) (iblk2 V c 2 t) (iblk2 V c 3 t) (iblk2 V c 4 t) (iblk2 V c 5 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iintro ⟨H0, H1, H2, H3, H4, H5, H6, ⟨%e7, H7⟩⟩
        isplitl [HΦ]; · iexact HΦ
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iapply (post2_6_B V c t h0 h1 h2 _); iexact H6
        unfold owns; iexists _; isplitr
        swap; · iexact H7
        ipureintro; exact View.read_writes_of_cover _ _ _ _ _ (cover2_B_7 c _ _ _ _ _ _ _ _ _ _ _ _ _ _ _ _ _ _ _ _ _ _ _ _ _ _ _)
    · exfalso; omega

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The body obligation, at every point: the body's triple restated. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.Ideal.Region3.lean ====
/- The last call: its blocks, its body, and what it leaves. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3_body` (pipeline 3), at the entry contents `V` -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): `Dat.before_in_eq_fetched` (unfetched, the index has not moved), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for ANY proof
    data whose array is `V`'s (`hA`) and whose body leaves the block in place (`hafter`): `Dat.before_in_eq_fetched` (unfetched, the index has not moved), the window uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S8x128 := Rect.unit (s := S8x128) ![0, 0] S8x128.size inb_S8x128_S8x128_0_0
abbrev r3_1 : Rect S1x128 := Rect.unit (s := S1x128) ![0, 0] S1x128.size inb_S1x128_S1x128_0_0
abbrev r3_2 : Rect S128x256 := Rect.unit (s := S128x256) ![0, 0] S128x256.size inb_S128x256_S128x256_0_0
abbrev r3_3 : Rect S1x256 := Rect.unit (s := S1x256) ![0, 0] S1x256.size inb_S1x256_S1x256_0_0
abbrev r3_4 : Rect S8x256 := Rect.unit (s := S8x256) ![0, 0] S8x256.size inb_S8x256_S8x256_0_0

/-! ## What the body leaves in each output window's buffer -/

/-- Window 5's staging buffer after the body, from the input windows' blocks: its 1 store as pieces, LAST
    FIRST (`View.canon`; the payloads are the skeleton's). -/
def out3_5 (x0 : Vec F S8x128 .f32) (x1 : Vec F S1x128 .f32) (x2 : Vec F S1x128 .f32) (x3 : Vec F S128x256 .f32) (x4 : Vec F S1x256 .f32) : Vec F S8x256 .f32 :=
  View.canon [⟨r3_4, k3_pay1 (View.ld x0 r3_0) (View.ld x1 r3_1) (View.ld x2 r3_1) (View.ld x3 r3_2) (View.ld x4 r3_3)⟩]

/-- Its stores tile the buffer (checked by evaluation), so they cover it. -/
theorem cover3_5 (p0 : Vec F S8x256 .f32) (y : S8x256.Idx) :
    ∃ pc ∈ ([⟨r3_4, p0⟩] : List (View.Piece (Elt F) S8x256 .f32)), y ∈ pc.1.set :=
  View.cover_of_tiled [⟨r3_4, p0⟩] S8x256.size (by rfl) y

/-! ## The body's triple -/

set_option maxHeartbeats 1000000 in
/-- The kernel body on whole staging memrefs, the inputs' at read contents `xW` and the outputs' at anything, runs to
    the continuation holding the inputs' as they were and each output's at `out3_W` of the inputs': the functions
    are their skeletons (`Gen.*_eq_skeleton`). -/
theorem sound_kernel3 (c : Dev nD) (E : Set ℕ) (arg0 : Memref sig .tc .vmem S8x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S128x256 .f32) (harg3 : arg3.IsWhole) (arg4 : Memref sig .tc .vmem S1x256 .f32) (harg4 : arg4.IsWhole) (arg5 : Memref sig .tc .vmem S8x256 .f32) (harg5 : arg5.IsWhole)
    (x0 : Vec F S8x128 .f32) (x1 : Vec F S1x128 .f32) (x2 : Vec F S1x128 .f32) (x3 : Vec F S128x256 .f32) (x4 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out3_5 x0 x1 x2 x3 x4)) -∗ K ⟨⟩))
      ⊢ wp frame (wpE (defs₀ (F := F)) Variants.none c none) E (cc3_body arg0 harg0 arg1 harg1 arg2 harg2 arg3 harg3 arg4 harg4 arg5 harg5) K := by
  simp only [cc3_body_eq_skeleton]; unfold cc3_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at
    point `t` each input's buffer at its block and each output's at `out3_W` of the input blocks; the invariant the
    class's (`ΦA`: the scoped rest and the generator register, untouched); nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents, by the definition. -/
theorem A_eq3 (c : Dev nD) (w : Fin cfg3.W) : (dat3 V c).A w = V c (Pipeline.arrRef spec3 w) := by
  dsimp only [dat3]

/-- What the body leaves, window bywindow. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t` (`BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The body obligation, at every point: the body's triple restated. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Gen

end
-- ==== Proof.Ideal.Hosts0.lean ====
/- The stretches of host operations: what each writes, and that none writes an argument. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_c]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v1]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v2, main_v3, main_v4, main_v5, main_v6]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_cst, main_v8, main_v9, main_v10, main_cst_0, main_v11, main_v12, main_v13, main_v14, main_cst_1, main_v15, main_v16, main_v17, main_v18, main_cst_2, main_v19, main_v20, main_v21, main_v22, main_v23, main_v24, main_v25, main_v26]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_cst_3, main_v28, main_v29, main_v30, main_cst_4, main_v31, main_v32, main_v33, main_v34, main_cst_5, main_v35, main_v36, main_v37, main_v38, main_cst_6, main_v39, main_v40, main_v41, main_v42, main_v43, main_v44, main_v45, main_v46]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_cst_7, main_v48, main_v49, main_v50, main_cst_8, main_v51, main_v52, main_v53, main_v54, main_cst_9, main_v55, main_v56, main_v57, main_v58, main_cst_10, main_v59, main_v60, main_v61, main_v62, main_v63, main_v64, main_v65, main_v66, main_v67, main_v68, main_v69]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

end Cert.KernelIdeal.Gen

end
-- ==== Proof.Ideal.Fold0.lean ====
/- What every buffer holds between the items of the program, as a fold from the launch. -/
module

public import proofs.«01_k».proof.Proof.Ideal.Region0
public import proofs.«01_k».proof.Proof.Ideal.Region1
public import proofs.«01_k».proof.Proof.Ideal.Region2
public import proofs.«01_k».proof.Proof.Ideal.Region3
public import proofs.«01_k».proof.Proof.Ideal.Hosts0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact (dat0 (V3 m ρ) c).withArrays_arrAt launch₀0.sharedIn _ (A_eq0 (V3 m ρ) c) w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): the two hypotheses of `unscopedBufs_of_arrays_shared`. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1` (region 1's entry). -/
abbrev W5 : Dev nD → Valuation τ sig (Elt F) := fun c => StableHlo.after hostOps1 (W4 m ρ c)
/-- A reference `hostOps1` does not write keeps its contents across it. -/
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W5_args (c : Dev nD) : ∀ a ∈ argRefs, W5 m ρ c (Proc.devRef .tc a) = m ((c : Thread nD τ).loc a) :=
  fun a ha => (W5_of m ρ c a (hostOps1_args a ha)).trans (W4_args m ρ c a ha)
/-- The same read at the TensorCore's references (what region 1's proof data take). -/
abbrev V5 : (c : Dev nD) → (b : Ref sig .tc) → Buf (Elt F) ((c : Thread nD τ).loc b) := fun c b => W5 m ρ c b
/-- At region 1's exit: its arrays at what the pipeline leaves (the inputs as entered, each output's write-backs
    folded: `Dat.arrAt … N`), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact (dat1 (V5 m ρ) c).withArrays_arrAt launch₀1.sharedIn _ (A_eq1 (V5 m ρ) c) w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- A reference that is none of region 1's OUTPUT arrays keeps its entry contents across it: an input window's
    array is never written back (`Dat.arrAt_in`, `A_eq1`); any other buffer is left as is. -/
theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (A_eq1 (V5 m ρ) c w))
  · exact W6_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn1 a ha)).trans (W5_args m ρ c a ha)
/-- The same read at the TensorCore's references (region 1's exit contents). -/
abbrev V6 : (c : Dev nD) → (b : Ref sig .tc) → Buf (Elt F) ((c : Thread nD τ).loc b) := fun c b => W6 m ρ c b
/-- At region 1's exit each of its arrays holds what the pipeline leaves (`hF1`) and every other buffer what it
    held at entry (`hrest1`): the two hypotheses of `unscopedBufs_of_arrays_shared`. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After `hostOps2` (region 2's entry). -/
abbrev W7 : Dev nD → Valuation τ sig (Elt F) := fun c => StableHlo.after hostOps2 (W6 m ρ c)
/-- A reference `hostOps2` does not write keeps its contents across it. -/
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W7_args (c : Dev nD) : ∀ a ∈ argRefs, W7 m ρ c (Proc.devRef .tc a) = m ((c : Thread nD τ).loc a) :=
  fun a ha => (W7_of m ρ c a (hostOps2_args a ha)).trans (W6_args m ρ c a ha)
/-- The same read at the TensorCore's references (what region 2's proof data take). -/
abbrev V7 : (c : Dev nD) → (b : Ref sig .tc) → Buf (Elt F) ((c : Thread nD τ).loc b) := fun c b => W7 m ρ c b
/-- At region 2's exit: its arrays at what the pipeline leaves (the inputs as entered, each output's write-backs
    folded: `Dat.arrAt … N`), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact (dat2 (V7 m ρ) c).withArrays_arrAt launch₀2.sharedIn _ (A_eq2 (V7 m ρ) c) w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- A reference that is none of region 2's OUTPUT arrays keeps its entry contents across it: an input window's
    array is never written back (`Dat.arrAt_in`, `A_eq2`); any other buffer is left as is. -/
theorem W8_of (c : Dev nD) (r : Ref sig .tc) (h : ∀ w : Fin cfg2.W, Pipeline.arrRef spec2 w = r → (cfg2.win w).isOut = false) :
    W8 m ρ c (Proc.devRef .tc r) = W7 m ρ c (Proc.devRef .tc r) := by
  by_cases hw : ∃ w : Fin cfg2.W, Pipeline.arrRef spec2 w = r
  · obtain ⟨w, rfl⟩ := hw
    exact (W8_arr m ρ c w).trans (((dat2 (V7 m ρ) c).arrAt_in w (h w rfl) _).trans (A_eq2 (V7 m ρ) c w))
  · exact W8_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn2 a ha)).trans (W7_args m ρ c a ha)
/-- The same read at the TensorCore's references (region 2's exit contents). -/
abbrev V8 : (c : Dev nD) → (b : Ref sig .tc) → Buf (Elt F) ((c : Thread nD τ).loc b) := fun c b => W8 m ρ c b
/-- At region 2's exit each of its arrays holds what the pipeline leaves (`hF2`) and every other buffer what it
    held at entry (`hrest2`): the two hypotheses of `unscopedBufs_of_arrays_shared`. -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After `hostOps3` (region 3's entry). -/
abbrev W9 : Dev nD → Valuation τ sig (Elt F) := fun c => StableHlo.after hostOps3 (W8 m ρ c)
/-- A reference `hostOps3` does not write keeps its contents across it. -/
theorem W9_of (c : Dev nD) (r : Ref sig .tc) (h : r ∉ hostOps3_W) : W9 m ρ c (Proc.devRef .tc r) = W8 m ρ c (Proc.devRef .tc r) :=
  StableHlo.after_of_writes_sub hostOps3 _ hostOps3_writes h
theorem W9_args (c : Dev nD) : ∀ a ∈ argRefs, W9 m ρ c (Proc.devRef .tc a) = m ((c : Thread nD τ).loc a) :=
  fun a ha => (W9_of m ρ c a (hostOps3_args a ha)).trans (W8_args m ρ c a ha)
/-- The same read at the TensorCore's references (what region 3's proof data take). -/
abbrev V9 : (c : Dev nD) → (b : Ref sig .tc) → Buf (Elt F) ((c : Thread nD τ).loc b) := fun c b => W9 m ρ c b
/-- At region 3's exit: its arrays at what the pipeline leaves (the inputs as entered, each output's write-backs
    folded: `Dat.arrAt … N`), every other buffer as entered. -/
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
/-- A reference that is none of region 3's OUTPUT arrays keeps its entry contents across it: an input window's
    array is never written back (`Dat.arrAt_in`, `A_eq3`); any other buffer is left as is. -/
theorem W10_of (c : Dev nD) (r : Ref sig .tc) (h : ∀ w : Fin cfg3.W, Pipeline.arrRef spec3 w = r → (cfg3.win w).isOut = false) :
    W10 m ρ c (Proc.devRef .tc r) = W9 m ρ c (Proc.devRef .tc r) := by
  by_cases hw : ∃ w : Fin cfg3.W, Pipeline.arrRef spec3 w = r
  · obtain ⟨w, rfl⟩ := hw
    exact (W10_arr m ρ c w).trans (((dat3 (V9 m ρ) c).arrAt_in w (h w rfl) _).trans (A_eq3 (V9 m ρ) c w))
  · exact W10_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn3 a ha)).trans (W9_args m ρ c a ha)
/-- The same read at the TensorCore's references (region 3's exit contents). -/
abbrev V10 : (c : Dev nD) → (b : Ref sig .tc) → Buf (Elt F) ((c : Thread nD τ).loc b) := fun c b => W10 m ρ c b
/-- At region 3's exit each of its arrays holds what the pipeline leaves (`hF3`) and every other buffer what it
    held at entry (`hrest3`): the two hypotheses of `unscopedBufs_of_arrays`. -/
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

/-! ### The arguments end as launched: no host stretch writes one and no region may change one (a region reads it
    through an input window or bypasses it) -/

theorem W10_main_arg0 (c : Dev nD) : W10 m ρ c (Proc.devRef .tc main_arg0) = m ((c : Thread nD τ).loc main_arg0) :=
  W10_args m ρ c main_arg0 (by decide)
theorem W10_main_arg1 (c : Dev nD) : W10 m ρ c (Proc.devRef .tc main_arg1) = m ((c : Thread nD τ).loc main_arg1) :=
  W10_args m ρ c main_arg1 (by decide)
theorem W10_main_arg2 (c : Dev nD) : W10 m ρ c (Proc.devRef .tc main_arg2) = m ((c : Thread nD τ).loc main_arg2) :=
  W10_args m ρ c main_arg2 (by decide)
theorem W10_main_arg3 (c : Dev nD) : W10 m ρ c (Proc.devRef .tc main_arg3) = m ((c : Thread nD τ).loc main_arg3) :=
  W10_args m ρ c main_arg3 (by decide)
theorem W10_main_arg4 (c : Dev nD) : W10 m ρ c (Proc.devRef .tc main_arg4) = m ((c : Thread nD τ).loc main_arg4) :=
  W10_args m ρ c main_arg4 (by decide)
theorem W10_main_arg5 (c : Dev nD) : W10 m ρ c (Proc.devRef .tc main_arg5) = m ((c : Thread nD τ).loc main_arg5) :=
  W10_args m ρ c main_arg5 (by decide)
theorem W10_main_arg6 (c : Dev nD) : W10 m ρ c (Proc.devRef .tc main_arg6) = m ((c : Thread nD τ).loc main_arg6) :=
  W10_args m ρ c main_arg6 (by decide)
theorem W10_main_arg7 (c : Dev nD) : W10 m ρ c (Proc.devRef .tc main_arg7) = m ((c : Thread nD τ).loc main_arg7) :=
  W10_args m ρ c main_arg7 (by decide)
theorem W10_main_arg8 (c : Dev nD) : W10 m ρ c (Proc.devRef .tc main_arg8) = m ((c : Thread nD τ).loc main_arg8) :=
  W10_args m ρ c main_arg8 (by decide)
theorem W10_main_arg9 (c : Dev nD) : W10 m ρ c (Proc.devRef .tc main_arg9) = m ((c : Thread nD τ).loc main_arg9) :=
  W10_args m ρ c main_arg9 (by decide)
theorem W10_main_arg10 (c : Dev nD) : W10 m ρ c (Proc.devRef .tc main_arg10) = m ((c : Thread nD τ).loc main_arg10) :=
  W10_args m ρ c main_arg10 (by decide)
theorem W10_main_arg11 (c : Dev nD) : W10 m ρ c (Proc.devRef .tc main_arg11) = m ((c : Thread nD τ).loc main_arg11) :=
  W10_args m ρ c main_arg11 (by decide)
end Cert.KernelIdeal.Gen

end
-- ==== Proof.Ideal.State.lean ====
/- The proof data of the four calls and what is held between the items of the program. -/
module

public import proofs.«01_k».proof.Proof.Ideal.Fold0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that
    `Pipeline.pin pcfgs adm p` at a numeral reduces to the configuration. -/
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the
    invariant of a call takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the chain ends at it beside the core owing nothing): every unscoped
    buffer at the last boundary's contents `W10`, the generator register at some state. -/
abbrev Tₙ (c : Dev nD) : sProp 𝕄 := iprop(StableHlo.held (c : Thread nD τ) (Pipeline.ucRefs τ sig) (W10 m ρ c) ∗ ∃ r, prngReg c r)

end Cert.KernelIdeal.Gen

end
-- ==== Proof.Ideal.Record0.lean ====
/- The first call as an item of the program. -/
module

public import proofs.«01_k».proof.Proof.Ideal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

set_option backward.isDefEq.respectTransparency.types false in
/-- REGION 0 (custom_call 0) over the thread state: entered from every unscoped buffer at `W3`, left at `W4`
    (what the next segment is entered from). Its arrays split out of the unscoped buffers
    (`arrays_of_unscopedBufs_shared`) and put back at the exit contents (`unscopedBufs_of_arrays_shared`; its input windows on one array (`launch₀0.sharedIn`) each dealt their share of it, `Pipeline.shareOf`, by the proof data); the generator register into the
    invariant `ΦA` and out; nothing owed; no semaphore of the kernel's own. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Ideal.Record1.lean ====
/- The second call as an item of the program. -/
module

public import proofs.«01_k».proof.Proof.Ideal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- REGION 1 (custom_call 1) over the thread state: entered from every unscoped buffer at `W5`, left at `W6`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V5 m ρ c) (A_eq1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Ideal.Record2.lean ====
/- The third call as an item of the program. -/
module

public import proofs.«01_k».proof.Proof.Ideal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- REGION 2 (custom_call 2) over the thread state: entered from every unscoped buffer at `W7`, left at `W8`
    (what the next segment is entered from). Its arrays split out of the unscoped buffers
    (`arrays_of_unscopedBufs_shared`) and put back at the exit contents (`unscopedBufs_of_arrays_shared`; its input windows on one array (`launch₀2.sharedIn`) each dealt their share of it, `Pipeline.shareOf`, by the proof data); the generator register into the
    invariant `ΦA` and out; nothing owed; no semaphore of the kernel's own. -/
def reg2 : Pipeline.RegionSeg (pcfgs (F := F)) adm (pdats m ρ) () defs₀ 𝒱₀ L lv 2 where
  win := launch₀2.win
  block_pos := launch₀2.block_pos
  stage_whole := launch₀2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs_shared (p := 2) (pcfgs (F := F)) adm (pdats m ρ) launch₀2.win launch₀2.sharedIn launch₀2.arr_whole c
      (fun _ _ => rfl) (V7 m ρ c) (A_eq2 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays_shared (p := 2) (pcfgs (F := F)) adm (Ix := Unit) (Name := ℕ) (U := UR sig nD τ) (Lvl := ℕ)
      launch₀2.win launch₀2.sharedIn launch₀2.arr_whole c (pdats m ρ) (fun _ _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Ideal.Record3.lean ====
/- The last call as an item of the program. -/
module

public import proofs.«01_k».proof.Proof.Ideal.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- REGION 3 (custom_call 3) over the thread state: entered from every unscoped buffer at `W9`, left at `W10`
    (what the launch reads at the end). Its arrays split out of the unscoped buffers
    (`arrays_of_unscopedBufs`) and put back at the exit contents (`unscopedBufs_of_arrays`); the generator register into the
    invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) (A_eq3 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Gen

end
-- ==== Proof.Ideal.Frame.lean ====
/- The run of the whole program: what every buffer ends with, and the frame. -/
module

public import proofs.«01_k».proof.Proof.Ideal.Record0
public import proofs.«01_k».proof.Proof.Ideal.Record1
public import proofs.«01_k».proof.Proof.Ideal.Record2
public import proofs.«01_k».proof.Proof.Ideal.Record3

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 10 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ) ]
/-- @main IS the run of the segments: `Gen.main_chain`, which is the segments' run. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- What every run of @main ends with, at any arithmetic: every buffer that is not scoped holds what the fold through the
    items of @main (`W10`) says, and every semaphore counter is zero. The launch over the segments, the last thread state read
    against the final state. -/
theorem reach : θ_run defs (onTc (τ := τ) (main (F := F))) ⟨m, fun _ => 0, ρ⟩ (fun r =>
      (∀ c : Dev nD, ∀ b ∈ Pipeline.ucRefs τ sig, r.2.mem (((c : Thread nD τ)).1, b) = W10 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨h, funext fun g => hz g (.inr (no_unscoped g.2))⟩)

/-- The frame: the argument arrays end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c =>
      ⟨(h.1 c _ (mem_uc main_arg0 (by decide))).trans (W10_main_arg0 m ρ c),
       (h.1 c _ (mem_uc main_arg1 (by decide))).trans (W10_main_arg1 m ρ c),
       (h.1 c _ (mem_uc main_arg2 (by decide))).trans (W10_main_arg2 m ρ c),
       (h.1 c _ (mem_uc main_arg3 (by decide))).trans (W10_main_arg3 m ρ c),
       (h.1 c _ (mem_uc main_arg4 (by decide))).trans (W10_main_arg4 m ρ c),
       (h.1 c _ (mem_uc main_arg5 (by decide))).trans (W10_main_arg5 m ρ c),
       (h.1 c _ (mem_uc main_arg6 (by decide))).trans (W10_main_arg6 m ρ c),
       (h.1 c _ (mem_uc main_arg7 (by decide))).trans (W10_main_arg7 m ρ c),
       (h.1 c _ (mem_uc main_arg8 (by decide))).trans (W10_main_arg8 m ρ c),
       (h.1 c _ (mem_uc main_arg9 (by decide))).trans (W10_main_arg9 m ρ c),
       (h.1 c _ (mem_uc main_arg10 (by decide))).trans (W10_main_arg10 m ρ c),
       (h.1 c _ (mem_uc main_arg11 (by decide))).trans (W10_main_arg11 m ρ c)⟩, h.2⟩) (reach m ρ)

end Cert.KernelIdeal.Gen

end
-- ==== Proof.Frame.Same.lean ====
/- The kernel program and its idealization carry out the same operations, since no rewriting rule is applied between
   them: the claim about the one is, word for word, the claim about the other. -/
module

public import proofs.«01_k».proof.Proof.Gen.Kernel
public import proofs.«01_k».proof.Proof.Gen.KernelIdeal
public import proofs.«01_k».proof.Defs
public import Idealize.ShloMosaic.Lib.Pipeline.Regions

@[expose] public section

set_option maxRecDepth 16384

namespace Cert.Same

open Idealize.ShloMosaic Idealize.ShloMosaic.TcCoe Idealize.SL.Sem

/-- The frame of the kernel on machine words is the frame of the idealized program on machine words. -/
theorem frame_eq [Cert.Kernel.Facts] [Cert.KernelIdeal.Facts] :
    (∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0))
    = (∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)) := by
  chain_rfl

end Cert.Same

end
-- ==== Proof.Value.Spec.lean ====
/- The network's mathematics over the extended reals: the padded volume, the 3x3x3 convolution, and the normalisation
   with rectifier, as functions of an array's coordinates; and the laws the proof needs of them: finite arrays stay
   finite, and the two ways of writing the normalisation agree on finite arrays. -/
module

public import Idealize.ShloMosaic.PureOps.Ideal
public import Idealize.ShloMosaic.PureOps.Ideal.Laws
public import Idealize.ShloMosaic.Lib.Pointwise

@[expose] public section

noncomputable section

namespace Cert.Net

open Idealize.ShloMosaic

/-! ## Finite values -/

/-- The value is a real number. -/
def Rl (a : EReal) : Prop := ∃ r : ℝ, a = (r : EReal)

/-- Zero is real. -/
theorem Rl.zero : Rl 0 := ⟨0, rfl⟩

/-- So are sums of reals, -/
theorem Rl.add {a b : EReal} : Rl a → Rl b → Rl (a + b) := by
  rintro ⟨x, rfl⟩ ⟨y, rfl⟩; exact ⟨x + y, (EReal.coe_add x y).symm⟩

/-- products, -/
theorem Rl.mul {a b : EReal} : Rl a → Rl b → Rl (a * b) := by
  rintro ⟨x, rfl⟩ ⟨y, rfl⟩; exact ⟨x * y, (EReal.coe_mul x y).symm⟩

/-- the larger of two, -/
theorem Rl.sup {a b : EReal} (ha : Rl a) (hb : Rl b) : Rl (max a b) := by
  rcases max_choice a b with h | h <;> rw [h] <;> assumption

/-- and finite sums. -/
theorem Rl.sum {ι : Type} (s : Finset ι) {f : ι → EReal} (h : ∀ i, Rl (f i)) : Rl (∑ i ∈ s, f i) := by
  classical
  induction s using Finset.induction_on with
  | empty => simpa using Rl.zero
  | insert a s ha ih => rw [Finset.sum_insert ha]; exact (h a).add ih

/-- A number whose absolute value is below infinity is real. -/
theorem Rl.of_abs_lt {a : EReal} (h : max a (-a) < ⊤) : Rl a := by
  induction a using EReal.rec with
  | bot => simp at h
  | coe r => exact ⟨r, rfl⟩
  | top => simp at h

/-- The embedding of a finite sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of reals. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The root of a real. -/
theorem sqrt_coe (a : ℝ) (ha : 0 ≤ a) : Ideal.sqrt (a : EReal) = ((Real.sqrt a : ℝ) : EReal) := by
  show (if a < 0 then (⊥ : EReal) else (Real.sqrt a : EReal)) = _
  rw [if_neg (not_lt.mpr ha)]

/-! ## Sums -/

/-- Twenty-seven terms added one after another onto zero are the triple sum. -/
theorem chain27 (f : Fin 3 → Fin 3 → Fin 3 → EReal) :
    0 + f 0 0 0 + f 0 0 1 + f 0 0 2 + f 0 1 0 + f 0 1 1 + f 0 1 2 + f 0 2 0 + f 0 2 1 + f 0 2 2
      + f 1 0 0 + f 1 0 1 + f 1 0 2 + f 1 1 0 + f 1 1 1 + f 1 1 2 + f 1 2 0 + f 1 2 1 + f 1 2 2
      + f 2 0 0 + f 2 0 1 + f 2 0 2 + f 2 1 0 + f 2 1 1 + f 2 1 2 + f 2 2 0 + f 2 2 1 + f 2 2 2
      = ∑ i : Fin 3, ∑ j : Fin 3, ∑ k : Fin 3, f i j k := by
  simp only [Fin.sum_univ_three, add_assoc, zero_add]

/-- A sum over `Fin 27` by the three base-three digits. -/
theorem sum27 (f : Fin 27 → EReal) :
    ∑ x : Fin 27, f x
      = ∑ i : Fin 3, ∑ j : Fin 3, ∑ k : Fin 3, f ⟨9 * i.val + 3 * j.val + k.val, by omega⟩ := by
  rw [← chain27]
  simp only [Fin.sum_univ_castSucc, Fin.sum_univ_zero]
  rfl

/-- A sum whose first and last terms vanish is the sum of the terms between. -/
theorem sum_inner {n : ℕ} (f : Fin n → EReal) :
    (∑ d : Fin (n + 2), if h : 1 ≤ d.val ∧ d.val ≤ n then f ⟨d.val - 1, by omega⟩ else 0) = ∑ d : Fin n, f d := by
  rw [Fin.sum_univ_succ, Fin.sum_univ_castSucc]
  rw [dif_neg (by simp), dif_neg (by simp), zero_add, add_zero]
  refine Finset.sum_congr rfl fun d _ => ?_
  rw [dif_pos ⟨by simp, by simp⟩]
  congr 1

/-! ## Arrays -/

/-- A batch of eight volumes of `C` channels and extent `n`. -/
abbrev Arr (C n : ℕ) := Fin 8 → Fin C → Fin n → Fin n → Fin n → EReal

/-- A volume with a border of zeros: coordinate `p + 1` of the padded volume is coordinate `p` of the volume. -/
def padv {n : ℕ} (x : Fin n → Fin n → Fin n → EReal) (p q r : ℕ) : EReal :=
  if h : (1 ≤ p ∧ p ≤ n) ∧ (1 ≤ q ∧ q ≤ n) ∧ (1 ≤ r ∧ r ≤ n) then
    x ⟨p - 1, by omega⟩ ⟨q - 1, by omega⟩ ⟨r - 1, by omega⟩
  else 0

/-- The 3x3x3 convolution with padding one and stride `s`. -/
def conv {C n O : ℕ} (m s : ℕ) (x : Arr C n) (w : Fin O → Fin C → Fin 3 → Fin 3 → Fin 3 → EReal) : Arr O m :=
  fun b o p q r => ∑ i : Fin 3, ∑ j : Fin 3, ∑ k : Fin 3, ∑ c : Fin C,
    padv (x b c) (s * p.val + i.val) (s * q.val + j.val) (s * r.val + k.val) * w o c i j k

/-- A value, or its square. -/
def sq (s : Fin 2) (a : EReal) : EReal := if s = 0 then a else a * a

/-- Zero and its square are zero. -/
theorem sq_zero (s : Fin 2) : sq s 0 = 0 := by unfold sq; split <;> simp

/-- The sum of a channel over the batch and the volume. -/
def total {C n : ℕ} (y : Arr C n) (o : Fin C) : EReal := ∑ b : Fin 8, ∑ p : Fin n, ∑ q : Fin n, ∑ r : Fin n, y b o p q r

/-- The mean of a channel. -/
def mean {C n : ℕ} (N : EReal) (y : Arr C n) (o : Fin C) : EReal := Ideal.div (total y o) N

/-- The variance of a channel. -/
def var {C n : ℕ} (N : EReal) (y : Arr C n) (o : Fin C) : EReal :=
  Ideal.div (total (fun b o p q r => (y b o p q r - mean N y o) * (y b o p q r - mean N y o)) o) N

/-- The normalised array: zero mean and unit variance per channel over batch and volume, scaled and shifted, and
    negative values put to zero. -/
def norm {C n : ℕ} (N eps : EReal) (g β : Fin C → EReal) (y : Arr C n) : Arr C n := fun b o p q r =>
  max (Ideal.div (y b o p q r - mean N y o) (Ideal.sqrt (var N y o + eps)) * g o + β o) 0

/-- The factor of the normalisation written with the mean of the squares. -/
def scale {C n : ℕ} (N eps : EReal) (g : Fin C → EReal) (y : Arr C n) (o : Fin C) : EReal :=
  Ideal.div (g o) (Ideal.sqrt (Ideal.div (total (fun b o p q r => y b o p q r * y b o p q r) o) N
    - mean N y o * mean N y o + eps))

/-- The summand of a normalisation. -/
def shift {C n : ℕ} (N eps : EReal) (g β : Fin C → EReal) (y : Arr C n) (o : Fin C) : EReal :=
  β o - mean N y o * scale N eps g y o

/-- A padded array of finite numbers is finite. -/
theorem padv_rl {n : ℕ} {x : Fin n → Fin n → Fin n → EReal} (h : ∀ p q r, Rl (x p q r)) (p q r : ℕ) : Rl (padv x p q r) := by
  unfold padv; split
  · exact h _ _ _
  · exact Rl.zero

/-- The convolution of finite arrays is finite. -/
theorem conv_rl {C n O : ℕ} (m s : ℕ) {x : Arr C n} {w : Fin O → Fin C → Fin 3 → Fin 3 → Fin 3 → EReal}
    (hx : ∀ b c p q r, Rl (x b c p q r)) (hw : ∀ o c i j k, Rl (w o c i j k)) (b o p q r) : Rl (conv m s x w b o p q r) :=
  Rl.sum _ fun _ => Rl.sum _ fun _ => Rl.sum _ fun _ => Rl.sum _ fun _ => (padv_rl (hx _ _) _ _ _).mul (hw _ _ _ _ _)

/-! ## The normalisation's two forms -/

/-- The mean of the squares less the square of the mean is the mean squared deviation. -/
theorem var_real {ι : Type} [Fintype ι] (F : ι → ℝ) (N : ℝ) (hN : N = Fintype.card ι) (h0 : N ≠ 0) :
    (∑ i, F i * F i) / N - (∑ i, F i) / N * ((∑ i, F i) / N)
      = (∑ i, (F i - (∑ i, F i) / N) * (F i - (∑ i, F i) / N)) / N := by
  have h : ∀ m : ℝ, ∑ i, (F i - m) * (F i - m) = ∑ i, F i * F i - 2 * m * ∑ i, F i + N * (m * m) := by
    intro m
    have e : ∀ i, (F i - m) * (F i - m) = F i * F i - 2 * m * F i + m * m := fun i => by ring
    simp only [e, Finset.sum_add_distrib, Finset.sum_sub_distrib, ← Finset.mul_sum, Finset.sum_const, Finset.card_univ,
      nsmul_eq_mul, hN]
    ring
  rw [h]; field_simp; ring

/-- The index set of a channel: batch and volume. -/
abbrev Pos (n : ℕ) := Fin 8 × Fin n × Fin n × Fin n

/-- A channel's total as one sum over its positions. -/
theorem total_eq {C n : ℕ} (y : Arr C n) (o : Fin C) : total y o = ∑ x : Pos n, y x.1 o x.2.1 x.2.2.1 x.2.2.2 := by
  simp only [total, Fintype.sum_prod_type]

/-- What a finite array's statistics are: real numbers, the variance of either form the same and not negative. -/
theorem stats_real {C n : ℕ} {N : EReal} (hN : N = ((Fintype.card (Pos n) : ℝ) : EReal)) (hn : n ≠ 0) (y : Arr C n)
    (hy : ∀ b o p q r, Rl (y b o p q r)) (o : Fin C) :
    ∃ M v : ℝ, 0 ≤ v ∧ mean N y o = (M : EReal) ∧ var N y o = (v : EReal)
      ∧ Ideal.div (total (fun b o p q r => y b o p q r * y b o p q r) o) N - mean N y o * mean N y o = (v : EReal) := by
  choose Y hY using hy
  have hc : (Fintype.card (Pos n) : ℝ) ≠ 0 := by
    simp [Fintype.card_prod, hn]
  set F : Pos n → ℝ := fun x => Y x.1 o x.2.1 x.2.2.1 x.2.2.2 with hF
  set K : ℝ := (Fintype.card (Pos n) : ℝ) with hK
  have hm : mean N y o = (((∑ x, F x) / K : ℝ) : EReal) := by
    rw [mean, hN, total_eq, ← div_coe _ _ hc, coe_sum]
    congr 1; exact Finset.sum_congr rfl fun x _ => hY _ _ _ _ _
  refine ⟨(∑ x, F x) / K, (∑ x, (F x - (∑ x, F x) / K) * (F x - (∑ x, F x) / K)) / K, ?_, hm, ?_, ?_⟩
  · exact div_nonneg (Finset.sum_nonneg fun x _ => mul_self_nonneg _) (Nat.cast_nonneg _)
  · rw [var, hN, total_eq, ← div_coe _ _ hc, coe_sum]
    congr 1; refine Finset.sum_congr rfl fun x _ => ?_
    rw [← hN, hm, hY, EReal.coe_mul, EReal.coe_sub]
  · rw [hm, ← var_real F K hK hc, EReal.coe_sub, EReal.coe_mul]
    congr 1
    rw [hN, total_eq, ← div_coe _ _ hc, coe_sum]
    congr 1; refine Finset.sum_congr rfl fun x _ => ?_
    rw [hY, EReal.coe_mul]

/-- On a finite array with finite factors the normalisation written with scale and shift is the normalisation, before
    negative values are put to zero; the additive parameter may be any value. -/
theorem scale_shift {C n : ℕ} {N eps : EReal} (hN : N = ((Fintype.card (Pos n) : ℝ) : EReal)) (hn : n ≠ 0)
    {e : ℝ} (he : eps = (e : EReal)) (h0 : 0 < e) {g β : Fin C → EReal} (hg : ∀ o, Rl (g o)) {y : Arr C n}
    (hy : ∀ b o p q r, Rl (y b o p q r)) (b o p q r) :
    y b o p q r * scale N eps g y o + shift N eps g β y o
      = Ideal.div (y b o p q r - mean N y o) (Ideal.sqrt (var N y o + eps)) * g o + β o := by
  obtain ⟨M, v, hv, hm, hvar, hk⟩ := stats_real hN hn y hy o
  obtain ⟨Y, hY⟩ := hy b o p q r
  obtain ⟨G, hG⟩ := hg o
  have hs : Real.sqrt (v + e) ≠ 0 := (Real.sqrt_pos.mpr (by linarith)).ne'
  have hsc : scale N eps g y o = ((G / Real.sqrt (v + e) : ℝ) : EReal) := by
    rw [scale, hk, he, hG, ← EReal.coe_add, sqrt_coe _ (by linarith), div_coe _ _ hs]
  rw [shift, hsc, hm, hvar, hY, hG, he, ← EReal.coe_add, sqrt_coe _ (by linarith), ← EReal.coe_sub, div_coe _ _ hs,
    ← EReal.coe_mul, ← EReal.coe_mul, ← EReal.coe_mul, sub_eq_add_neg, ← EReal.coe_neg, add_left_comm, ← EReal.coe_add,
    add_comm]
  congr 2; field_simp; ring

/-- The normalised array of a finite array with finite parameters is finite. -/
theorem norm_rl {C n : ℕ} {N eps : EReal} (hN : N = ((Fintype.card (Pos n) : ℝ) : EReal)) (hn : n ≠ 0)
    {e : ℝ} (he : eps = (e : EReal)) (h0 : 0 < e) {g β : Fin C → EReal} (hg : ∀ o, Rl (g o)) (hβ : ∀ o, Rl (β o))
    {y : Arr C n} (hy : ∀ b o p q r, Rl (y b o p q r)) (b o p q r) : Rl (norm N eps g β y b o p q r) := by
  obtain ⟨M, v, hv, hm, hvar, -⟩ := stats_real hN hn y hy o
  obtain ⟨Y, hY⟩ := hy b o p q r
  have hs : Real.sqrt (v + e) ≠ 0 := (Real.sqrt_pos.mpr (by linarith)).ne'
  refine Rl.sup (Rl.add (Rl.mul ?_ (hg o)) (hβ o)) Rl.zero
  rw [hm, hvar, hY, he, ← EReal.coe_add, sqrt_coe _ (by linarith), ← EReal.coe_sub, div_coe _ _ hs]
  exact ⟨_, rfl⟩

end Cert.Net

end
-- ==== Proof.Value.S1.lean ====
/- The first call's arithmetic at one grid point: the convolution of three planes. -/
module

public import proofs.«01_k».proof.Proof.Ideal.Region0
public import proofs.«01_k».proof.Proof.Value.Spec
public import Idealize.ShloMosaic.Lib.Pipeline.ValueKit
public import Idealize.ShloMosaic.Lib.Pointwise

@[expose] public section

set_option maxRecDepth 16384

noncomputable section

namespace Cert.KernelIdeal.Gen

open Cert.KernelIdeal Idealize.ShloMosaic Idealize.ShloMosaic.TcCoe Idealize.SL.Sem

/-- The masked convolution values of one plane: `n` is the plane's number, `x0 x1 x2` the three input planes. -/
def acc1 (n : BitVec 32) (w : Vec Ideal S27x32 .f32) (x0 x1 x2 : Vec Ideal S1x1x66x66 .f32) : FVec Ideal S64x64x32 .f32 :=
  k0_pay33 n (k0_pay2 w) (k0_pay6 x1) (k0_pay7 x1) (k0_pay8 x1) (k0_pay9 x1) (k0_pay10 x1) (k0_pay11 x1) (k0_pay12 x1) (k0_pay13 x1) (k0_pay14 x1) (k0_pay15 x2) (k0_pay16 x2) (k0_pay17 x2) (k0_pay18 x2) (k0_pay19 x2) (k0_pay20 x2) (k0_pay21 x2) (k0_pay22 x2) (k0_pay23 x2) (k0_pay24 x0) (k0_pay25 x0) (k0_pay26 x0) (k0_pay27 x0) (k0_pay28 x0) (k0_pay29 x0) (k0_pay30 x0) (k0_pay31 x0) (k0_pay32 x0)

/-- They are the sum of the 27 products in the 64 planes of the volume and zero in the two planes around it. -/
theorem acc1_at (n : ℕ) (hn : n < 66) (w : Vec Ideal S27x32 .f32) (x0 x1 x2 : Vec Ideal S1x1x66x66 .f32) (p q : Fin 64) (o : Fin 32) :
    acc1 (BitVec.ofNat 32 n) w x0 x1 x2 (ix3 p q o) = if 1 ≤ n ∧ n ≤ 64 then
      ∑ i : Fin 3, ∑ j : Fin 3, ∑ k : Fin 3, (![x0, x1, x2] i) (ix4 0 0 ⟨p.val + j.val, by omega⟩ ⟨q.val + k.val, by omega⟩)
        * w (ix2 ⟨9 * i.val + 3 * j.val + k.val, by omega⟩ o) else (0 : EReal) := by
  pointwise [acc1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
  rw [Cert.Net.sum27]
  have hc : (Scalar.andi (Scalar.cmpi .sge (BitVec.ofNat 32 n) 1#32) (Scalar.cmpi .sle (BitVec.ofNat 32 n) 64#32) = 1#1) ↔ (1 ≤ n ∧ n ≤ 64) := by
    revert n; decide +kernel
  refine if_congr hc ?_ rfl
  refine Finset.sum_congr rfl fun i _ => Finset.sum_congr rfl fun j _ => Finset.sum_congr rfl fun k _ => ?_
  congr 1
  fin_cases i <;> fin_cases j <;> fin_cases k <;> simp [add_comm]

end Cert.KernelIdeal.Gen

end
-- ==== Proof.Value.Sums.lean ====
/- Reductions over several axes read at an index: the two of the kernel's plane sums and the four of the reference's
   sums over a channel. -/
module

public import Idealize.ShloMosaic.Lib.Pointwise

@[expose] public section

noncomputable section

namespace Cert.Net

open Idealize.ShloMosaic

/-- A reduction over the two leading axes of three is the double sum. -/
theorem reduceAdd_lead2 {n0 n1 n2 : ℕ} (h : (⟨3, ![n0, n1, n2]⟩ : Shape).Reduces [0, 1] ⟨1, ![n2]⟩)
    (v : (⟨3, ![n0, n1, n2]⟩ : Shape).Idx → EReal) (o : Fin n2) :
    Ideal.reduceAdd h v (ix1 o) = ∑ p : Fin n0, ∑ q : Fin n1, v (ix3 p q o) := by
  have e : ∀ p q c, h.drop (ix3 p q c) = ix1 c := fun p q c => by funext k; fin_cases k; rfl
  unfold Ideal.reduceAdd
  rw [Finset.sum_filter, sum_idx3]
  refine Finset.sum_congr rfl fun p _ => Finset.sum_congr rfl fun q _ => ?_
  rw [Finset.sum_eq_single o]
  · rw [e, if_pos rfl]
  · intro c _ hc
    rw [e, if_neg fun hh => hc (congrFun hh 0)]
  · intro hh; exact absurd (Finset.mem_univ o) hh

/-- A host reduction over every axis but the second of five is the initial value plus the quadruple sum. -/
theorem hostReduceAdd_channel {n0 n1 n2 n3 n4 : ℕ} (h : (⟨5, ![n0, n1, n2, n3, n4]⟩ : Shape).ReducesTo [0, 2, 3, 4] ⟨1, ![n1]⟩)
    (v : (⟨5, ![n0, n1, n2, n3, n4]⟩ : Shape).Idx → EReal) (init : EReal) (o : Fin n1) :
    Ideal.hostReduceAdd h v init (ix1 o)
      = init + ∑ b : Fin n0, ∑ p : Fin n2, ∑ q : Fin n3, ∑ r : Fin n4, v (ix5 b o p q r) := by
  have e : ∀ b c p q r, h.drop (ix5 b c p q r) = ix1 c := fun b c p q r => by funext k; fin_cases k; rfl
  unfold Ideal.hostReduceAdd
  congr 1
  rw [Finset.sum_filter, sum_idx5]
  refine Finset.sum_congr rfl fun b _ => ?_
  rw [Finset.sum_eq_single o]
  · simp only [e, if_true]
  · intro c _ hc
    refine Finset.sum_eq_zero fun p _ => Finset.sum_eq_zero fun q _ => Finset.sum_eq_zero fun r _ => ?_
    rw [e, if_neg fun hh => hc (congrFun hh 0)]
  · intro hh; exact absurd (Finset.mem_univ o) hh

/-- An index whose first two axes have extent one. -/
theorem unit5 {n2 n3 n4 : ℕ} (y : (⟨5, ![1, 1, n2, n3, n4]⟩ : Shape).Idx) : y = ix5 0 0 (y 2) (y 3) (y 4) := by
  have h0 : y 0 = (0 : Fin 1) := Subsingleton.elim (α := Fin 1) _ _
  have h1 : y 1 = (0 : Fin 1) := Subsingleton.elim (α := Fin 1) _ _
  funext a; fin_cases a
  · exact h0
  · exact h1
  all_goals rfl

/-- An index whose first axis has extent one. -/
theorem unit3 {n1 n2 : ℕ} (y : (⟨3, ![1, n1, n2]⟩ : Shape).Idx) : y = ix3 0 (y 1) (y 2) := by
  have h0 : y 0 = (0 : Fin 1) := Subsingleton.elim (α := Fin 1) _ _
  funext a; fin_cases a
  · exact h0
  all_goals rfl

end Cert.Net

end
-- ==== Proof.Value.S1b.lean ====
/- The first call's two arrays at its end: the padded first-layer array, and the sums over it and over its squares. -/
module

public import proofs.«01_k».proof.Proof.Value.S1
public import proofs.«01_k».proof.Proof.Value.Sums

@[expose] public section

set_option maxRecDepth 16384

noncomputable section

namespace Cert.KernelIdeal.Gen

open Cert.KernelIdeal Idealize.ShloMosaic Idealize.ShloMosaic.TcCoe Idealize.SL.Sem

/-- The plane of the padded first-layer array that a point writes. -/
def blk1 (n : BitVec 32) (w : Vec Ideal S27x32 .f32) (x0 x1 x2 : Vec Ideal S1x1x66x66 .f32) : FVec Ideal S1x1x66x66x32 .f32 :=
  k0_pay34 n (k0_pay2 w) (k0_pay6 x1) (k0_pay7 x1) (k0_pay8 x1) (k0_pay9 x1) (k0_pay10 x1) (k0_pay11 x1) (k0_pay12 x1) (k0_pay13 x1) (k0_pay14 x1) (k0_pay15 x2) (k0_pay16 x2) (k0_pay17 x2) (k0_pay18 x2) (k0_pay19 x2) (k0_pay20 x2) (k0_pay21 x2) (k0_pay22 x2) (k0_pay23 x2) (k0_pay24 x0) (k0_pay25 x0) (k0_pay26 x0) (k0_pay27 x0) (k0_pay28 x0) (k0_pay29 x0) (k0_pay30 x0) (k0_pay31 x0) (k0_pay32 x0)

/-- The sums over one plane, and over its squares, that a point contributes. -/
def st1 (n : BitVec 32) (w : Vec Ideal S27x32 .f32) (x0 x1 x2 : Vec Ideal S1x1x66x66 .f32) : FVec Ideal S1x2x32 .f32 :=
  k0_pay35 n (k0_pay2 w) (k0_pay6 x1) (k0_pay7 x1) (k0_pay8 x1) (k0_pay9 x1) (k0_pay10 x1) (k0_pay11 x1) (k0_pay12 x1) (k0_pay13 x1) (k0_pay14 x1) (k0_pay15 x2) (k0_pay16 x2) (k0_pay17 x2) (k0_pay18 x2) (k0_pay19 x2) (k0_pay20 x2) (k0_pay21 x2) (k0_pay22 x2) (k0_pay23 x2) (k0_pay24 x0) (k0_pay25 x0) (k0_pay26 x0) (k0_pay27 x0) (k0_pay28 x0) (k0_pay29 x0) (k0_pay30 x0) (k0_pay31 x0) (k0_pay32 x0)

/-- The masked values, folded back into their name. -/
theorem acc1_eq (n : BitVec 32) (w : Vec Ideal S27x32 .f32) (x0 x1 x2 : Vec Ideal S1x1x66x66 .f32) :
  k0_pay33 n (k0_pay2 w) (k0_pay6 x1) (k0_pay7 x1) (k0_pay8 x1) (k0_pay9 x1) (k0_pay10 x1) (k0_pay11 x1) (k0_pay12 x1) (k0_pay13 x1) (k0_pay14 x1) (k0_pay15 x2) (k0_pay16 x2) (k0_pay17 x2) (k0_pay18 x2) (k0_pay19 x2) (k0_pay20 x2) (k0_pay21 x2) (k0_pay22 x2) (k0_pay23 x2) (k0_pay24 x0) (k0_pay25 x0) (k0_pay26 x0) (k0_pay27 x0) (k0_pay28 x0) (k0_pay29 x0) (k0_pay30 x0) (k0_pay31 x0) (k0_pay32 x0) = acc1 n w x0 x1 x2 := rfl

/-- The plane a point writes holds the masked values inside its border and zero on it. -/
theorem blk1_at (n : BitVec 32) (w : Vec Ideal S27x32 .f32) (x0 x1 x2 : Vec Ideal S1x1x66x66 .f32) (i j : Fin 66) (o : Fin 32) :
    blk1 n w x0 x1 x2 (ix5 0 0 i j o) = if h : (1 ≤ i.val ∧ i.val ≤ 64) ∧ (1 ≤ j.val ∧ j.val ≤ 64) then
      acc1 n w x0 x1 x2 (ix3 ⟨i.val - 1, by omega⟩ ⟨j.val - 1, by omega⟩ o) else (0 : EReal) := by
  unfold blk1
  pointwise [k0_pay34, acc1_eq]
  have z : ((((0#32 : BitVec 32).toInt : ℝ)) : EReal) = 0 := by simp
  rw [z]
  by_cases h : (1 ≤ i.val ∧ i.val ≤ 64) ∧ (1 ≤ j.val ∧ j.val ≤ 64)
  · rw [dif_pos (by omega : j.val < 65), dif_neg (by omega), dif_pos (by omega : i.val < 65), dif_neg (by omega), dif_pos h]
  · rw [dif_neg h]
    split_ifs <;> first | rfl | (exfalso; omega)

/-- What a point contributes to the sums is the sum over the masked values, or over their squares. -/
theorem st1_at (n : BitVec 32) (w : Vec Ideal S27x32 .f32) (x0 x1 x2 : Vec Ideal S1x1x66x66 .f32) (s : Fin 2) (o : Fin 32) :
    st1 n w x0 x1 x2 (ix3 0 s o) = ∑ p : Fin 64, ∑ q : Fin 64, Cert.Net.sq s (acc1 n w x0 x1 x2 (ix3 p q o)) := by
  unfold st1
  pointwise [k0_pay35, acc1_eq]
  rw [Cert.Net.reduceAdd_lead2, Cert.Net.reduceAdd_lead2]
  fin_cases s <;> rfl

variable (V : (c : Dev nD) → (b : Ref sig .tc) → Buf (Elt Ideal) ((c : Thread nD τ).loc b))

/-- The accumulating store adds the point's sums to what the block held. -/
theorem pay1_at (a b : FVec Ideal S1x2x32 .f32) (j : S1x2x32.Idx) : k0_pay1 a b j = b j + a j := by
  pointwise [k0_pay1]

/-- At every point the first output's block is the plane it writes. -/
theorem pt1 (c : Dev nD) (t : Fin cfg0.N) : (outsAt0 V c t.val t.isLt).1
    = blk1 (BitVec.ofNat 32 (grid0.coords t 1).val) (iblk0 V c 3 t) (iblk0 V c 0 t) (iblk0 V c 1 t) (iblk0 V c 2 t) := by
  by_cases h : t.val % 66 = 0
  · rw [outsAt0_A V c t h (by omega)]; frame_out; rfl
  · rw [outsAt0_B V c t h (by omega)]; frame_out; rfl

/-- The window positions of the first call. -/
theorem idx0 : ∀ t : Fin cfg0.N, win0_0.index t = ![t.val / 66, t.val % 66 - 1, 0, 0]
    ∧ win0_1.index t = ![t.val / 66, min (t.val % 66) 65, 0, 0] ∧ win0_2.index t = ![t.val / 66, min (t.val % 66 + 1) 65, 0, 0]
    ∧ win0_3.index t = ![0, 0] ∧ win0_4.index t = ![t.val / 66, t.val % 66, 0, 0, 0] ∧ win0_5.index t = ![t.val / 66, 0, 0]
    ∧ (grid0.coords t 1).val = t.val % 66 := (by decide +kernel : ∀ t : Fin grid0.N, _)

/-- The first convolution's value at an output position, from the padded volume and the weight matrix. -/
def y1 (X : FVec Ideal S8x66x66x66 .f32) (w : FVec Ideal S27x32 .f32) : Cert.Net.Arr 32 64 := fun b o p q r =>
  ∑ i : Fin 3, ∑ j : Fin 3, ∑ k : Fin 3, X (ix4 b ⟨p.val + i.val, by omega⟩ ⟨q.val + j.val, by omega⟩ ⟨r.val + k.val, by omega⟩)
    * w (ix2 ⟨9 * i.val + 3 * j.val + k.val, by omega⟩ o)

/-- The masked values of the point `t`, plane `d` of volume `b`. -/
theorem acc1_pt (c : Dev nD) (t : Fin cfg0.N) (b : Fin 8) (hb : b.val = t.val / 66) (p q : Fin 64) (o : Fin 32) :
    acc1 (BitVec.ofNat 32 (grid0.coords t 1).val) (iblk0 V c 3 t) (iblk0 V c 0 t) (iblk0 V c 1 t) (iblk0 V c 2 t) (ix3 p q o)
      = if h : 1 ≤ t.val % 66 ∧ t.val % 66 ≤ 64 then
        y1 (V c (Pipeline.arrRef spec0 0)) (V c (Pipeline.arrRef spec0 3)) b o ⟨t.val % 66 - 1, by omega⟩ p q else (0 : EReal) := by
  rw [(idx0 t).2.2.2.2.2.2, acc1_at _ (by omega)]
  by_cases h : 1 ≤ t.val % 66 ∧ t.val % 66 ≤ 64
  · rw [if_pos h, dif_pos h]
    refine Finset.sum_congr rfl fun i _ => Finset.sum_congr rfl fun j _ => Finset.sum_congr rfl fun k _ => ?_
    refine Ideal.mul_congr ?_ ?_
    · fin_cases i
      · show iblk0 V c 0 t _ = _
        blk_ext [iblk0, idx0 t]
      · show iblk0 V c 1 t _ = _
        blk_ext [iblk0, idx0 t]
      · show iblk0 V c 2 t _ = _
        blk_ext [iblk0, idx0 t]
    · blk_ext [iblk0, idx0 t]
  · rw [if_neg h, dif_neg h]

/-- What the point `t` writes of the padded array. -/
theorem blk1_pt (c : Dev nD) (t : Fin cfg0.N) (b : Fin 8) (hb : b.val = t.val / 66) (i j : Fin 66) (o : Fin 32) :
    blk1 (BitVec.ofNat 32 (grid0.coords t 1).val) (iblk0 V c 3 t) (iblk0 V c 0 t) (iblk0 V c 1 t) (iblk0 V c 2 t) (ix5 0 0 i j o)
      = Cert.Net.padv (y1 (V c (Pipeline.arrRef spec0 0)) (V c (Pipeline.arrRef spec0 3)) b o) (t.val % 66) i.val j.val := by
  rw [blk1_at, Cert.Net.padv]
  by_cases h : (1 ≤ i.val ∧ i.val ≤ 64) ∧ (1 ≤ j.val ∧ j.val ≤ 64)
  · rw [dif_pos h, acc1_pt V c t b hb]
    by_cases h' : 1 ≤ t.val % 66 ∧ t.val % 66 ≤ 64
    · rw [dif_pos h', dif_pos ⟨h', h⟩]
    · rw [dif_neg h', dif_neg fun g => h' g.1]
  · rw [dif_neg h, dif_neg fun g => h g.2]

/-- What the point `t` adds to the sums of volume `b`. -/
theorem st1_pt (c : Dev nD) (t : Fin cfg0.N) (b : Fin 8) (hb : b.val = t.val / 66) (s : Fin 2) (o : Fin 32) :
    st1 (BitVec.ofNat 32 (grid0.coords t 1).val) (iblk0 V c 3 t) (iblk0 V c 0 t) (iblk0 V c 1 t) (iblk0 V c 2 t) (ix3 0 s o)
      = if h : 1 ≤ t.val % 66 ∧ t.val % 66 ≤ 64 then ∑ p : Fin 64, ∑ q : Fin 64, Cert.Net.sq s
        (y1 (V c (Pipeline.arrRef spec0 0)) (V c (Pipeline.arrRef spec0 3)) b o ⟨t.val % 66 - 1, by omega⟩ p q) else (0 : EReal) := by
  rw [st1_at]
  by_cases h : 1 ≤ t.val % 66 ∧ t.val % 66 ≤ 64
  · rw [dif_pos h]
    refine Finset.sum_congr rfl fun p _ => Finset.sum_congr rfl fun q _ => congrArg _ ?_
    rw [acc1_pt V c t b hb, dif_pos h]
  · rw [dif_neg h]
    refine Finset.sum_eq_zero fun p _ => Finset.sum_eq_zero fun q _ => ?_
    rw [acc1_pt V c t b hb, dif_neg h, Cert.Net.sq_zero]

/-- The padded first-layer array at the end of the first call. -/
theorem arr0_4 (c : Dev nD) : (dat0 V c).arrAt 4 cfg0.N = fun i : S8x66x66x66x32.Idx =>
    Cert.Net.padv (y1 (V c (Pipeline.arrRef spec0 0)) (V c (Pipeline.arrRef spec0 3)) (i 0) (i 4)) (i 1).val (i 2).val (i 3).val := by
  refine (dat0 V c).arrAt_eq_of_covers 4 _ (by decide +kernel) fun t hf y => ?_
  have hN : t.val < 528 := lt_of_lt_of_eq t.isLt N_0
  have e := Cert.Net.unit5 (n2 := 66) (n3 := 66) (n4 := 32) y
  blk_simp
  rw [after0_4, pt1]
  refine (congrArg (blk1 _ _ _ _ _) e).trans ((blk1_pt V c t ⟨t.val / 66, by omega⟩ rfl _ _ _).trans ?_)
  have e0 : (((cfg0.win 4).blk t).view.emb y 0 : Fin 8) = (⟨t.val / 66, by omega⟩ : Fin 8) := Fin.ext (by blk_simp [idx0 t])
  have e4 : (((cfg0.win 4).blk t).view.emb y 4 : Fin 32) = y 4 := Fin.ext (by blk_simp [idx0 t])
  have h1 : win0_4.index t 1 = t.val % 66 := by rw [(idx0 t).2.2.2.2.1]; rfl
  have h2 : win0_4.index t 2 = 0 := by rw [(idx0 t).2.2.2.2.1]; rfl
  have h3 : win0_4.index t 3 = 0 := by rw [(idx0 t).2.2.2.2.1]; rfl
  rw [h1, h2, h3]
  show _ = Cert.Net.padv (y1 _ _ (((cfg0.win 4).blk t).view.emb y 0) (((cfg0.win 4).blk t).view.emb y 4)) _ _ _
  rw [e0, e4]
  simp

/-- The sums over a volume, and over its squares, at the end of the first call. -/
theorem arr0_5 (c : Dev nD) : (dat0 V c).arrAt 5 cfg0.N = fun i : S8x2x32.Idx =>
    (∑ d : Fin 64, ∑ p : Fin 64, ∑ q : Fin 64, Cert.Net.sq (i 1)
      (y1 (V c (Pipeline.arrRef spec0 0)) (V c (Pipeline.arrRef spec0 3)) (i 0) (i 2) d p q) : EReal) := by
  refine (dat0 V c).arrAt_eq_of_covers 5 _ (by decide +kernel) fun t hf y => ?_
  have hN : t.val < 528 := lt_of_lt_of_eq t.isLt N_0
  have e := Cert.Net.unit3 (n1 := 2) (n2 := 32) y
  have e0 : (((cfg0.win 5).blk t).view.emb y 0 : Fin 8) = (⟨t.val / 66, by omega⟩ : Fin 8) := Fin.ext (by blk_simp [idx0 t])
  have e1 : (((cfg0.win 5).blk t).view.emb y 1 : Fin 2) = y 1 := Fin.ext (by blk_simp [idx0 t])
  have e2 : (((cfg0.win 5).blk t).view.emb y 2 : Fin 32) = y 2 := Fin.ext (by blk_simp [idx0 t])
  blk_simp
  rw [after0_5, Pipeline.eq_sum_fin_of_reset_step_apply_of_flush (fun n h => (outsAt0 V c n h).2) 66 (fun _ => 0)
     (fun (t : Fin cfg0.N) => st1 (BitVec.ofNat 32 (grid0.coords t 1).val) (iblk0 V c 3 t) (iblk0 V c 0 t) (iblk0 V c 1 t) (iblk0 V c 2 t))
    (fun t h j => by rw [outsAt0_A V c t h (by omega)]; frame_out; rw [zero_add]; rfl)
    (fun t h j => by rw [outsAt0_B V c t h (by omega)]; frame_out; rw [pay1_at]; rfl)
    t ((flush0_5 t).mp hf) _, zero_add]
  show (_ : EReal) = ∑ d : Fin 64, ∑ p : Fin 64, ∑ q : Fin 64, Cert.Net.sq (((cfg0.win 5).blk t).view.emb y 1)
      (y1 (V c (Pipeline.arrRef spec0 0)) (V c (Pipeline.arrRef spec0 3)) (((cfg0.win 5).blk t).view.emb y 0) (((cfg0.win 5).blk t).view.emb y 2) d p q)
  rw [e0, e1, e2]
  refine Eq.trans ?_ (Cert.Net.sum_inner (n := 64) _)
  refine Finset.sum_congr (M := EReal) rfl fun s _ => ?_
  have hs : (66 * (t.val / 66) + s.val) % 66 = s.val := by omega
  have hb : t.val / 66 = (66 * (t.val / 66) + s.val) / 66 := by omega
  refine (congrArg (st1 _ _ _ _ _) e).trans ((st1_pt V c ⟨66 * (t.val / 66) + s.val, _⟩ ⟨t.val / 66, by omega⟩ hb _ _).trans ?_)
  simp only [hs]

end Cert.KernelIdeal.Gen

end
-- ==== Proof.Value.Planes.lean ====
/- A bordered plane: the values of an array inside, zero on the border and, when the plane lies outside the volume, zero everywhere. -/
module

public import proofs.«01_k».proof.Proof.Value.Spec
public import Idealize.ShloMosaic.Lib.Pipeline.ValueKit
public import Idealize.ShloMosaic.Lib.Pointwise

@[expose] public section

noncomputable section

namespace Cert.Net

open Idealize.ShloMosaic

/-- `X` at `(u, v)` when both lie in `1 … n` and `ok` holds, and zero otherwise. -/
def plane (n : ℕ) (ok : Prop) [Decidable ok] (X : Fin (n + 2) → Fin (n + 2) → EReal) (u v : ℕ) : EReal :=
  if g : ok ∧ (1 ≤ u ∧ u ≤ n) ∧ (1 ≤ v ∧ v ≤ n) then X ⟨u, by omega⟩ ⟨v, by omega⟩ else 0

/-- The nested tests that a plane built by joining zero rows and columns to a masked interior comes to. -/
theorem plane_eq {n : ℕ} {ok : Prop} [Decidable ok] (X : Fin (n + 2) → Fin (n + 2) → EReal) (wd : BitVec 1) (hm : wd = 1#1 ↔ ok) (z : EReal) (hz : z = 0)
    (u v : ℕ) :
    (if _h1 : v < n + 1 then if _h2 : v < 1 then z else if _h3 : u < n + 1 then if _h4 : u < 1 then z else
      Scalar.select wd (X ⟨1 + (u - 1), by omega⟩ ⟨1 + (v - 1), by omega⟩) 0 else z else z) = plane n ok X u v := by
  subst hz
  unfold plane
  by_cases g : (1 ≤ u ∧ u ≤ n) ∧ (1 ≤ v ∧ v ≤ n)
  · rw [dif_pos (by omega : v < n + 1), dif_neg (by omega), dif_pos (by omega : u < n + 1), dif_neg (by omega)]
    by_cases k : ok
    · rw [dif_pos ⟨k, g⟩]
      refine (if_pos (hm.mpr k)).trans ?_
      congr 2 <;> omega
    · rw [dif_neg fun h => k (And.left h)]
      exact if_neg fun h => k (hm.mp h)
  · rw [dif_neg fun h => g (And.right h)]
    split_ifs <;> first | rfl | (exfalso; omega)

/-- A bordered plane as a plane of the bordered volume `Z`. -/
theorem plane_padv {n : ℕ} {ok : Prop} [Decidable ok] {X : Fin (n + 2) → Fin (n + 2) → EReal} {Z : Fin n → Fin n → Fin n → EReal} {p : ℕ}
    (hp : ok ↔ 1 ≤ p ∧ p ≤ n) (hX : ∀ (h : 1 ≤ p ∧ p ≤ n) (u v : Fin n), X ⟨u.val + 1, by omega⟩ ⟨v.val + 1, by omega⟩ = Z ⟨p - 1, by omega⟩ u v)
    (u v : ℕ) : plane n ok X u v = padv Z p u v := by
  unfold plane padv
  by_cases g : (1 ≤ p ∧ p ≤ n) ∧ (1 ≤ u ∧ u ≤ n) ∧ (1 ≤ v ∧ v ≤ n)
  · rw [dif_pos ⟨hp.mpr g.1, g.2⟩, dif_pos g, ← hX g.1]
    congr 2 <;> (dsimp only; omega)
  · rw [dif_neg fun h => g ⟨hp.mp h.1, h.2⟩, dif_neg g]

/-- Zero as an integer, read as a number. -/
theorem zint : ((((0#32 : BitVec 32).toInt : ℝ)) : EReal) = 0 := by simp

end Cert.Net

end
-- ==== Proof.Value.S2.lean ====
/- The second call's arithmetic at one grid point: the normalised planes, and the stride-two convolution over them. -/
module

public import proofs.«01_k».proof.Proof.Ideal.Region1
public import proofs.«01_k».proof.Proof.Value.Spec
public import proofs.«01_k».proof.Proof.Value.Sums
public import proofs.«01_k».proof.Proof.Value.Planes
public import Idealize.ShloMosaic.Lib.Pipeline.ValueKit
public import Idealize.ShloMosaic.Lib.Pointwise

@[expose] public section

set_option maxRecDepth 16384

noncomputable section

namespace Cert.KernelIdeal.Gen

open Cert.KernelIdeal Idealize.ShloMosaic Idealize.ShloMosaic.TcCoe Idealize.SL.Sem

/-- The normalised and rectified plane with its zero border; zero altogether when the plane `2n - 2 + k` is not one of the 64. -/
def pl1 (n : ℕ) (k : Fin 3) (s h : FVec Ideal S1x32 .f32) (x : FVec Ideal S1x1x66x66x32 .f32) (u v : ℕ) (c : Fin 32) : EReal :=
  Cert.Net.plane 64 (3 ≤ 2 * n + k.val ∧ 2 * n + k.val ≤ 66) (fun u v => max (x (ix5 0 0 u v c) * s (ix2 0 c) + h (ix2 0 c)) 0) u v

/-- The test on the plane's number, as words and as numbers. -/
theorem mask1 (n : ℕ) (hn : n < 34) (k : Fin 3) :
    (Scalar.andi (Scalar.cmpi .sge (Scalar.addi (Scalar.subi (Scalar.muli 2#32 (BitVec.ofNat 32 n)) 2#32) (BitVec.ofNat 32 k.val)) 1#32)
      (Scalar.cmpi .sle (Scalar.addi (Scalar.subi (Scalar.muli 2#32 (BitVec.ofNat 32 n)) 2#32) (BitVec.ofNat 32 k.val)) 64#32) = 1#1)
      ↔ 3 ≤ 2 * n + k.val ∧ 2 * n + k.val ≤ 66 := by
  revert n k; decide +kernel

/-- The first of the three planes, before it is split by parity. -/
theorem pay9_1 (i : grid1.Coords) (s h : FVec Ideal S1x32 .f32) (x : FVec Ideal S1x1x66x66x32 .f32) (u v : Fin 68) (c : Fin 32) :
    k1_pay9 (F := Ideal) i s h x (ix3 u v c) = pl1 (i 1).val 0 s h x u.val v.val c := by
  generalize hR : pl1 (i 1).val 0 s h x u.val v.val c = R
  pointwise [k1_pay9, k1_pay5, k1_pay6]
  rw [← hR]
  exact Cert.Net.plane_eq (n := 64) (fun u v => max (x (ix5 0 0 u v c) * s (ix2 0 c) + h (ix2 0 c)) 0) _ (mask1 (i 1).val (i 1).isLt 0) _ Cert.Net.zint u.val v.val

/-- Splitting rows and columns by parity. -/
theorem split1 (v : FVec Ideal S68x68x32 .f32) (H) (a b : Fin 34) (e f : Fin 2) (c : Fin 32) :
    shapeCast S34x2x34x2x32 v H (ix5 a e b f c) = v (ix3 ⟨2 * a.val + e.val, by omega⟩ ⟨2 * b.val + f.val, by omega⟩ c) := by
  pointwise
  refine congrArg v (congrArg₂ (ix3 · · c) (Fin.ext ?_) (Fin.ext ?_)) <;> (dsimp only; omega)

/-- Whatever the plane holds at rows and columns, its parity split holds at twice the half index plus the parity. -/
theorem split1_at {v : FVec Ideal S68x68x32 .f32} {H} {c : Fin 32} {P : ℕ → ℕ → EReal} (hv : ∀ u w : Fin 68, v (ix3 u w c) = P u.val w.val)
    (a b : Fin 34) (e f : Fin 2) : shapeCast S34x2x34x2x32 v H (ix5 a e b f c) = P (2 * a.val + e.val) (2 * b.val + f.val) :=
  (split1 v H a b e f c).trans (hv _ _)

/-- The second plane, split by parity. -/
theorem pay16_1 (n : ℕ) (hn : n < 34) (s h : FVec Ideal S1x32 .f32) (x : FVec Ideal S1x1x66x66x32 .f32) (a b : Fin 34) (e f : Fin 2) (c : Fin 32) :
    k1_pay16 (F := Ideal) (BitVec.ofNat 32 n) (k1_pay5 s) (k1_pay6 h) x (ix5 a e b f c)
      = pl1 n 1 s h x (2 * a.val + e.val) (2 * b.val + f.val) c := by
  unfold k1_pay16
  refine split1_at (P := fun u v => pl1 n 1 s h x u v c) (fun u v => ?_) a b e f
  generalize hR : pl1 n 1 s h x u.val v.val c = R
  pointwise [k1_pay5, k1_pay6]
  rw [← hR]
  exact Cert.Net.plane_eq (n := 64) (fun u v => max (x (ix5 0 0 u v c) * s (ix2 0 c) + h (ix2 0 c)) 0) _ (mask1 n hn 1) _ Cert.Net.zint u.val v.val

/-- The third plane, split by parity. -/
theorem pay23_1 (n : ℕ) (hn : n < 34) (s h : FVec Ideal S1x32 .f32) (x : FVec Ideal S1x1x66x66x32 .f32) (a b : Fin 34) (e f : Fin 2) (c : Fin 32) :
    k1_pay23 (F := Ideal) (BitVec.ofNat 32 n) (k1_pay5 s) (k1_pay6 h) x (ix5 a e b f c)
      = pl1 n 2 s h x (2 * a.val + e.val) (2 * b.val + f.val) c := by
  unfold k1_pay23
  refine split1_at (P := fun u v => pl1 n 2 s h x u v c) (fun u v => ?_) a b e f
  generalize hR : pl1 n 2 s h x u.val v.val c = R
  pointwise [k1_pay5, k1_pay6]
  rw [← hR]
  exact Cert.Net.plane_eq (n := 64) (fun u v => max (x (ix5 0 0 u v c) * s (ix2 0 c) + h (ix2 0 c)) 0) _ (mask1 n hn 2) _ Cert.Net.zint u.val v.val

end Cert.KernelIdeal.Gen

end
-- ==== Proof.Value.S2b.lean ====
/- The second call's accumulator at one grid point: the stride-two convolution of the three normalised planes. -/
module

public import proofs.«01_k».proof.Proof.Value.S2

@[expose] public section

set_option maxRecDepth 16384

noncomputable section

namespace Cert.KernelIdeal.Gen

open Cert.KernelIdeal Idealize.ShloMosaic Idealize.ShloMosaic.TcCoe Idealize.SL.Sem

/-- The accumulator from its three normalised planes: `p0` unsplit, `p1` and `p2` split by parity, given through their four parity parts. -/
def acc2 (i : grid1.Coords) (x0 x1 x2 : Vec Ideal S1x1x66x66x32 .f32) (sc sh : Vec Ideal S1x32 .f32) (w : Vec Ideal S3x3x3x32x64 .f32) : FVec Ideal S1024x64 .f32 :=
  let n : BitVec 32 := BitVec.ofNat 32 (i 1).val
  let s := k1_pay5 sc
  let h := k1_pay6 sh
  let p := k1_pay9 i sc sh x0
  let a := k1_pay15 (k1_pay7 w) (k1_pay11 p) (k1_pay13 (k1_pay7 w) k1_pay8 p) (k1_pay14 p)
  let b := k1_pay20 (k1_pay7 w) a (k1_pay16 n s h x1) (k1_pay17 n s h x1) (k1_pay18 n s h x1) (k1_pay19 n s h x1)
  k1_pay30 (k1_pay7 w) (k1_pay22 (k1_pay7 w) b (k1_pay21 (k1_pay17 n s h x1))) (k1_pay24 n s h x2) (k1_pay25 n s h x2) (k1_pay26 n s h x2) (k1_pay27 n s h x2)
    (k1_pay28 n s h x2) (k1_pay29 (k1_pay7 w)) (constant S1024x64 .f32 0#32)

/-- It is the sum of the 27 taps over the 32 channels. -/
theorem acc2_at (i : grid1.Coords) (x0 x1 x2 : Vec Ideal S1x1x66x66x32 .f32) (sc sh : Vec Ideal S1x32 .f32) (w : Vec Ideal S3x3x3x32x64 .f32) (r : Fin 1024) (o : Fin 64) :
    acc2 i x0 x1 x2 sc sh w (ix2 r o) = ∑ k : Fin 3, ∑ k1 : Fin 3, ∑ k2 : Fin 3, ∑ c : Fin 32,
      pl1 (i 1).val k sc sh (![x0, x1, x2] k) (2 * (r.val / 32) + k1.val) (2 * (r.val % 32) + k2.val) c
        * w (ix5 k k1 k2 c o) := by
  have h0 := pay9_1 i sc sh x0
  have h1 := pay16_1 (i 1).val (i 1).isLt sc sh x1
  have h2 := pay23_1 (i 1).val (i 1).isLt sc sh x2
  refine Eq.trans ?_ (Cert.Net.chain27 _)
  unfold acc2
  pointwise [k1_pay7, k1_pay8, k1_pay10, k1_pay11, k1_pay12, k1_pay13, k1_pay14, k1_pay15, k1_pay17, k1_pay18, k1_pay19, k1_pay20, k1_pay21, k1_pay22, k1_pay24, k1_pay25, k1_pay26, k1_pay27, k1_pay28, k1_pay29, k1_pay30, h0, h1, h2]
  have e : ∀ m : ℕ, 2 * (1 + m) = 2 * m + 2 := fun m => by omega
  have e' : ∀ m : ℕ, (1 + m) * 2 = 2 * m + 2 := fun m => by omega
  have e'' : ∀ m : ℕ, m * 2 = 2 * m := fun m => by omega
  simp only [e, e', e'']

end Cert.KernelIdeal.Gen

end
-- ==== Proof.Value.S2c.lean ====
/- The second call's two arrays at its end: the padded second-layer array, and the sums over it and over its squares. -/
module

public import proofs.«01_k».proof.Proof.Value.S2b

@[expose] public section

set_option maxRecDepth 16384

noncomputable section

namespace Cert.KernelIdeal.Gen

open Cert.KernelIdeal Idealize.ShloMosaic Idealize.ShloMosaic.TcCoe Idealize.SL.Sem

/-- The second convolution's input: the first-layer array without its border, scaled, shifted and rectified. -/
def z1 (H : FVec Ideal S8x66x66x66x32 .f32) (sc sh : FVec Ideal S1x32 .f32) : Cert.Net.Arr 32 64 := fun b c p q r =>
  max (H (ix5 b ⟨p.val + 1, by omega⟩ ⟨q.val + 1, by omega⟩ ⟨r.val + 1, by omega⟩ c) * sc (ix2 0 c) + sh (ix2 0 c)) 0

/-- The second convolution's values. -/
def y2 (H : FVec Ideal S8x66x66x66x32 .f32) (sc sh : FVec Ideal S1x32 .f32) (W : FVec Ideal S3x3x3x32x64 .f32) : Cert.Net.Arr 64 32 :=
  Cert.Net.conv 32 2 (z1 H sc sh) fun o c i j k => W (ix5 i j k c o)

/-- The accumulator where the plane is one of the 32, and zero elsewhere. -/
theorem keep2 (n : ℕ) (hn : n < 34) (v : FVec Ideal S1024x64 .f32) (r : Fin 1024) (o : Fin 64) :
    k1_pay1 (F := Ideal) (BitVec.ofNat 32 n) v (Scalar.cmpi .sge (BitVec.ofNat 32 n) 1#32) (ix2 r o) = if 1 ≤ n ∧ n ≤ 32 then v (ix2 r o) else (0 : EReal) := by
  have hc : (Scalar.andi (Scalar.cmpi .sge (BitVec.ofNat 32 n) 1#32) (Scalar.cmpi .sle (BitVec.ofNat 32 n) 32#32) = 1#1) ↔ (1 ≤ n ∧ n ≤ 32) := by
    revert n; decide +kernel
  generalize hR : (if 1 ≤ n ∧ n ≤ 32 then v (ix2 r o) else (0 : EReal)) = R
  pointwise [k1_pay1]
  rw [← hR]
  exact if_congr hc rfl rfl

/-- The stored plane holds the kept accumulator inside its border and zero on it. -/
theorem put2 (a : BitVec 32) (v : FVec Ideal S1024x64 .f32) (m : BitVec 1) (i j : Fin 34) (o : Fin 64) :
    k1_pay2 (F := Ideal) a v m (ix5 0 0 i j o) = if h : (1 ≤ i.val ∧ i.val ≤ 32) ∧ (1 ≤ j.val ∧ j.val ≤ 32) then
      k1_pay1 (F := Ideal) a v m (ix2 ⟨32 * (i.val - 1) + (j.val - 1), by omega⟩ o) else (0 : EReal) := by
  generalize hw : k1_pay1 (F := Ideal) a v m = w
  pointwise [k1_pay2, hw]
  rw [Cert.Net.zint]
  by_cases h : (1 ≤ i.val ∧ i.val ≤ 32) ∧ (1 ≤ j.val ∧ j.val ≤ 32)
  · rw [dif_pos (by omega : j.val < 33), dif_neg (by omega), dif_pos (by omega : i.val < 33), dif_neg (by omega), dif_pos h]
    congr 2; apply Fin.ext; dsimp only; omega
  · rw [dif_neg h]
    split_ifs <;> first | rfl | (exfalso; omega)

/-- The point's sums are those over the kept accumulator and over its squares. -/
theorem tot2 (a : BitVec 32) (v : FVec Ideal S1024x64 .f32) (m : BitVec 1) (s : Fin 2) (o : Fin 64) :
    k1_pay3 (F := Ideal) a v m (ix3 0 s o) = ∑ r : Fin 1024, Cert.Net.sq s (k1_pay1 (F := Ideal) a v m (ix2 r o)) := by
  generalize hw : k1_pay1 (F := Ideal) a v m = w
  pointwise [k1_pay3, hw]
  fin_cases s <;> rfl

/-- The accumulating store adds the point's sums to what the block held. -/
theorem pay4_at (a : BitVec 32) (v : FVec Ideal S1024x64 .f32) (m : BitVec 1) (b : FVec Ideal S1x2x64 .f32) (j : S1x2x64.Idx) :
    k1_pay4 a v m b j = b j + k1_pay3 a v m j := by
  generalize hw : k1_pay3 (F := Ideal) a v m = w
  pointwise [k1_pay4, hw]

variable (V : (c : Dev nD) → (b : Ref sig .tc) → Buf (Elt Ideal) ((c : Thread nD τ).loc b))

/-- The accumulator of the point `t`. -/
def a2 (c : Dev nD) (t : Fin cfg1.N) : FVec Ideal S1024x64 .f32 :=
  acc2 (grid1.coords t) (iblk1 V c 0 t) (iblk1 V c 1 t) (iblk1 V c 2 t) (iblk1 V c 3 t) (iblk1 V c 4 t) (iblk1 V c 5 t)

/-- The second convolution on the arrays the call is given. -/
def Y2 (c : Dev nD) : Cert.Net.Arr 64 32 :=
  y2 (V c (Pipeline.arrRef spec1 0)) (V c (Pipeline.arrRef spec1 3)) (V c (Pipeline.arrRef spec1 4)) (V c (Pipeline.arrRef spec1 5))

/-- The number of the point's plane, as a word, and whether it is at least one. -/
abbrev n2 (t : Fin cfg1.N) : BitVec 32 := BitVec.ofNat 32 (grid1.coords t 1).val
/-- Whether the plane's number is at least one. -/
abbrev g2 (t : Fin cfg1.N) : BitVec 1 := Scalar.cmpi .sge (n2 t) 1#32

/-- At every point the first output's block is the plane it writes. -/
theorem pt2 (c : Dev nD) (t : Fin cfg1.N) : (outsAt1 V c t.val t.isLt).1 = k1_pay2 (n2 t) (a2 V c t) (g2 t) := by
  by_cases h : t.val % 34 = 0
  · rw [outsAt1_A V c t h (by omega)]; frame_out; rfl
  · rw [outsAt1_B V c t h (by omega)]; frame_out; rfl

/-- The window positions of the second call. -/
theorem idx1 : ∀ t : Fin cfg1.N, win1_0.index t = ![t.val / 34, min (2 * (t.val % 34) - 2) 65, 0, 0, 0]
    ∧ win1_1.index t = ![t.val / 34, min (2 * (t.val % 34) - 1) 65, 0, 0, 0] ∧ win1_2.index t = ![t.val / 34, min (2 * (t.val % 34)) 65, 0, 0, 0]
    ∧ win1_3.index t = ![0, 0] ∧ win1_4.index t = ![0, 0] ∧ win1_5.index t = ![0, 0, 0, 0, 0]
    ∧ win1_6.index t = ![t.val / 34, t.val % 34, 0, 0, 0] ∧ win1_7.index t = ![t.val / 34, 0, 0]
    ∧ (grid1.coords t 1).val = t.val % 34 := (by decide +kernel : ∀ t : Fin grid1.N, _)

/-- The three planes the point reads, as planes of the padded first-layer array. -/
theorem rd1 (c : Dev nD) (t : Fin cfg1.N) (b : Fin 8) (hb : b.val = t.val / 34) (k : Fin 3) (p : Fin 66)
    (hp : 1 ≤ t.val % 34 ∧ p.val = 2 * (t.val % 34) - 2 + k.val) (u v : Fin 66) (d : Fin 32) :
    (![iblk1 V c 0 t, iblk1 V c 1 t, iblk1 V c 2 t] k) (ix5 0 0 u v d) = V c (Pipeline.arrRef spec1 0) (ix5 b p u v d) := by
  fin_cases k
  · have hp' : p.val = 2 * (t.val % 34) - 2 := hp.2
    show iblk1 V c 0 t _ = _
    blk_ext [iblk1, idx1 t]
  · have hp' : p.val = 2 * (t.val % 34) - 2 + 1 := hp.2
    show iblk1 V c 1 t _ = _
    blk_ext [iblk1, idx1 t]
  · have hp' : p.val = 2 * (t.val % 34) - 2 + 2 := hp.2
    show iblk1 V c 2 t _ = _
    blk_ext [iblk1, idx1 t]

/-- The factors are read whole. -/
theorem rd1_3 (c : Dev nD) (t : Fin cfg1.N) (d : Fin 32) : iblk1 V c 3 t (ix2 0 d) = V c (Pipeline.arrRef spec1 3) (ix2 0 d) := by
  blk_ext [iblk1, idx1 t]

/-- The summands are read whole. -/
theorem rd1_4 (c : Dev nD) (t : Fin cfg1.N) (d : Fin 32) : iblk1 V c 4 t (ix2 0 d) = V c (Pipeline.arrRef spec1 4) (ix2 0 d) := by
  blk_ext [iblk1, idx1 t]

/-- The kernel is read whole. -/
theorem rd1_5 (c : Dev nD) (t : Fin cfg1.N) (i j k : Fin 3) (d : Fin 32) (o : Fin 64) :
    iblk1 V c 5 t (ix5 i j k d o) = V c (Pipeline.arrRef spec1 5) (ix5 i j k d o) := by
  blk_ext [iblk1, idx1 t]

/-- The accumulator holds the convolution's values of plane `t % 34 - 1`. -/
theorem a2_pt (c : Dev nD) (t : Fin cfg1.N) (b : Fin 8) (hb : b.val = t.val / 34) (h : 1 ≤ t.val % 34 ∧ t.val % 34 ≤ 32) (r : Fin 1024) (o : Fin 64) :
    a2 V c t (ix2 r o) = Y2 V c b o ⟨t.val % 34 - 1, by omega⟩ ⟨r.val / 32, by omega⟩ ⟨r.val % 32, by omega⟩ := by
  unfold a2 Y2 y2 Cert.Net.conv
  rw [acc2_at, (idx1 t).2.2.2.2.2.2.2.2]
  refine Finset.sum_congr rfl fun i _ => Finset.sum_congr rfl fun j _ => Finset.sum_congr rfl fun k _ => Finset.sum_congr rfl fun d _ => ?_
  refine Ideal.mul_congr ?_ ?_
  · refine Cert.Net.plane_padv (n := 64) (by dsimp only; omega) (fun g u v => ?_) _ _
    unfold z1
    refine congrArg (max · (0 : EReal)) (congrArg₂ (· + ·) (Ideal.mul_congr ?_ (rd1_3 V c t d)) (rd1_4 V c t d))
    exact rd1 V c t b hb i _ (by dsimp only at g ⊢; omega) _ _ d
  · exact rd1_5 V c t i j k d o

end Cert.KernelIdeal.Gen

end
-- ==== Proof.Value.S2d.lean ====
/- The second call's arrays at its end: the padded second-layer array, and the sums over it and over its squares. -/
module

public import proofs.«01_k».proof.Proof.Value.S2c

@[expose] public section

set_option maxRecDepth 16384

noncomputable section

namespace Cert.KernelIdeal.Gen

open Cert.KernelIdeal Idealize.ShloMosaic Idealize.ShloMosaic.TcCoe Idealize.SL.Sem

variable (V : (c : Dev nD) → (b : Ref sig .tc) → Buf (Elt Ideal) ((c : Thread nD τ).loc b))

/-- What the point keeps of its accumulator: one plane of the second convolution, or zero. -/
theorem keep_pt2 (c : Dev nD) (t : Fin cfg1.N) (b : Fin 8) (hb : b.val = t.val / 34) (r : Fin 1024) (o : Fin 64) :
    k1_pay1 (n2 t) (a2 V c t) (g2 t) (ix2 r o) = if h : 1 ≤ t.val % 34 ∧ t.val % 34 ≤ 32 then
      Y2 V c b o ⟨t.val % 34 - 1, by omega⟩ ⟨r.val / 32, by omega⟩ ⟨r.val % 32, by omega⟩ else (0 : EReal) := by
  refine (keep2 _ (grid1.coords t 1).isLt _ r o).trans ?_
  rw [(idx1 t).2.2.2.2.2.2.2.2]
  by_cases h : 1 ≤ t.val % 34 ∧ t.val % 34 ≤ 32
  · rw [if_pos h, dif_pos h, a2_pt V c t b hb h]
  · rw [if_neg h, dif_neg h]

/-- What the point writes of the padded array. -/
theorem put_pt2 (c : Dev nD) (t : Fin cfg1.N) (b : Fin 8) (hb : b.val = t.val / 34) (i j : Fin 34) (o : Fin 64) :
    k1_pay2 (n2 t) (a2 V c t) (g2 t) (ix5 0 0 i j o) = Cert.Net.padv (Y2 V c b o) (t.val % 34) i.val j.val := by
  rw [put2, Cert.Net.padv]
  by_cases h : (1 ≤ i.val ∧ i.val ≤ 32) ∧ (1 ≤ j.val ∧ j.val ≤ 32)
  · rw [dif_pos h, keep_pt2 V c t b hb]
    by_cases h' : 1 ≤ t.val % 34 ∧ t.val % 34 ≤ 32
    · rw [dif_pos h', dif_pos ⟨h', h⟩]
      congr 1 <;> (apply Fin.ext; dsimp only; omega)
    · rw [dif_neg h', dif_neg fun g => h' g.1]
  · rw [dif_neg h, dif_neg fun g => h g.2]

/-- What the point adds to the sums of volume `b`. -/
theorem tot_pt2 (c : Dev nD) (t : Fin cfg1.N) (b : Fin 8) (hb : b.val = t.val / 34) (s : Fin 2) (o : Fin 64) :
    k1_pay3 (n2 t) (a2 V c t) (g2 t) (ix3 0 s o) = if h : 1 ≤ t.val % 34 ∧ t.val % 34 ≤ 32 then
      ∑ p : Fin 32, ∑ q : Fin 32, Cert.Net.sq s (Y2 V c b o ⟨t.val % 34 - 1, by omega⟩ p q) else (0 : EReal) := by
  rw [tot2]
  by_cases h : 1 ≤ t.val % 34 ∧ t.val % 34 ≤ 32
  · rw [dif_pos h]
    refine Fin.sum_divmod_congr fun r _ _ => ?_
    rw [keep_pt2 V c t b hb, dif_pos h]
  · rw [dif_neg h]
    refine Finset.sum_eq_zero fun r _ => ?_
    rw [keep_pt2 V c t b hb, dif_neg h, Cert.Net.sq_zero]

/-- The padded second-layer array at the end of the second call. -/
theorem arr1_6 (c : Dev nD) : (dat1 V c).arrAt 6 cfg1.N = fun i : S8x34x34x34x64.Idx =>
    Cert.Net.padv (Y2 V c (i 0) (i 4)) (i 1).val (i 2).val (i 3).val := by
  refine (dat1 V c).arrAt_eq_of_covers 6 _ (by decide +kernel) fun t hf y => ?_
  have hN : t.val < 272 := lt_of_lt_of_eq t.isLt N_1
  have e := Cert.Net.unit5 (n2 := 34) (n3 := 34) (n4 := 64) y
  have e0 : (((cfg1.win 6).blk t).view.emb y 0 : Fin 8) = (⟨t.val / 34, by omega⟩ : Fin 8) := Fin.ext (by blk_simp [idx1 t])
  have e4 : (((cfg1.win 6).blk t).view.emb y 4 : Fin 64) = y 4 := Fin.ext (by blk_simp [idx1 t])
  blk_simp
  rw [after1_6, pt2]
  refine (congrArg (k1_pay2 (n2 t) (a2 V c t) (g2 t)) e).trans ((put_pt2 V c t ⟨t.val / 34, by omega⟩ rfl _ _ _).trans ?_)
  have h1 : win1_6.index t 1 = t.val % 34 := by rw [(idx1 t).2.2.2.2.2.2.1]; rfl
  have h2 : win1_6.index t 2 = 0 := by rw [(idx1 t).2.2.2.2.2.2.1]; rfl
  have h3 : win1_6.index t 3 = 0 := by rw [(idx1 t).2.2.2.2.2.2.1]; rfl
  rw [h1, h2, h3]
  show _ = Cert.Net.padv (Y2 V c (((cfg1.win 6).blk t).view.emb y 0) (((cfg1.win 6).blk t).view.emb y 4)) _ _ _
  rw [e0, e4]
  simp

/-- The sums over a volume, and over its squares, at the end of the second call. -/
theorem arr1_7 (c : Dev nD) : (dat1 V c).arrAt 7 cfg1.N = fun i : S8x2x64.Idx =>
    (∑ d : Fin 32, ∑ p : Fin 32, ∑ q : Fin 32, Cert.Net.sq (i 1) (Y2 V c (i 0) (i 2) d p q) : EReal) := by
  refine (dat1 V c).arrAt_eq_of_covers 7 _ (by decide +kernel) fun t hf y => ?_
  have hN : t.val < 272 := lt_of_lt_of_eq t.isLt N_1
  have e := Cert.Net.unit3 (n1 := 2) (n2 := 64) y
  have e0 : (((cfg1.win 7).blk t).view.emb y 0 : Fin 8) = (⟨t.val / 34, by omega⟩ : Fin 8) := Fin.ext (by blk_simp [idx1 t])
  have e1 : (((cfg1.win 7).blk t).view.emb y 1 : Fin 2) = y 1 := Fin.ext (by blk_simp [idx1 t])
  have e2 : (((cfg1.win 7).blk t).view.emb y 2 : Fin 64) = y 2 := Fin.ext (by blk_simp [idx1 t])
  blk_simp
  rw [after1_7, Pipeline.eq_sum_fin_of_reset_step_apply_of_flush (fun n h => (outsAt1 V c n h).2) 34 (fun _ => 0)
    (fun t : Fin cfg1.N => k1_pay3 (n2 t) (a2 V c t) (g2 t))
    (fun t h j => by rw [outsAt1_A V c t h (by omega)]; frame_out; rw [zero_add]; rfl)
    (fun t h j => by rw [outsAt1_B V c t h (by omega)]; frame_out; rw [pay4_at]; rfl)
    t ((flush1_7 t).mp hf) _, zero_add]
  show (_ : EReal) = ∑ d : Fin 32, ∑ p : Fin 32, ∑ q : Fin 32, Cert.Net.sq (((cfg1.win 7).blk t).view.emb y 1)
      (Y2 V c (((cfg1.win 7).blk t).view.emb y 0) (((cfg1.win 7).blk t).view.emb y 2) d p q)
  rw [e0, e1, e2]
  refine Eq.trans ?_ (Cert.Net.sum_inner (n := 32) _)
  refine Finset.sum_congr (M := EReal) rfl fun s _ => ?_
  have hs : (34 * (t.val / 34) + s.val) % 34 = s.val := by omega
  have hb : t.val / 34 = (34 * (t.val / 34) + s.val) / 34 := by omega
  refine (congrArg (k1_pay3 _ _ _) e).trans ((tot_pt2 V c ⟨34 * (t.val / 34) + s.val, _⟩ ⟨t.val / 34, by omega⟩ hb _ _).trans ?_)
  simp only [hs]

end Cert.KernelIdeal.Gen

end
-- ==== Proof.Value.S3.lean ====
/- The third call's arithmetic at one grid point: the normalised planes, and the stride-two convolution over them. -/
module

public import proofs.«01_k».proof.Proof.Ideal.Region2
public import proofs.«01_k».proof.Proof.Value.Sums
public import proofs.«01_k».proof.Proof.Value.Planes

@[expose] public section

set_option maxRecDepth 16384

noncomputable section

namespace Cert.KernelIdeal.Gen

open Cert.KernelIdeal Idealize.ShloMosaic Idealize.ShloMosaic.TcCoe Idealize.SL.Sem

/-- The normalised and rectified plane with its zero border; zero altogether when the plane `2n + k` is not one of the 32. -/
def pl2 (n : ℕ) (k : Fin 3) (s h : FVec Ideal S1x64 .f32) (x : FVec Ideal S1x1x34x34x64 .f32) (u v : ℕ) (c : Fin 64) : EReal :=
  Cert.Net.plane 32 (1 ≤ 2 * n + k.val ∧ 2 * n + k.val ≤ 32) (fun u v => max (x (ix5 0 0 u v c) * s (ix2 0 c) + h (ix2 0 c)) 0) u v

/-- The test on the plane's number, as words and as numbers. -/
theorem mask2 (n : ℕ) (hn : n < 16) (k : Fin 3) :
    (Scalar.andi (Scalar.cmpi .sge (Scalar.addi (Scalar.muli 2#32 (BitVec.ofNat 32 n)) (BitVec.ofNat 32 k.val)) 1#32)
      (Scalar.cmpi .sle (Scalar.addi (Scalar.muli 2#32 (BitVec.ofNat 32 n)) (BitVec.ofNat 32 k.val)) 32#32) = 1#1)
      ↔ 1 ≤ 2 * n + k.val ∧ 2 * n + k.val ≤ 32 := by
  revert n k; decide +kernel

/-- Splitting rows and columns by parity. -/
theorem split2 (v : FVec Ideal S36x36x64 .f32) (H) (a b : Fin 18) (e f : Fin 2) (c : Fin 64) :
    shapeCast S18x2x18x2x64 v H (ix5 a e b f c) = v (ix3 ⟨2 * a.val + e.val, by omega⟩ ⟨2 * b.val + f.val, by omega⟩ c) := by
  pointwise
  refine congrArg v (congrArg₂ (ix3 · · c) (Fin.ext ?_) (Fin.ext ?_)) <;> (dsimp only; omega)

/-- Whatever the plane holds at rows and columns, its parity split holds at twice the half index plus the parity. -/
theorem split2_at {v : FVec Ideal S36x36x64 .f32} {H} {c : Fin 64} {P : ℕ → ℕ → EReal} (hv : ∀ u w : Fin 36, v (ix3 u w c) = P u.val w.val)
    (a b : Fin 18) (e f : Fin 2) : shapeCast S18x2x18x2x64 v H (ix5 a e b f c) = P (2 * a.val + e.val) (2 * b.val + f.val) :=
  (split2 v H a b e f c).trans (hv _ _)

/-- The first of the three planes, split by parity. -/
theorem pay8_2 (i : grid2.Coords) (s h : FVec Ideal S1x64 .f32) (x : FVec Ideal S1x1x34x34x64 .f32) (a b : Fin 18) (e f : Fin 2) (c : Fin 64) :
    k2_pay8 (F := Ideal) i s h x (ix5 a e b f c) = pl2 (i 1).val 0 s h x (2 * a.val + e.val) (2 * b.val + f.val) c := by
  unfold k2_pay8
  refine split2_at (P := fun u v => pl2 (i 1).val 0 s h x u v c) (fun u v => ?_) a b e f
  generalize hR : pl2 (i 1).val 0 s h x u.val v.val c = R
  pointwise [k2_pay4, k2_pay5]
  rw [← hR]
  exact Cert.Net.plane_eq (n := 32) (fun u v => max (x (ix5 0 0 u v c) * s (ix2 0 c) + h (ix2 0 c)) 0) _ (mask2 (i 1).val (i 1).isLt 0) _ Cert.Net.zint u.val v.val

/-- The second plane, split by parity. -/
theorem pay16_2 (n : ℕ) (hn : n < 16) (s h : FVec Ideal S1x64 .f32) (x : FVec Ideal S1x1x34x34x64 .f32) (a b : Fin 18) (e f : Fin 2) (c : Fin 64) :
    k2_pay16 (F := Ideal) (BitVec.ofNat 32 n) (k2_pay4 s) (k2_pay5 h) x (ix5 a e b f c) = pl2 n 1 s h x (2 * a.val + e.val) (2 * b.val + f.val) c := by
  unfold k2_pay16
  refine split2_at (P := fun u v => pl2 n 1 s h x u v c) (fun u v => ?_) a b e f
  generalize hR : pl2 n 1 s h x u.val v.val c = R
  pointwise [k2_pay4, k2_pay5]
  rw [← hR]
  exact Cert.Net.plane_eq (n := 32) (fun u v => max (x (ix5 0 0 u v c) * s (ix2 0 c) + h (ix2 0 c)) 0) _ (mask2 n hn 1) _ Cert.Net.zint u.val v.val

/-- The third plane, split by parity. -/
theorem pay24_2 (n : ℕ) (hn : n < 16) (s h : FVec Ideal S1x64 .f32) (x : FVec Ideal S1x1x34x34x64 .f32) (a b : Fin 18) (e f : Fin 2) (c : Fin 64) :
    k2_pay24 (F := Ideal) (BitVec.ofNat 32 n) (k2_pay4 s) (k2_pay5 h) x (ix5 a e b f c) = pl2 n 2 s h x (2 * a.val + e.val) (2 * b.val + f.val) c := by
  unfold k2_pay24
  refine split2_at (P := fun u v => pl2 n 2 s h x u v c) (fun u v => ?_) a b e f
  generalize hR : pl2 n 2 s h x u.val v.val c = R
  pointwise [k2_pay4, k2_pay5]
  rw [← hR]
  exact Cert.Net.plane_eq (n := 32) (fun u v => max (x (ix5 0 0 u v c) * s (ix2 0 c) + h (ix2 0 c)) 0) _ (mask2 n hn 2) _ Cert.Net.zint u.val v.val

end Cert.KernelIdeal.Gen

end
-- ==== Proof.Value.S3b.lean ====
/- The third call's accumulator at one grid point: the stride-two convolution of the three normalised planes. -/
module

public import proofs.«01_k».proof.Proof.Value.S3

@[expose] public section

set_option maxRecDepth 16384

noncomputable section

namespace Cert.KernelIdeal.Gen

open Cert.KernelIdeal Idealize.ShloMosaic Idealize.ShloMosaic.TcCoe Idealize.SL.Sem

/-- The accumulator from the three loaded planes, the scale, the shift and the weights. -/
def acc3 (i : grid2.Coords) (x0 x1 x2 : Vec Ideal S1x1x34x34x64 .f32) (sc sh : Vec Ideal S1x64 .f32) (w : Vec Ideal S3x3x3x64x128 .f32) : FVec Ideal S256x128 .f32 :=
  let n : BitVec 32 := BitVec.ofNat 32 (i 1).val
  let s := k2_pay4 sc
  let h := k2_pay5 sh
  let p := k2_pay8 i sc sh x0
  let p' := k2_pay9 i sc sh x0
  let a := k2_pay15 (k2_pay6 w) (k2_pay10 p') (k2_pay12 (k2_pay6 w) k2_pay7 p p') (k2_pay13 p) (k2_pay14 (k2_pay6 w))
  let b := k2_pay22 (k2_pay6 w) a (k2_pay17 n s h x1) (k2_pay18 n s h x1) (k2_pay19 n s h x1) (k2_pay20 n s h x1) (k2_pay21 n s h x1)
  k2_pay32 (k2_pay6 w) (k2_pay25 n s h x2) (k2_pay26 n s h x2) (k2_pay27 n s h x2) (k2_pay28 n s h x2)
    (k2_pay29 n s h (k2_pay6 w) b (k2_pay23 (k2_pay6 w) (k2_pay17 n s h x1)) x2) (k2_pay30 n s h x2) (k2_pay31 (k2_pay6 w))

/-- It is the sum of the 27 taps over the 64 channels. -/
theorem acc3_at (i : grid2.Coords) (x0 x1 x2 : Vec Ideal S1x1x34x34x64 .f32) (sc sh : Vec Ideal S1x64 .f32) (w : Vec Ideal S3x3x3x64x128 .f32) (r : Fin 256) (o : Fin 128) :
    acc3 i x0 x1 x2 sc sh w (ix2 r o) = ∑ k : Fin 3, ∑ k1 : Fin 3, ∑ k2 : Fin 3, ∑ c : Fin 64,
      pl2 (i 1).val k sc sh (![x0, x1, x2] k) (2 * (r.val / 16) + k1.val) (2 * (r.val % 16) + k2.val) c * w (ix5 k k1 k2 c o) := by
  have h0 := pay8_2 i sc sh x0
  have h1 := pay16_2 (i 1).val (i 1).isLt sc sh x1
  have h2 := pay24_2 (i 1).val (i 1).isLt sc sh x2
  refine Eq.trans ?_ (Cert.Net.chain27 _)
  unfold acc3
  pointwise [k2_pay6, k2_pay7, k2_pay9, k2_pay10, k2_pay11, k2_pay12, k2_pay13, k2_pay14, k2_pay15, k2_pay17, k2_pay18, k2_pay19, k2_pay20, k2_pay21, k2_pay22, k2_pay23, k2_pay25, k2_pay26, k2_pay27, k2_pay28, k2_pay29, k2_pay30, k2_pay31, k2_pay32, h0, h1, h2]
  have e : ∀ m : ℕ, 2 * (1 + m) = 2 * m + 2 := fun m => by omega
  have e' : ∀ m : ℕ, (1 + m) * 2 = 2 * m + 2 := fun m => by omega
  have e'' : ∀ m : ℕ, m * 2 = 2 * m := fun m => by omega
  simp only [e, e', e'']

end Cert.KernelIdeal.Gen

end
-- ==== Proof.Value.S3c.lean ====
/- The third call's accumulator as the third convolution, and its two arrays at its end: the centre position of each
   volume, and the sums over a volume and over its squares. -/
module

public import proofs.«01_k».proof.Proof.Value.S3b

@[expose] public section

set_option maxRecDepth 16384

noncomputable section

namespace Cert.KernelIdeal.Gen

open Cert.KernelIdeal Idealize.ShloMosaic Idealize.ShloMosaic.TcCoe Idealize.SL.Sem

/-- The third convolution's input: the second-layer array without its border, scaled, shifted and rectified. -/
def z2 (H : FVec Ideal S8x34x34x34x64 .f32) (sc sh : FVec Ideal S1x64 .f32) : Cert.Net.Arr 64 32 := fun b c p q r =>
  max (H (ix5 b ⟨p.val + 1, by omega⟩ ⟨q.val + 1, by omega⟩ ⟨r.val + 1, by omega⟩ c) * sc (ix2 0 c) + sh (ix2 0 c)) 0

/-- The third convolution's values. -/
def y3 (H : FVec Ideal S8x34x34x34x64 .f32) (sc sh : FVec Ideal S1x64 .f32) (W : FVec Ideal S3x3x3x64x128 .f32) : Cert.Net.Arr 128 16 :=
  Cert.Net.conv 16 2 (z2 H sc sh) fun o c i j k => W (ix5 i j k c o)

/-- The sums over the rows of the accumulator, and over their squares. -/
def tot3 (v : FVec Ideal S256x128 .f32) : FVec Ideal S1x2x128 .f32 := fun j => ∑ r : Fin 256, Cert.Net.sq (j 1) (v (ix2 r (j 2)))

/-- The centre block is the accumulator's row 136, the position (8, 8). -/
theorem mid3 (v : FVec Ideal S256x128 .f32) (o : Fin 128) : k2_pay3 (F := Ideal) v (ix3 0 0 o) = v (ix2 136 o) := by
  pointwise [k2_pay3]

variable (V : (c : Dev nD) → (b : Ref sig .tc) → Buf (Elt Ideal) ((c : Thread nD τ).loc b))

/-- The accumulator of the point `t`. -/
def a3 (c : Dev nD) (t : Fin cfg2.N) : FVec Ideal S256x128 .f32 :=
  acc3 (grid2.coords t) (iblk2 V c 0 t) (iblk2 V c 1 t) (iblk2 V c 2 t) (iblk2 V c 3 t) (iblk2 V c 4 t) (iblk2 V c 5 t)

/-- The third convolution on the arrays the call is given. -/
def Y3 (c : Dev nD) : Cert.Net.Arr 128 16 :=
  y3 (V c (Pipeline.arrRef spec2 0)) (V c (Pipeline.arrRef spec2 3)) (V c (Pipeline.arrRef spec2 4)) (V c (Pipeline.arrRef spec2 5))

/-- The window positions of the third call. -/
theorem idx2 : ∀ t : Fin cfg2.N, win2_0.index t = ![t.val / 16, min (2 * (t.val % 16)) 33, 0, 0, 0]
    ∧ win2_1.index t = ![t.val / 16, min (2 * (t.val % 16) + 1) 33, 0, 0, 0] ∧ win2_2.index t = ![t.val / 16, min (2 * (t.val % 16) + 2) 33, 0, 0, 0]
    ∧ win2_3.index t = ![0, 0] ∧ win2_4.index t = ![0, 0] ∧ win2_5.index t = ![0, 0, 0, 0, 0]
    ∧ win2_6.index t = ![t.val / 16, 0, 0] ∧ win2_7.index t = ![t.val / 16, 0, 0]
    ∧ (grid2.coords t 1).val = t.val % 16 := (by decide +kernel : ∀ t : Fin grid2.N, _)

set_option maxHeartbeats 1000000 in
/-- The three planes the point reads, as planes of the padded second-layer array. -/
theorem rd2 (c : Dev nD) (t : Fin cfg2.N) (b : Fin 8) (hb : b.val = t.val / 16) (k : Fin 3) (p : Fin 34)
    (hp : p.val = 2 * (t.val % 16) + k.val) (u v : Fin 34) (d : Fin 64) :
    (![iblk2 V c 0 t, iblk2 V c 1 t, iblk2 V c 2 t] k) (ix5 0 0 u v d) = V c (Pipeline.arrRef spec2 0) (ix5 b p u v d) := by
  fin_cases k
  · have hp' : p.val = 2 * (t.val % 16) := hp
    show iblk2 V c 0 t _ = _
    blk_ext [iblk2, idx2 t]
  · have hp' : p.val = 2 * (t.val % 16) + 1 := hp
    show iblk2 V c 1 t _ = _
    blk_ext [iblk2, idx2 t]
  · have hp' : p.val = 2 * (t.val % 16) + 2 := hp
    show iblk2 V c 2 t _ = _
    blk_ext [iblk2, idx2 t]

/-- The factors are read whole. -/
theorem rd2_3 (c : Dev nD) (t : Fin cfg2.N) (d : Fin 64) : iblk2 V c 3 t (ix2 0 d) = V c (Pipeline.arrRef spec2 3) (ix2 0 d) := by
  blk_ext [iblk2, idx2 t]

/-- The summands are read whole. -/
theorem rd2_4 (c : Dev nD) (t : Fin cfg2.N) (d : Fin 64) : iblk2 V c 4 t (ix2 0 d) = V c (Pipeline.arrRef spec2 4) (ix2 0 d) := by
  blk_ext [iblk2, idx2 t]

/-- The kernel is read whole. -/
theorem rd2_5 (c : Dev nD) (t : Fin cfg2.N) (i j k : Fin 3) (d : Fin 64) (o : Fin 128) :
    iblk2 V c 5 t (ix5 i j k d o) = V c (Pipeline.arrRef spec2 5) (ix5 i j k d o) := by
  blk_ext [iblk2, idx2 t]

/-- The accumulator holds the convolution's values of plane `t % 16`. -/
theorem a3_pt (c : Dev nD) (t : Fin cfg2.N) (b : Fin 8) (hb : b.val = t.val / 16) (r : Fin 256) (o : Fin 128) :
    a3 V c t (ix2 r o) = Y3 V c b o ⟨t.val % 16, by omega⟩ ⟨r.val / 16, by omega⟩ ⟨r.val % 16, by omega⟩ := by
  unfold a3 Y3 y3 Cert.Net.conv
  rw [acc3_at, (idx2 t).2.2.2.2.2.2.2.2]
  refine Finset.sum_congr rfl fun i _ => Finset.sum_congr rfl fun j _ => Finset.sum_congr rfl fun k _ => Finset.sum_congr rfl fun d _ => ?_
  refine Ideal.mul_congr ?_ ?_
  · refine Cert.Net.plane_padv (n := 32) (by dsimp only; omega) (fun g u v => ?_) _ _
    unfold z2
    refine congrArg (max · (0 : EReal)) (congrArg₂ (· + ·) (Ideal.mul_congr ?_ (rd2_3 V c t d)) (rd2_4 V c t d))
    exact rd2 V c t b hb i _ (by dsimp only at g ⊢; omega) _ _ d
  · exact rd2_5 V c t i j k d o

/-- What the point adds to the sums of volume `b`. -/
theorem tot3_pt (c : Dev nD) (t : Fin cfg2.N) (b : Fin 8) (hb : b.val = t.val / 16) (s : Fin 2) (o : Fin 128) :
    tot3 (a3 V c t) (ix3 0 s o) = ∑ p : Fin 16, ∑ q : Fin 16, Cert.Net.sq s (Y3 V c b o ⟨t.val % 16, by omega⟩ p q) := by
  refine Fin.sum_divmod_congr fun r _ _ => ?_
  show Cert.Net.sq s (a3 V c t (ix2 r o)) = _
  rw [a3_pt V c t b hb]

end Cert.KernelIdeal.Gen

end
-- ==== Proof.Value.S3d.lean ====
/- The third call's arrays at its end. -/
module

public import proofs.«01_k».proof.Proof.Value.S3c

@[expose] public section

set_option maxRecDepth 16384

noncomputable section

namespace Cert.KernelIdeal.Gen

open Cert.KernelIdeal Idealize.ShloMosaic Idealize.ShloMosaic.TcCoe Idealize.SL.Sem

/-- The sums the point forms, as the store's payload. -/
theorem pay33_2 (v5 : FVec Ideal S3x3x3x64x128 .f32) (a b c d : FVec Ideal S18x18x64 .f32) (e : FVec Ideal S256x128 .f32) (f : FVec Ideal S256x64 .f32) (g : FVec Ideal S64x128 .f32)
    (s : Fin 2) (o : Fin 128) :
    k2_pay1 (F := Ideal) (k2_pay33 v5 a b c d e f g) (ix3 0 s o) = ∑ r : Fin 256, Cert.Net.sq s (k2_pay32 v5 a b c d e f g (ix2 r o)) := by
  generalize hw : k2_pay32 (F := Ideal) v5 a b c d e f g = w
  pointwise [k2_pay1, k2_pay33, hw]
  fin_cases s <;> rfl

/-- The same as arrays. -/
theorem pay33_eq (v5 : FVec Ideal S3x3x3x64x128 .f32) (a b c d : FVec Ideal S18x18x64 .f32) (e : FVec Ideal S256x128 .f32) (f : FVec Ideal S256x64 .f32) (g : FVec Ideal S64x128 .f32) :
    k2_pay1 (F := Ideal) (k2_pay33 v5 a b c d e f g) = tot3 (k2_pay32 v5 a b c d e f g) := by
  funext j
  have e := Cert.Net.unit3 (n1 := 2) (n2 := 128) j
  exact (congrArg _ e).trans (pay33_2 _ _ _ _ _ _ _ _ (j 1) (j 2))

/-- The accumulating store adds the point's sums to what the block held. -/
theorem pay2_2 (v : FVec Ideal S2x128 .f32) (b : FVec Ideal S1x2x128 .f32) (j : S1x2x128.Idx) :
    k2_pay2 v b j = b j + k2_pay1 v j := by
  generalize hw : k2_pay1 (F := Ideal) v = w
  pointwise [k2_pay2, hw]

variable (V : (c : Dev nD) → (b : Ref sig .tc) → Buf (Elt Ideal) ((c : Thread nD τ).loc b))

/-- The centre block at the plane numbered eight. -/
theorem ctr_C (c : Dev nD) (t : Fin cfg2.N) (h : t.val % 16 = 8) : (outsAt2 V c t.val t.isLt).1 = k2_pay3 (a3 V c t) := by
  rw [outsAt2_C V c t (by omega) (by omega) h]; frame_out; rfl

/-- A later point of the same volume leaves the centre block as it was. -/
theorem ctr_B (c : Dev nD) (t : Fin cfg2.N) (h : 8 < t.val % 16) :
    (outsAt2 V c t.val t.isLt).1 = (outsAt2 V c (t.val - 1) (Nat.lt_of_le_of_lt (Nat.sub_le _ _) t.isLt)).1 := by
  rw [outsAt2_B V c t (by omega) (by omega) (by omega)]; rfl

/-- So from the plane numbered eight on it holds that plane's centre. -/
theorem ctr_at (c : Dev nD) (b : ℕ) (k : ℕ) (hk : k < 8) (h : 16 * b + 8 + k < cfg2.N) :
    (outsAt2 V c (16 * b + 8 + k) h).1 = k2_pay3 (a3 V c ⟨16 * b + 8, by omega⟩) := by
  induction k with
  | zero => exact ctr_C V c ⟨16 * b + 8, h⟩ (by dsimp only; omega)
  | succ k ih => exact (ctr_B V c ⟨16 * b + 8 + (k + 1), h⟩ (by dsimp only; omega)).trans (ih (by omega) (by omega))

/-- The centre positions at the end of the third call. -/
theorem arr2_6 (c : Dev nD) : (dat2 V c).arrAt 6 cfg2.N = fun i : S8x1x128.Idx => (Y3 V c (i 0) (i 2) 8 8 8 : EReal) := by
  refine (dat2 V c).arrAt_eq_of_covers 6 _ (by decide +kernel) fun t hf y => ?_
  have hN : t.val < 128 := lt_of_lt_of_eq t.isLt N_2
  have hm : t.val % 16 = 15 := (flush2_6 t).mp hf
  have e := Cert.Net.unit3 (n1 := 1) (n2 := 128) y
  have e1 : y 1 = (0 : Fin 1) := Subsingleton.elim (α := Fin 1) _ _
  have e0 : (((cfg2.win 6).blk t).view.emb y 0 : Fin 8) = (⟨t.val / 16, by omega⟩ : Fin 8) := Fin.ext (by blk_simp [idx2 t])
  have e2 : (((cfg2.win 6).blk t).view.emb y 2 : Fin 128) = y 2 := Fin.ext (by blk_simp [idx2 t])
  blk_simp
  have ht : t = ⟨16 * (t.val / 16) + 8 + 7, lt_of_lt_of_eq (by omega : _ < 128) N_2.symm⟩ := Fin.ext (by dsimp only; omega)
  have hc : (outsAt2 V c t.val t.isLt).1 = k2_pay3 (a3 V c ⟨16 * (t.val / 16) + 8, lt_of_lt_of_eq (by omega : _ < 128) N_2.symm⟩) :=
    (congrArg (fun s : Fin cfg2.N => (outsAt2 V c s.val s.isLt).1) ht).trans (ctr_at V c (t.val / 16) 7 (by omega) _)
  rw [after2_6, hc]
  show (_ : EReal) = Y3 V c (((cfg2.win 6).blk t).view.emb y 0) (((cfg2.win 6).blk t).view.emb y 2) 8 8 8
  rw [e0, e2]
  refine (congrArg (k2_pay3 (F := Ideal) _) (e.trans (congrArg (fun k => ix3 0 k (y 2)) e1))).trans ((mid3 _ _).trans ?_)
  refine (a3_pt V c _ ⟨t.val / 16, by omega⟩ (by dsimp only; omega) _ _).trans ?_
  congr 1 <;> (apply Fin.ext; dsimp only; omega)

/-- The sums over a volume, and over its squares, at the end of the third call. -/
theorem arr2_7 (c : Dev nD) : (dat2 V c).arrAt 7 cfg2.N = fun i : S8x2x128.Idx =>
    (∑ d : Fin 16, ∑ p : Fin 16, ∑ q : Fin 16, Cert.Net.sq (i 1) (Y3 V c (i 0) (i 2) d p q) : EReal) := by
  refine (dat2 V c).arrAt_eq_of_covers 7 _ (by decide +kernel) fun t hf y => ?_
  have hN : t.val < 128 := lt_of_lt_of_eq t.isLt N_2
  have e := Cert.Net.unit3 (n1 := 2) (n2 := 128) y
  have e0 : (((cfg2.win 7).blk t).view.emb y 0 : Fin 8) = (⟨t.val / 16, by omega⟩ : Fin 8) := Fin.ext (by blk_simp [idx2 t])
  have e1 : (((cfg2.win 7).blk t).view.emb y 1 : Fin 2) = y 1 := Fin.ext (by blk_simp [idx2 t])
  have e2 : (((cfg2.win 7).blk t).view.emb y 2 : Fin 128) = y 2 := Fin.ext (by blk_simp [idx2 t])
  blk_simp
  rw [after2_7, Pipeline.eq_sum_fin_of_reset_step_apply_of_flush (fun n h => (outsAt2 V c n h).2) 16 (fun _ => 0)
    (fun t : Fin cfg2.N => tot3 (a3 V c t))
    (fun t h j => by
      rw [outsAt2_A V c t h (by omega) (by omega)]; frame_out; rw [zero_add]
      exact congrFun (pay33_eq _ _ _ _ _ _ _ _) j)
    (fun t h j => by
      by_cases h8 : t.val % 16 = 8
      · rw [outsAt2_C V c t h (by omega) h8]; frame_out; rw [pay2_2]
        exact congrArg (_ + ·) (congrFun (pay33_eq _ _ _ _ _ _ _ _) j)
      · rw [outsAt2_B V c t h (by omega) h8]; frame_out; rw [pay2_2]
        exact congrArg (_ + ·) (congrFun (pay33_eq _ _ _ _ _ _ _ _) j))
    t ((flush2_7 t).mp hf) _, zero_add]
  show (_ : EReal) = ∑ d : Fin 16, ∑ p : Fin 16, ∑ q : Fin 16, Cert.Net.sq (((cfg2.win 7).blk t).view.emb y 1)
      (Y3 V c (((cfg2.win 7).blk t).view.emb y 0) (((cfg2.win 7).blk t).view.emb y 2) d p q)
  rw [e0, e1, e2]
  refine Finset.sum_congr (M := EReal) rfl fun s _ => ?_
  have hs : (16 * (t.val / 16) + s.val) % 16 = s.val := by omega
  have hb : t.val / 16 = (16 * (t.val / 16) + s.val) / 16 := by omega
  refine (congrArg (tot3 _) e).trans ((tot3_pt V c ⟨16 * (t.val / 16) + s.val, _⟩ ⟨t.val / 16, by omega⟩ hb _ _).trans ?_)
  simp only [hs]

end Cert.KernelIdeal.Gen

end
-- ==== Proof.Value.S4.lean ====
/- What the fourth call computes: the last normalisation of the centre positions and the final matrix product. -/
module

public import proofs.«01_k».proof.Proof.Ideal.Region3
public import proofs.«01_k».proof.Proof.Value.Sums
public import Idealize.ShloMosaic.Lib.Pipeline.ValueKit
public import Idealize.ShloMosaic.Lib.Pointwise

@[expose] public section

set_option maxRecDepth 16384

noncomputable section

namespace Cert.KernelIdeal.Gen

open Cert.KernelIdeal Idealize.ShloMosaic Idealize.ShloMosaic.TcCoe Idealize.SL.Sem

/-- The final features: the scaled and shifted centres, cut at zero, times the projection, plus its bias. -/
def feat (x : S8x128.Idx → EReal) (sc sh : S1x128.Idx → EReal) (w : S128x256.Idx → EReal) (bp : S1x256.Idx → EReal) (b : Fin 8) (o : Fin 256) : EReal :=
  (∑ c : Fin 128, max (x (ix2 b c) * sc (ix2 0 c) + sh (ix2 0 c)) 0 * w (ix2 c o)) + bp (ix2 0 o)

/-- The fourth call's one store at an index. -/
theorem pay1_3 (x : Vec Ideal S8x128 .f32) (sc sh : Vec Ideal S1x128 .f32) (w : Vec Ideal S128x256 .f32) (bp : Vec Ideal S1x256 .f32) (b : Fin 8) (o : Fin 256) :
    k3_pay1 (F := Ideal) x sc sh w bp (ix2 b o) = feat x sc sh w bp b o := by
  generalize hR : feat x sc sh w bp b o = R
  pointwise [k3_pay1]
  rw [← hR]
  rfl

variable (V : (c : Dev nD) → (b : Ref sig .tc) → Buf (Elt Ideal) ((c : Thread nD τ).loc b))

/-- Every window of the fourth call's single point starts at the origin. -/
theorem idx3 : ∀ t : Fin cfg3.N, win3_0.index t = ![0, 0] ∧ win3_1.index t = ![0, 0] ∧ win3_2.index t = ![0, 0]
    ∧ win3_3.index t = ![0, 0] ∧ win3_4.index t = ![0, 0] ∧ win3_5.index t = ![0, 0] := (by decide +kernel : ∀ t : Fin grid3.N, _)

set_option maxHeartbeats 1000000

/-- The five operands are read whole. -/
theorem rd3_0 (c : Dev nD) (t : Fin cfg3.N) : iblk3 V c 0 t = V c (Pipeline.arrRef spec3 0) := by
  funext y; blk_ext [iblk3, idx3 t]
/-- The factors. -/
theorem rd3_1 (c : Dev nD) (t : Fin cfg3.N) : iblk3 V c 1 t = V c (Pipeline.arrRef spec3 1) := by
  funext y; blk_ext [iblk3, idx3 t]
/-- The summands. -/
theorem rd3_2 (c : Dev nD) (t : Fin cfg3.N) : iblk3 V c 2 t = V c (Pipeline.arrRef spec3 2) := by
  funext y; blk_ext [iblk3, idx3 t]
/-- The projection. -/
theorem rd3_3 (c : Dev nD) (t : Fin cfg3.N) : iblk3 V c 3 t = V c (Pipeline.arrRef spec3 3) := by
  funext y; blk_ext [iblk3, idx3 t]
/-- The bias. -/
theorem rd3_4 (c : Dev nD) (t : Fin cfg3.N) : iblk3 V c 4 t = V c (Pipeline.arrRef spec3 4) := by
  funext y; blk_ext [iblk3, idx3 t]

/-- The fourth call's array at its end. -/
theorem arr3_5 (c : Dev nD) : (dat3 V c).arrAt 5 cfg3.N = fun i : S8x256.Idx =>
    feat (V c (Pipeline.arrRef spec3 0)) (V c (Pipeline.arrRef spec3 1)) (V c (Pipeline.arrRef spec3 2))
      (V c (Pipeline.arrRef spec3 3)) (V c (Pipeline.arrRef spec3 4)) (i 0) (i 1) := by
  refine (dat3 V c).arrAt_eq_of_covers 5 _ (by decide +kernel) fun t hf y => ?_
  have e0 : (((cfg3.win 5).blk t).view.emb y 0 : Fin 8) = y 0 := Fin.ext (by blk_simp [idx3 t])
  have e1 : (((cfg3.win 5).blk t).view.emb y 1 : Fin 256) = y 1 := Fin.ext (by blk_simp [idx3 t])
  have e : y = ix2 (n0 := 8) (n1 := 256) (y 0) (y 1) := by funext k; fin_cases k <;> rfl
  blk_simp
  rw [after3_5, rd3_0, rd3_1, rd3_2, rd3_3, rd3_4]
  frame_out
  show (_ : EReal) = feat _ _ _ _ _ (((cfg3.win 5).blk t).view.emb y 0) (((cfg3.win 5).blk t).view.emb y 1)
  rw [e0, e1]
  exact (congrArg (k3_pay1 (F := Ideal) _ _ _ _ _) e).trans (pay1_3 _ _ _ _ _ _ _)

end Cert.KernelIdeal.Gen

end
-- ==== Proof.Value.Host0.lean ====
/- What the host operations before the first call leave in its operands. -/
module

public import proofs.«01_k».proof.Proof.Ideal.Fold0
public import proofs.«01_k».proof.Proof.Value.Planes
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KernelIdeal.Gen

open Cert.KernelIdeal Idealize.ShloMosaic Idealize.ShloMosaic.TcCoe Idealize.SL.Sem Cert.Net

variable (U : Valuation τ sig (Elt Ideal))

/-- The second kernel, tap by tap. -/
theorem host_w2 (i j k : Fin 3) (c : Fin 32) (o : Fin 64) :
    (StableHlo.after hostOps0_2 U (Proc.devRef .tc main_v5) : S3x3x3x32x64.Idx → EReal) (ix5 i j k c o)
      = (U (Proc.devRef .tc main_arg4) : S64x32x3x3x3.Idx → EReal) (ix5 o c i j k) := by
  after_reads_at

/-- The third kernel, tap by tap. -/
theorem host_w3 (i j k : Fin 3) (c : Fin 64) (o : Fin 128) :
    (StableHlo.after hostOps0_2 U (Proc.devRef .tc main_v6) : S3x3x3x64x128.Idx → EReal) (ix5 i j k c o)
      = (U (Proc.devRef .tc main_arg7) : S128x64x3x3x3.Idx → EReal) (ix5 o c i j k) := by
  after_reads_at

/-- The first kernel: row `9 i + 3 j + k` is the tap `(i, j, k)`. -/
theorem host_w1 (i j k : Fin 3) (o : Fin 32) :
    (StableHlo.after hostOps0_2 U (Proc.devRef .tc main_v4) : S27x32.Idx → EReal) (ix2 ⟨9 * i.val + 3 * j.val + k.val, by omega⟩ o)
      = (U (Proc.devRef .tc main_arg1) : S32x1x3x3x3.Idx → EReal) (ix5 o 0 i j k) := by
  fin_cases i <;> fin_cases j <;> fin_cases k <;> after_reads_at

/-- The voxels with a border of zeros. -/
theorem host_x (b : Fin 8) (p q r : Fin 66) :
    (StableHlo.after hostOps0_1 (StableHlo.after hostOps0 U) (Proc.devRef .tc main_v1) : S8x66x66x66.Idx → EReal) (ix4 b p q r)
      = padv (fun p q r : Fin 64 => (U (Proc.devRef .tc main_arg0) : S8x1x64x64x64.Idx → EReal) (ix5 b 0 p q r)) p.val q.val r.val := by
  generalize hx : (U (Proc.devRef .tc main_arg0) : S8x1x64x64x64.Idx → EReal) = x
  after_reads_at
  unfold padv
  have h0 : (FloatOps.sitofp FTy.f32 0#32 : Ideal .f32) = (0 : EReal) := zint
  rw [h0]
  refine dite_congr (propext ⟨fun h => ⟨⟨h.1.1, by omega⟩, ⟨h.2.1.1, by omega⟩, h.2.2.1, by omega⟩,
    fun h => ⟨⟨h.1.1, by omega⟩, ⟨h.2.1.1, by omega⟩, h.2.2.1, by omega⟩⟩) (fun h => ?_) fun _ => rfl
  rw [hx]

end Cert.KernelIdeal.Gen

end
-- ==== Proof.Value.Num.lean ====
/- The three counts and the small number under the root, as real numbers. -/
module

public import proofs.«01_k».proof.Proof.Value.Spec
public import Idealize.ShloMosaic.Lib.Pointwise

@[expose] public section

noncomputable section

namespace Cert.Net

open Idealize.ShloMosaic

/-- The first divisor counts the positions of a channel of extent 64. -/
theorem n1_eq : Ideal.ofBits .f32 0x4A000000#32 = ((Fintype.card (Pos 64) : ℝ) : EReal) := by
  have h : (Fintype.card (Pos 64) : ℝ) = 2097152 := by simp
  rw [h]
  simp [Ideal.ofBits, Ideal.ieee]
  rw [← EReal.coe_mul]; norm_num

/-- The second divisor counts the positions of a channel of extent 32. -/
theorem n2_eq : Ideal.ofBits .f32 0x48800000#32 = ((Fintype.card (Pos 32) : ℝ) : EReal) := by
  have h : (Fintype.card (Pos 32) : ℝ) = 262144 := by simp
  rw [h]
  simp [Ideal.ofBits, Ideal.ieee]
  rw [← EReal.coe_mul]; norm_num

/-- The third divisor counts the positions of a channel of extent 16. -/
theorem n3_eq : Ideal.ofBits .f32 0x47000000#32 = ((Fintype.card (Pos 16) : ℝ) : EReal) := by
  have h : (Fintype.card (Pos 16) : ℝ) = 32768 := by simp
  rw [h]
  simp [Ideal.ofBits, Ideal.ieee]
  rw [← EReal.coe_mul]; norm_num

/-- The small number under the root is a positive real. -/
theorem eps_pos : ∃ e : ℝ, Ideal.ofBits .f32 0x3727C5AC#32 = (e : EReal) ∧ 0 < e := by
  refine ⟨(10995116 : ℝ) * (1 / 2 ^ 40 : ℝ), ?_, by norm_num⟩
  simp [Ideal.ofBits, Ideal.ieee]

end Cert.Net

end
-- ==== Proof.Value.Layer.lean ====
/- The whole network over plain arrays, and what one layer's scale and shift do to the padded convolution. -/
module

public import proofs.«01_k».proof.Proof.Value.Num

@[expose] public section

noncomputable section

namespace Cert.Net

open Idealize.ShloMosaic

/-- The small number under the root. -/
abbrev eps : EReal := Ideal.ofBits .f32 0x3727C5AC#32

/-- A convolution's kernel: output channel, input channel, three spatial taps. -/
abbrev Ker (O C : ℕ) := Fin O → Fin C → Fin 3 → Fin 3 → Fin 3 → EReal

/-- A kernel of rank five read as such. -/
def kerOf {O C : ℕ} (w : (⟨5, ![O, C, 3, 3, 3]⟩ : Shape).Idx → EReal) : Ker O C := fun o c i j k => w (ix5 o c i j k)
/-- A parameter per channel. -/
def vecOf {C : ℕ} (g : (⟨1, ![C]⟩ : Shape).Idx → EReal) : Fin C → EReal := fun o => g (ix1 o)
/-- The voxels. -/
def voxOf (x : (⟨5, ![8, 1, 64, 64, 64]⟩ : Shape).Idx → EReal) : Arr 1 64 := fun b c p q r => x (ix5 b c p q r)

/-- A coordinate inside the border of zeros. -/
theorem padv_inner {n : ℕ} (x : Fin n → Fin n → Fin n → EReal) (p q r : Fin n) : padv x (p.val + 1) (q.val + 1) (r.val + 1) = x p q r := by
  have hp := p.isLt
  have hq := q.isLt
  have hr := r.isLt
  unfold padv
  rw [dif_pos ⟨⟨by omega, by omega⟩, ⟨by omega, by omega⟩, ⟨by omega, by omega⟩⟩]
  rfl

/-- The sum over the batch of what a call left for each volume: of the values (`s = 0`) or of their squares (`s = 1`). -/
def tot {C : ℕ} (st : (⟨3, ![8, 2, C]⟩ : Shape).Idx → EReal) (s : Fin 2) (o : Fin C) : EReal := ∑ b : Fin 8, st (ix3 b s o)

/-- The factor made of the sums. -/
def scl {C : ℕ} (N eps : EReal) (g : Fin C → EReal) (st : (⟨3, ![8, 2, C]⟩ : Shape).Idx → EReal) (o : Fin C) : EReal :=
  Ideal.div (g o) (Ideal.sqrt (Ideal.div (tot st 1 o) N - Ideal.div (tot st 0 o) N * Ideal.div (tot st 0 o) N + eps))

/-- The summand made of the sums. -/
def sft {C : ℕ} (N eps : EReal) (g β : Fin C → EReal) (st : (⟨3, ![8, 2, C]⟩ : Shape).Idx → EReal) (o : Fin C) : EReal :=
  β o - Ideal.div (tot st 0 o) N * scl N eps g st o

/-- The two sums per volume and channel of an array. -/
def stat {C n : ℕ} (y : Arr C n) : (⟨3, ![8, 2, C]⟩ : Shape).Idx → EReal := fun i =>
  ∑ d : Fin n, ∑ p : Fin n, ∑ q : Fin n, sq (i 1) (y (i 0) (i 2) d p q)

/-- Of an array's sums the factor and the summand are those of its normalisation. -/
theorem scl_stat {C n : ℕ} (N eps : EReal) (g : Fin C → EReal) (y : Arr C n) (o : Fin C) : scl N eps g (stat y) o = scale N eps g y o := rfl

/-- The summand is the normalisation's. -/
theorem sft_stat {C n : ℕ} (N eps : EReal) (g β : Fin C → EReal) (y : Arr C n) (o : Fin C) : sft N eps g β (stat y) o = shift N eps g β y o := rfl

/-- A layer's scaled and shifted values, cut at zero, are its normalised array. -/
theorem layer {C n : ℕ} {N : EReal} (hN : N = ((Fintype.card (Pos n) : ℝ) : EReal)) (hn : n ≠ 0) {g : Fin C → EReal} (β : Fin C → EReal)
    (hg : ∀ o, Rl (g o)) {y : Arr C n} (hy : ∀ b o p q r, Rl (y b o p q r)) (b o p q r) :
    max (y b o p q r * scl N eps g (stat y) o + sft N eps g β (stat y) o) 0 = norm N eps g β y b o p q r := by
  obtain ⟨e, he, h0⟩ := eps_pos
  rw [scl_stat, sft_stat, scale_shift hN hn he h0 hg hy]
  rfl

/-- The normalised array is finite. -/
theorem layer_rl {C n : ℕ} {N : EReal} (hN : N = ((Fintype.card (Pos n) : ℝ) : EReal)) (hn : n ≠ 0) {g β : Fin C → EReal}
    (hg : ∀ o, Rl (g o)) (hβ : ∀ o, Rl (β o)) {y : Arr C n} (hy : ∀ b o p q r, Rl (y b o p q r)) (b o p q r) : Rl (norm N eps g β y b o p q r) := by
  obtain ⟨e, he, h0⟩ := eps_pos
  exact norm_rl hN hn he h0 hg hβ hy b o p q r

end Cert.Net

end
-- ==== Proof.Value.Host1.lean ====
/- What the host operations between the calls compute: the scale and shift of a normalisation from a call's sums. -/
module

public import proofs.«01_k».proof.Proof.Ideal.Fold0
public import proofs.«01_k».proof.Proof.Value.Layer
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KernelIdeal.Gen

open Cert.KernelIdeal Idealize.ShloMosaic Idealize.ShloMosaic.TcCoe Idealize.SL.Sem Cert.Net

variable (U : Valuation τ sig (Elt Ideal))

/-- The factor of normalisation 1. -/
theorem host_sc1 (o : Fin 32) :
    (StableHlo.after hostOps1 U (Proc.devRef .tc main_v25) : S1x32.Idx → EReal) (ix2 0 o)
      = scl (Ideal.ofBits .f32 0x4A000000#32) eps (vecOf (U (Proc.devRef .tc main_arg2) : S32.Idx → EReal)) (U (Proc.devRef .tc main_v7_1) : S8x2x32.Idx → EReal) o := by
  simp only [scl, tot, vecOf]
  after_reads_at

/-- The summand of normalisation 1. -/
theorem host_sh1 (o : Fin 32) :
    (StableHlo.after hostOps1 U (Proc.devRef .tc main_v26) : S1x32.Idx → EReal) (ix2 0 o)
      = sft (Ideal.ofBits .f32 0x4A000000#32) eps (vecOf (U (Proc.devRef .tc main_arg2) : S32.Idx → EReal)) (vecOf (U (Proc.devRef .tc main_arg3) : S32.Idx → EReal)) (U (Proc.devRef .tc main_v7_1) : S8x2x32.Idx → EReal) o := by
  simp only [sft, scl, tot, vecOf]
  after_reads_at

/-- The factor of normalisation 2. -/
theorem host_sc2 (o : Fin 64) :
    (StableHlo.after hostOps2 U (Proc.devRef .tc main_v45) : S1x64.Idx → EReal) (ix2 0 o)
      = scl (Ideal.ofBits .f32 0x48800000#32) eps (vecOf (U (Proc.devRef .tc main_arg5) : S64.Idx → EReal)) (U (Proc.devRef .tc main_v27_1) : S8x2x64.Idx → EReal) o := by
  simp only [scl, tot, vecOf]
  after_reads_at

/-- The summand of normalisation 2. -/
theorem host_sh2 (o : Fin 64) :
    (StableHlo.after hostOps2 U (Proc.devRef .tc main_v46) : S1x64.Idx → EReal) (ix2 0 o)
      = sft (Ideal.ofBits .f32 0x48800000#32) eps (vecOf (U (Proc.devRef .tc main_arg5) : S64.Idx → EReal)) (vecOf (U (Proc.devRef .tc main_arg6) : S64.Idx → EReal)) (U (Proc.devRef .tc main_v27_1) : S8x2x64.Idx → EReal) o := by
  simp only [sft, scl, tot, vecOf]
  after_reads_at

/-- The factor of normalisation 3. -/
theorem host_sc3 (o : Fin 128) :
    (StableHlo.after hostOps3 U (Proc.devRef .tc main_v65) : S1x128.Idx → EReal) (ix2 0 o)
      = scl (Ideal.ofBits .f32 0x47000000#32) eps (vecOf (U (Proc.devRef .tc main_arg8) : S128.Idx → EReal)) (U (Proc.devRef .tc main_v47_1) : S8x2x128.Idx → EReal) o := by
  simp only [scl, tot, vecOf]
  after_reads_at

/-- The summand of normalisation 3. -/
theorem host_sh3 (o : Fin 128) :
    (StableHlo.after hostOps3 U (Proc.devRef .tc main_v66) : S1x128.Idx → EReal) (ix2 0 o)
      = sft (Ideal.ofBits .f32 0x47000000#32) eps (vecOf (U (Proc.devRef .tc main_arg8) : S128.Idx → EReal)) (vecOf (U (Proc.devRef .tc main_arg9) : S128.Idx → EReal)) (U (Proc.devRef .tc main_v47_1) : S8x2x128.Idx → EReal) o := by
  simp only [sft, scl, tot, vecOf]
  after_reads_at

/-- The centres, the projection and its bias as the last call takes them. -/
theorem host_ctr (b : Fin 8) (o : Fin 128) :
    (StableHlo.after hostOps3 U (Proc.devRef .tc main_v67) : S8x128.Idx → EReal) (ix2 b o)
      = (U (Proc.devRef .tc main_v47_0) : S8x1x128.Idx → EReal) (ix3 b 0 o) := by
  after_reads_at

/-- The projection, transposed. -/
theorem host_wp (c : Fin 128) (o : Fin 256) :
    (StableHlo.after hostOps3 U (Proc.devRef .tc main_v68) : S128x256.Idx → EReal) (ix2 c o)
      = (U (Proc.devRef .tc main_arg10) : S256x128.Idx → EReal) (ix2 o c) := by
  after_reads_at

/-- Its bias, as a row. -/
theorem host_bp (o : Fin 256) :
    (StableHlo.after hostOps3 U (Proc.devRef .tc main_v69) : S1x256.Idx → EReal) (ix2 0 o)
      = (U (Proc.devRef .tc main_arg11) : S256.Idx → EReal) (ix1 o) := by
  after_reads_at

end Cert.KernelIdeal.Gen

end
-- ==== Proof.Value.Kern.lean ====
/- The kernel's result as the network over the launch's arguments, when these are finite. -/
module

public import proofs.«01_k».proof.Proof.Value.S1b
public import proofs.«01_k».proof.Proof.Value.S2d
public import proofs.«01_k».proof.Proof.Value.S3d
public import proofs.«01_k».proof.Proof.Value.S4
public import proofs.«01_k».proof.Proof.Value.Host0
public import proofs.«01_k».proof.Proof.Value.Host1

@[expose] public section

set_option maxRecDepth 16384

noncomputable section

namespace Cert.KernelIdeal.Gen

open Cert.KernelIdeal Idealize.ShloMosaic Idealize.ShloMosaic.TcCoe Idealize.SL.Sem Cert.Net

variable (m : (ℓ : Loc nD τ sig) → Buf (Elt Ideal) ℓ) (ρ : Dev nD → PrngReg) (c : Dev nD)

/-! ## The arguments -/

/-- Argument 0: the voxels. -/
abbrev A0 : S8x1x64x64x64.Idx → EReal := m ((c : Thread nD τ).loc main_arg0)
/-- Argument 1: the first kernel. -/
abbrev A1 : S32x1x3x3x3.Idx → EReal := m ((c : Thread nD τ).loc main_arg1)
/-- Argument 2: the first normalisation's factors. -/
abbrev A2 : S32.Idx → EReal := m ((c : Thread nD τ).loc main_arg2)
/-- Argument 3: its summands. -/
abbrev A3 : S32.Idx → EReal := m ((c : Thread nD τ).loc main_arg3)
/-- Argument 4: the second kernel. -/
abbrev A4 : S64x32x3x3x3.Idx → EReal := m ((c : Thread nD τ).loc main_arg4)
/-- Argument 5: the second normalisation's factors. -/
abbrev A5 : S64.Idx → EReal := m ((c : Thread nD τ).loc main_arg5)
/-- Argument 6: its summands. -/
abbrev A6 : S64.Idx → EReal := m ((c : Thread nD τ).loc main_arg6)
/-- Argument 7: the third kernel. -/
abbrev A7 : S128x64x3x3x3.Idx → EReal := m ((c : Thread nD τ).loc main_arg7)
/-- Argument 8: the third normalisation's factors. -/
abbrev A8 : S128.Idx → EReal := m ((c : Thread nD τ).loc main_arg8)
/-- Argument 9: its summands. -/
abbrev A9 : S128.Idx → EReal := m ((c : Thread nD τ).loc main_arg9)
/-- Argument 10: the projection. -/
abbrev A10 : S256x128.Idx → EReal := m ((c : Thread nD τ).loc main_arg10)
/-- Argument 11: the bias. -/
abbrev A11 : S256.Idx → EReal := m ((c : Thread nD τ).loc main_arg11)

/-- The voxels, the kernels and the normalisations' parameters, but the last summand, are finite. -/
structure Finite : Prop where
  x : ∀ i, Rl (A0 m c i)
  w1 : ∀ i, Rl (A1 m c i)
  g1 : ∀ i, Rl (A2 m c i)
  b1 : ∀ i, Rl (A3 m c i)
  w2 : ∀ i, Rl (A4 m c i)
  g2 : ∀ i, Rl (A5 m c i)
  b2 : ∀ i, Rl (A6 m c i)
  w3 : ∀ i, Rl (A7 m c i)
  g3 : ∀ i, Rl (A8 m c i)

/-- The number of values per channel in the first layer. -/
abbrev N1 : EReal := Ideal.ofBits .f32 0x4A000000#32
/-- The number of values per channel in the second layer. -/
abbrev N2 : EReal := Ideal.ofBits .f32 0x48800000#32
/-- The number of values per channel in the third layer. -/
abbrev N3 : EReal := Ideal.ofBits .f32 0x47000000#32

/-- The first convolution of the arguments. -/
def L1 : Arr 32 64 := conv 64 1 (voxOf (A0 m c)) (kerOf (A1 m c))
/-- The first normalised array. -/
def H1 : Arr 32 64 := norm N1 eps (vecOf (A2 m c)) (vecOf (A3 m c)) (L1 m c)
/-- The second convolution. -/
def L2 : Arr 64 32 := conv 32 2 (H1 m c) (kerOf (A4 m c))
/-- The second normalised array. -/
def H2 : Arr 64 32 := norm N2 eps (vecOf (A5 m c)) (vecOf (A6 m c)) (L2 m c)
/-- The third convolution. -/
def L3 : Arr 128 16 := conv 16 2 (H2 m c) (kerOf (A7 m c))
/-- The third normalised array. -/
def H3 : Arr 128 16 := norm N3 eps (vecOf (A8 m c)) (vecOf (A9 m c)) (L3 m c)

/-- The final features. -/
def net (b : Fin 8) (o : Fin 256) : EReal := (∑ k : Fin 128, H3 m c b k 8 8 8 * A10 m c (ix2 o k)) + A11 m c (ix1 o)

variable {m c}

/-- The first convolution is finite. -/
theorem L1_rl (h : Finite m c) (b o p q r) : Rl (L1 m c b o p q r) :=
  conv_rl 64 1 (fun _ _ _ _ _ => h.x _) (fun _ _ _ _ _ => h.w1 _) b o p q r
/-- So is its normalised array. -/
theorem H1_rl (h : Finite m c) (b o p q r) : Rl (H1 m c b o p q r) :=
  layer_rl n1_eq (by decide) (fun _ => h.g1 _) (fun _ => h.b1 _) (L1_rl h) b o p q r
/-- So is the second convolution. -/
theorem L2_rl (h : Finite m c) (b o p q r) : Rl (L2 m c b o p q r) :=
  conv_rl 32 2 (H1_rl h) (fun _ _ _ _ _ => h.w2 _) b o p q r
/-- So is its normalised array. -/
theorem H2_rl (h : Finite m c) (b o p q r) : Rl (H2 m c b o p q r) :=
  layer_rl n2_eq (by decide) (fun _ => h.g2 _) (fun _ => h.b2 _) (L2_rl h) b o p q r
/-- So is the third convolution. -/
theorem L3_rl (h : Finite m c) (b o p q r) : Rl (L3 m c b o p q r) :=
  conv_rl 16 2 (H2_rl h) (fun _ _ _ _ _ => h.w3 _) b o p q r

variable (m c)

/-! ## The first call -/

/-- The padded voxels at the first call. -/
theorem x_at (b : Fin 8) (p q r : Fin 66) :
    (V3 m ρ c main_v1 : S8x66x66x66.Idx → EReal) (ix4 b p q r) = padv (voxOf (A0 m c) b 0) p.val q.val r.val :=
  (congrFun (W3_of m ρ c main_v1 (by decide)) _).trans (host_x (W0 m ρ c) b p q r)

/-- The first kernel at the first call. -/
theorem w1_at (i j k : Fin 3) (o : Fin 32) :
    (V3 m ρ c main_v4 : S27x32.Idx → EReal) (ix2 ⟨9 * i.val + 3 * j.val + k.val, by omega⟩ o) = kerOf (A1 m c) o 0 i j k :=
  (host_w1 (W2 m ρ c) i j k o).trans (congrFun (W2_args m ρ c main_arg1 (by decide)) _)

/-- What the first call sums is the first convolution. -/
theorem y1_eq : y1 (V3 m ρ c (Pipeline.arrRef spec0 0)) (V3 m ρ c (Pipeline.arrRef spec0 3)) = L1 m c := by
  funext b o p q r
  unfold y1 L1 conv
  refine Finset.sum_congr rfl fun i _ => Finset.sum_congr rfl fun j _ => Finset.sum_congr rfl fun k _ => ?_
  rw [Fin.sum_univ_one, one_mul, one_mul, one_mul]
  exact congrArg₂ (fun u v : EReal => u * v) (x_at m ρ c b _ _ _) (w1_at m ρ c i j k o)

/-- The array the call of layer 1 leaves: its convolution with a border of zeros. -/
theorem arr1 (_h : Finite m c) : (V5 m ρ c main_v7_0 : S8x66x66x66x32.Idx → EReal) = fun i => padv (L1 m c (i 0) (i 4)) (i 1).val (i 2).val (i 3).val :=
  (W5_of m ρ c main_v7_0 (by decide)).trans ((W4_arr m ρ c 4).trans ((arr0_4 (V3 m ρ) c).trans (by rw [y1_eq m ρ c]; rfl)))

/-- The sums it leaves. -/
theorem sums1 (_h : Finite m c) : (W4 m ρ c (Proc.devRef .tc main_v7_1) : S8x2x32.Idx → EReal) = stat (L1 m c) :=
  (W4_arr m ρ c 5).trans ((arr0_5 (V3 m ρ) c).trans (by rw [y1_eq m ρ c]; rfl))

/-- The factor and the summand the next call takes. -/
theorem sc1_at (h : Finite m c) (o : Fin 32) : (V5 m ρ c main_v25 : S1x32.Idx → EReal) (ix2 0 o) = scl N1 eps (vecOf (A2 m c)) (stat (L1 m c)) o :=
  (host_sc1 (W4 m ρ c) o).trans (congrArg₂ (fun g s => scl N1 eps (vecOf g) s o) (W4_args m ρ c main_arg2 (by decide)) (sums1 m ρ c h))

/-- The summand it takes. -/
theorem sh1_at (h : Finite m c) (o : Fin 32) :
    (V5 m ρ c main_v26 : S1x32.Idx → EReal) (ix2 0 o) = sft N1 eps (vecOf (A2 m c)) (vecOf (A3 m c)) (stat (L1 m c)) o :=
  (host_sh1 (W4 m ρ c) o).trans (by
    rw [show (W4 m ρ c (Proc.devRef .tc main_v7_1) : S8x2x32.Idx → EReal) = _ from sums1 m ρ c h]
    exact congrArg₂ (fun g β => sft N1 eps (vecOf g) (vecOf β) (stat (L1 m c)) o) (W4_args m ρ c main_arg2 (by decide)) (W4_args m ρ c main_arg3 (by decide)))

/-! ## The call of layer 2 -/

/-- What it reads of the previous layer's array inside the border. -/
theorem in1_at (h : Finite m c) (b : Fin 8) (o : Fin 32) (p q r : Fin 64) :
    (V5 m ρ c main_v7_0 : S8x66x66x66x32.Idx → EReal) (ix5 b ⟨p.val + 1, by omega⟩ ⟨q.val + 1, by omega⟩ ⟨r.val + 1, by omega⟩ o) = L1 m c b o p q r := by
  rw [arr1 m ρ c h]
  exact padv_inner (L1 m c b o) p q r

/-- What it normalises is the previous layer's normalised array. -/
theorem z1_eq (h : Finite m c) :
    z1 (V5 m ρ c (Pipeline.arrRef spec1 0)) (V5 m ρ c (Pipeline.arrRef spec1 3)) (V5 m ρ c (Pipeline.arrRef spec1 4)) = H1 m c := by
  funext b o p q r
  have e := congrArg₂ (fun u v : EReal => max (u + v) 0) (congrArg₂ (fun u v : EReal => u * v) (in1_at m ρ c h b o p q r) (sc1_at m ρ c h o)) (sh1_at m ρ c h o)
  refine Eq.trans ?_ (e.trans (layer n1_eq (by decide) (vecOf (A3 m c)) (fun _ => h.g1 _) (L1_rl h) b o p q r))
  rfl

/-- Its kernel. -/
theorem w2_at (i j k : Fin 3) (u : Fin 32) (o : Fin 64) :
    (V5 m ρ c main_v5 : S3x3x3x32x64.Idx → EReal) (ix5 i j k u o) = kerOf (A4 m c) o u i j k :=
  (congrFun ((W5_of m ρ c main_v5 (by decide)).trans (W4_of m ρ c main_v5 (by decide))) _).trans ((host_w2 (W2 m ρ c) i j k u o).trans (congrFun (W2_args m ρ c main_arg4 (by decide)) _))

/-- What it sums is the convolution of layer 2. -/
theorem y2_eq (h : Finite m c) : Y2 (V5 m ρ) c = L2 m c := by
  unfold Y2 y2 L2
  rw [z1_eq m ρ c h]
  congr 1
  funext o u i j k
  exact w2_at m ρ c i j k u o

/-- The array the call of layer 2 leaves: its convolution with a border of zeros. -/
theorem arr2 (h : Finite m c) : (V7 m ρ c main_v27_0 : S8x34x34x34x64.Idx → EReal) = fun i => padv (L2 m c (i 0) (i 4)) (i 1).val (i 2).val (i 3).val :=
  (W7_of m ρ c main_v27_0 (by decide)).trans ((W6_arr m ρ c 6).trans ((arr1_6 (V5 m ρ) c).trans (by rw [y2_eq m ρ c h]; rfl)))

/-- The sums it leaves. -/
theorem sums2 (h : Finite m c) : (W6 m ρ c (Proc.devRef .tc main_v27_1) : S8x2x64.Idx → EReal) = stat (L2 m c) :=
  (W6_arr m ρ c 7).trans ((arr1_7 (V5 m ρ) c).trans (by rw [y2_eq m ρ c h]; rfl))

/-- The factor and the summand the next call takes. -/
theorem sc2_at (h : Finite m c) (o : Fin 64) : (V7 m ρ c main_v45 : S1x64.Idx → EReal) (ix2 0 o) = scl N2 eps (vecOf (A5 m c)) (stat (L2 m c)) o :=
  (host_sc2 (W6 m ρ c) o).trans (congrArg₂ (fun g s => scl N2 eps (vecOf g) s o) (W6_args m ρ c main_arg5 (by decide)) (sums2 m ρ c h))

/-- The summand it takes. -/
theorem sh2_at (h : Finite m c) (o : Fin 64) :
    (V7 m ρ c main_v46 : S1x64.Idx → EReal) (ix2 0 o) = sft N2 eps (vecOf (A5 m c)) (vecOf (A6 m c)) (stat (L2 m c)) o :=
  (host_sh2 (W6 m ρ c) o).trans (by
    rw [show (W6 m ρ c (Proc.devRef .tc main_v27_1) : S8x2x64.Idx → EReal) = _ from sums2 m ρ c h]
    exact congrArg₂ (fun g β => sft N2 eps (vecOf g) (vecOf β) (stat (L2 m c)) o) (W6_args m ρ c main_arg5 (by decide)) (W6_args m ρ c main_arg6 (by decide)))

/-! ## The call of layer 3 -/

/-- What it reads of the previous layer's array inside the border. -/
theorem in2_at (h : Finite m c) (b : Fin 8) (o : Fin 64) (p q r : Fin 32) :
    (V7 m ρ c main_v27_0 : S8x34x34x34x64.Idx → EReal) (ix5 b ⟨p.val + 1, by omega⟩ ⟨q.val + 1, by omega⟩ ⟨r.val + 1, by omega⟩ o) = L2 m c b o p q r := by
  rw [arr2 m ρ c h]
  exact padv_inner (L2 m c b o) p q r

/-- What it normalises is the previous layer's normalised array. -/
theorem z2_eq (h : Finite m c) :
    z2 (V7 m ρ c (Pipeline.arrRef spec2 0)) (V7 m ρ c (Pipeline.arrRef spec2 3)) (V7 m ρ c (Pipeline.arrRef spec2 4)) = H2 m c := by
  funext b o p q r
  have e := congrArg₂ (fun u v : EReal => max (u + v) 0) (congrArg₂ (fun u v : EReal => u * v) (in2_at m ρ c h b o p q r) (sc2_at m ρ c h o)) (sh2_at m ρ c h o)
  refine Eq.trans ?_ (e.trans (layer n2_eq (by decide) (vecOf (A6 m c)) (fun _ => h.g2 _) (L2_rl h) b o p q r))
  rfl

/-- Its kernel. -/
theorem w3_at (i j k : Fin 3) (u : Fin 64) (o : Fin 128) :
    (V7 m ρ c main_v6 : S3x3x3x64x128.Idx → EReal) (ix5 i j k u o) = kerOf (A7 m c) o u i j k :=
  (congrFun ((W7_of m ρ c main_v6 (by decide)).trans ((W6_of m ρ c main_v6 (by decide)).trans ((W5_of m ρ c main_v6 (by decide)).trans (W4_of m ρ c main_v6 (by decide))))) _).trans ((host_w3 (W2 m ρ c) i j k u o).trans (congrFun (W2_args m ρ c main_arg7 (by decide)) _))

/-- What it sums is the convolution of layer 3. -/
theorem y3_eq (h : Finite m c) : Y3 (V7 m ρ) c = L3 m c := by
  unfold Y3 y3 L3
  rw [z2_eq m ρ c h]
  congr 1
  funext o u i j k
  exact w3_at m ρ c i j k u o

/-- The centres the third call leaves, as the last call takes them. -/
theorem ctr_eq (h : Finite m c) (b : Fin 8) (o : Fin 128) : (V9 m ρ c main_v67 : S8x128.Idx → EReal) (ix2 b o) = L3 m c b o 8 8 8 :=
  (host_ctr (W8 m ρ c) b o).trans (congrFun ((W8_arr m ρ c 6).trans ((arr2_6 (V7 m ρ) c).trans (by rw [y3_eq m ρ c h]))) (ix3 b 0 o))

/-- The sums it leaves. -/
theorem sums3 (h : Finite m c) : (W8 m ρ c (Proc.devRef .tc main_v47_1) : S8x2x128.Idx → EReal) = stat (L3 m c) :=
  (W8_arr m ρ c 7).trans ((arr2_7 (V7 m ρ) c).trans (by rw [y3_eq m ρ c h]; rfl))

/-- The factor and the summand the next call takes. -/
theorem sc3_at (h : Finite m c) (o : Fin 128) : (V9 m ρ c main_v65 : S1x128.Idx → EReal) (ix2 0 o) = scl N3 eps (vecOf (A8 m c)) (stat (L3 m c)) o :=
  (host_sc3 (W8 m ρ c) o).trans (congrArg₂ (fun g s => scl N3 eps (vecOf g) s o) (W8_args m ρ c main_arg8 (by decide)) (sums3 m ρ c h))

/-- The summand it takes. -/
theorem sh3_at (h : Finite m c) (o : Fin 128) :
    (V9 m ρ c main_v66 : S1x128.Idx → EReal) (ix2 0 o) = sft N3 eps (vecOf (A8 m c)) (vecOf (A9 m c)) (stat (L3 m c)) o :=
  (host_sh3 (W8 m ρ c) o).trans (by
    rw [show (W8 m ρ c (Proc.devRef .tc main_v47_1) : S8x2x128.Idx → EReal) = _ from sums3 m ρ c h]
    exact congrArg₂ (fun g β => sft N3 eps (vecOf g) (vecOf β) (stat (L3 m c)) o) (W8_args m ρ c main_arg8 (by decide)) (W8_args m ρ c main_arg9 (by decide)))

/-! ## The last call -/

/-- The kernel's result is the network's. -/
theorem out_eq (h : Finite m c) (b : Fin 8) (o : Fin 256) : (W10 m ρ c (Proc.devRef .tc main_v70) : S8x256.Idx → EReal) (ix2 b o) = net m c b o := by
  refine (congrFun ((W10_arr m ρ c 5).trans (arr3_5 (V9 m ρ) c)) (ix2 b o)).trans ?_
  refine congrArg₂ (fun u v : EReal => u + v) (Finset.sum_congr (M := EReal) rfl fun k _ => ?_) ?_
  · refine congrArg₂ (fun u v : EReal => u * v) ?_ ?_
    · exact (congrArg₂ (fun u v : EReal => max (u + v) 0) (congrArg₂ (fun u v : EReal => u * v) (ctr_eq m ρ c h b k) (sc3_at m ρ c h k)) (sh3_at m ρ c h k)).trans
        (layer n3_eq (by decide) (vecOf (A9 m c)) (fun _ => h.g3 _) (L3_rl h) b k 8 8 8)
    · exact (host_wp (W8 m ρ c) k o).trans (congrFun (W8_args m ρ c main_arg10 (by decide)) _)
  · exact (host_bp (W8 m ρ c) o).trans (congrFun (W8_args m ρ c main_arg11 (by decide)) _)

end Cert.KernelIdeal.Gen

end
-- ==== Proof.Value.Taps.lean ====
/- The reference's pieces, read at an index: a padded array, a channel's statistics, and a convolution as the chain of
   its twenty-seven taps. -/
module

public import proofs.«01_k».proof.Proof.Value.Planes
public import proofs.«01_k».proof.Proof.Value.Sums
public import Idealize.ShloMosaic.Lib.Pointwise

@[expose] public section

set_option maxRecDepth 16384

noncomputable section

namespace Cert.Net

open Idealize.ShloMosaic

/-- One tap of a convolution, the kernel's entry first. -/
def tap {C n O : ℕ} (s : ℕ) (x : Arr C n) (w : Fin O → Fin C → Fin 3 → Fin 3 → Fin 3 → EReal) (b : Fin 8) (o : Fin O) (p q r : ℕ) (i j k : Fin 3) : EReal :=
  ∑ c : Fin C, w o c i j k * padv (x b c) (i.val + s * p) (j.val + s * q) (k.val + s * r)

/-- The convolution as a chain of taps. -/
theorem conv_taps {C n O : ℕ} (m s : ℕ) (x : Arr C n) (w : Fin O → Fin C → Fin 3 → Fin 3 → Fin 3 → EReal) (b : Fin 8) (o : Fin O) (p q r : Fin m)
    (f : Fin 3 → Fin 3 → Fin 3 → EReal) (hf : f = tap s x w b o p.val q.val r.val) :
    conv m s x w b o p q r = 0 + f 0 0 0 + f 0 0 1 + f 0 0 2 + f 0 1 0 + f 0 1 1 + f 0 1 2 + f 0 2 0 + f 0 2 1 + f 0 2 2
      + f 1 0 0 + f 1 0 1 + f 1 0 2 + f 1 1 0 + f 1 1 1 + f 1 1 2 + f 1 2 0 + f 1 2 1 + f 1 2 2
      + f 2 0 0 + f 2 0 1 + f 2 0 2 + f 2 1 0 + f 2 1 1 + f 2 1 2 + f 2 2 0 + f 2 2 1 + f 2 2 2 := by
  rw [chain27, hf]
  simp only [tap, conv, mul_comm, add_comm]

/-- A batch padded by one with the integer zero has a border of zeros. -/
theorem pad_at {C n m : ℕ} {u : Shape} (h : (⟨5, ![8, C, n, n, n]⟩ : Shape).Pads ![0, 0, 1, 1, 1] ![0, 0, 1, 1, 1] ![0, 0, 0, 0, 0] ⟨5, ![8, C, m, m, m]⟩)
    (hu : 0 < u.numel) (x : (⟨5, ![8, C, n, n, n]⟩ : Shape).Idx → EReal) (b : Fin 8) (c : Fin C) (p q r : Fin m) :
    pad (⟨5, ![8, C, m, m, m]⟩ : Shape) ![0, 0, 1, 1, 1] ![0, 0, 1, 1, 1] ![0, 0, 0, 0, 0] x (sitofp (F := Ideal) .f32 (constantI u 32 0#32)) h hu (ix5 b c p q r)
      = padv (fun p q r => x (ix5 b c p q r)) p.val q.val r.val := by
  unfold pad padv
  refine dite_congr (propext ⟨fun hh => ?_, fun hh a => ?_⟩) (fun hh => ?_) fun _ => zint
  · have h2 := hh (2 : Fin 5)
    have h3 := hh (3 : Fin 5)
    have h4 := hh (4 : Fin 5)
    simp [ix5] at h2 h3 h4
    omega
  · have hb := b.isLt
    have hc := c.isLt
    fin_cases a <;> simp [ix5] <;> omega
  · refine congrArg x (funext fun a => ?_)
    fin_cases a <;> apply Fin.ext <;> simp [ix5]

/-- A channel's sum over batch and volume, divided by a number. -/
theorem mean_at {C n : ℕ} (h : (⟨5, ![8, C, n, n, n]⟩ : Shape).ReducesTo [0, 2, 3, 4] ⟨1, ![C]⟩)
    (v : (⟨5, ![8, C, n, n, n]⟩ : Shape).Idx → EReal) (o : Fin C) :
    Ideal.hostReduceAdd h v 0 (ix1 o) = total (fun b c p q r => v (ix5 b c p q r)) o := by
  rw [hostReduceAdd_channel, zero_add]; rfl

/-- The mean of a channel's squared deviations. -/
theorem var_at {C n : ℕ} (h : (⟨5, ![8, C, n, n, n]⟩ : Shape).ReducesTo [0, 2, 3, 4] ⟨1, ![C]⟩)
    (M : FVec Ideal ⟨5, ![8, C, n, n, n]⟩ .f32) (N : EReal) (y : Arr C n) (hd : ∀ b o p q r, M (ix5 b o p q r) = y b o p q r - mean N y o)
    (o : Fin C) : Ideal.div (Ideal.hostReduceAdd h (mulf M M) 0 (ix1 o)) N = var N y o := by
  rw [mean_at, var]
  congr 2
  funext b c p q r
  exact congrArg₂ (fun u v : EReal => u * v) (hd b c p q r) (hd b c p q r)

end Cert.Net

end
-- ==== Proof.Value.Ref1.lean ====
/- The reference's first layer. -/
module

public import proofs.«01_k».proof.Proof.Gen.ReferenceIdeal.Run
public import proofs.«01_k».proof.Proof.Value.Taps

@[expose] public section

set_option maxRecDepth 16384

noncomputable section

namespace Cert.ReferenceIdeal.Value

open Cert.ReferenceIdeal Idealize.ShloMosaic Idealize.ShloMosaic.TcCoe Idealize.SL.Sem Cert.Net

variable (U : Valuation τ sig (Elt Ideal))

/-- The voxels as the launch holds them. -/
def vox : Arr 1 64 := fun b c p q r => (U (Proc.devRef .tc main_arg0) : S8x1x64x64x64.Idx → EReal) (ix5 b c p q r)

/-- The first kernel, and its normalisation's factor and summand. -/
def ker1 : Fin 32 → Fin 1 → Fin 3 → Fin 3 → Fin 3 → EReal := fun o c i j k => (U (Proc.devRef .tc main_arg1) : S32x1x3x3x3.Idx → EReal) (ix5 o c i j k)
/-- The first normalisation's factor. -/
def gam1 : Fin 32 → EReal := fun o => (U (Proc.devRef .tc main_arg2) : S32.Idx → EReal) (ix1 o)
/-- The first normalisation's summand. -/
def bet1 : Fin 32 → EReal := fun o => (U (Proc.devRef .tc main_arg3) : S32.Idx → EReal) (ix1 o)

/-- The first layer's convolution and its normalised array. -/
def c1 : Arr 32 64 := conv 64 1 (vox U) (ker1 U)
/-- The first normalised array. -/
def h1 : Arr 32 64 := norm (Ideal.ofBits .f32 0x4A000000#32) (Ideal.ofBits .f32 0x3727C5AC#32) (gam1 U) (bet1 U) (c1 U)

/-- The padded voxels. -/
theorem pad0 (b : Fin 8) (c : Fin 1) (p q r : Fin 66) :
    (res_main_v0 U : S8x1x66x66x66.Idx → EReal) (ix5 b c p q r) = padv (vox U b c) p.val q.val r.val :=
  pad_at _ _ _ b c p q r

set_option maxHeartbeats 4000000 in
/-- The convolution of the first layer. -/
theorem c1_at (b : Fin 8) (o : Fin 32) (p q r : Fin 64) :
    (res_main_v163 U : S8x32x64x64x64.Idx → EReal) (ix5 b o p q r) = c1 U b o p q r := by
  have hp := pad0 U
  rw [c1, conv_taps 64 1 _ _ b o p q r _ rfl]
  generalize vox U = x at *
  generalize hP : res_main_v0 U = P at *
  simp only [tap, ker1]
  pointwise [res_main_v163, res_main_v109, res_main_v55, hP, hp]
  simp only [Fin.sum_univ_one]

/-- Its mean. -/
theorem m1_at (o : Fin 32) : (res_main_v167 U : S1x32x1x1x1.Idx → EReal) (ix5 0 o 0 0 0) = mean (Ideal.ofBits .f32 0x4A000000#32) (c1 U) o := by
  generalize hR : mean (Ideal.ofBits .f32 0x4A000000#32) (c1 U) o = R
  have hy := c1_at U
  generalize hY : res_main_v163 U = Y at *
  pointwise [res_main_v167, hY]
  rw [mean_at, ← hR]
  simp only [hy]
  rfl

/-- Its deviations from the mean. -/
theorem d1_at (b : Fin 8) (o : Fin 32) (p q r : Fin 64) :
    (res_main_v169 U : S8x32x64x64x64.Idx → EReal) (ix5 b o p q r) = c1 U b o p q r - mean (Ideal.ofBits .f32 0x4A000000#32) (c1 U) o := by
  have hm := m1_at U
  have hy := c1_at U
  generalize mean (Ideal.ofBits .f32 0x4A000000#32) (c1 U) = R at *
  generalize c1 U = y at *
  generalize hY : res_main_v163 U = Y at *
  generalize hZ : res_main_v167 U = Z at *
  pointwise [res_main_v169, hY, hZ, hm, hy]

/-- The padded normalised array of the first layer. -/
theorem h1_at (b : Fin 8) (c : Fin 32) (p q r : Fin 66) :
    (res_main_v190 U : S8x32x66x66x66.Idx → EReal) (ix5 b c p q r) = padv (h1 U b c) p.val q.val r.val := by
  refine (pad_at _ _ _ b c p q r).trans (congrArg (fun f => padv f p.val q.val r.val) ?_)
  funext p q r
  have hm := m1_at U
  have hy := c1_at U
  have hd := d1_at U
  generalize hY : res_main_v163 U = Y at *
  generalize hZ : res_main_v167 U = Z at *
  generalize hM : res_main_v169 U = M at *
  generalize hR : h1 U b c p q r = R
  pointwise [hY, hZ, hM, hm, hy]
  rw [var_at _ M _ _ hd, ← hR]
  rfl

end Cert.ReferenceIdeal.Value

end
-- ==== Proof.Value.Ref2.lean ====
/- The reference's second layer. -/
module

public import proofs.«01_k».proof.Proof.Gen.ReferenceIdeal.Run
public import proofs.«01_k».proof.Proof.Value.Ref1

@[expose] public section

set_option maxRecDepth 16384

noncomputable section

namespace Cert.ReferenceIdeal.Value

open Cert.ReferenceIdeal Idealize.ShloMosaic Idealize.ShloMosaic.TcCoe Idealize.SL.Sem Cert.Net

variable (U : Valuation τ sig (Elt Ideal))

/-- The second kernel, and its normalisation's factor and summand. -/
def ker2 : Fin 64 → Fin 32 → Fin 3 → Fin 3 → Fin 3 → EReal := fun o c i j k => (U (Proc.devRef .tc main_arg4) : S64x32x3x3x3.Idx → EReal) (ix5 o c i j k)
/-- The second normalisation's factor. -/
def gam2 : Fin 64 → EReal := fun o => (U (Proc.devRef .tc main_arg5) : S64.Idx → EReal) (ix1 o)
/-- The second normalisation's summand. -/
def bet2 : Fin 64 → EReal := fun o => (U (Proc.devRef .tc main_arg6) : S64.Idx → EReal) (ix1 o)

/-- The second layer's convolution and its normalised array. -/
def c2 : Arr 64 32 := conv 32 2 (h1 U) (ker2 U)
/-- The second normalised array. -/
def h2 : Arr 64 32 := norm (Ideal.ofBits .f32 0x48800000#32) (Ideal.ofBits .f32 0x3727C5AC#32) (gam2 U) (bet2 U) (c2 U)

set_option maxHeartbeats 4000000 in
/-- The convolution of the second layer. -/
theorem c2_at (b : Fin 8) (o : Fin 64) (p q r : Fin 32) :
    (res_main_v353 U : S8x64x32x32x32.Idx → EReal) (ix5 b o p q r) = c2 U b o p q r := by
  have hp := h1_at U
  rw [c2, conv_taps 32 2 _ _ b o p q r _ rfl]
  generalize h1 U = x at *
  generalize hP : res_main_v190 U = P at *
  simp only [tap, ker2]
  pointwise [res_main_v353, res_main_v347, res_main_v293, res_main_v239, hP, hp]

/-- Its mean. -/
theorem m2_at (o : Fin 64) : (res_main_v357 U : S1x64x1x1x1.Idx → EReal) (ix5 0 o 0 0 0) = mean (Ideal.ofBits .f32 0x48800000#32) (c2 U) o := by
  generalize hR : mean (Ideal.ofBits .f32 0x48800000#32) (c2 U) o = R
  have hy := c2_at U
  generalize hY : res_main_v353 U = Y at *
  pointwise [res_main_v357, hY]
  rw [mean_at, ← hR]
  simp only [hy]
  rfl

/-- Its deviations from the mean. -/
theorem d2_at (b : Fin 8) (o : Fin 64) (p q r : Fin 32) :
    (res_main_v359 U : S8x64x32x32x32.Idx → EReal) (ix5 b o p q r) = c2 U b o p q r - mean (Ideal.ofBits .f32 0x48800000#32) (c2 U) o := by
  have hm := m2_at U
  have hy := c2_at U
  generalize mean (Ideal.ofBits .f32 0x48800000#32) (c2 U) = R at *
  generalize c2 U = y at *
  generalize hY : res_main_v353 U = Y at *
  generalize hZ : res_main_v357 U = Z at *
  pointwise [res_main_v359, hY, hZ, hm, hy]

/-- The padded normalised array of the second layer. -/
theorem h2_at (b : Fin 8) (c : Fin 64) (p q r : Fin 34) :
    (res_main_v380 U : S8x64x34x34x34.Idx → EReal) (ix5 b c p q r) = padv (h2 U b c) p.val q.val r.val := by
  refine (pad_at _ _ _ b c p q r).trans (congrArg (fun f => padv f p.val q.val r.val) ?_)
  funext p q r
  have hm := m2_at U
  have hy := c2_at U
  have hd := d2_at U
  generalize hY : res_main_v353 U = Y at *
  generalize hZ : res_main_v357 U = Z at *
  generalize hM : res_main_v359 U = M at *
  generalize hR : h2 U b c p q r = R
  pointwise [hY, hZ, hM, hm, hy]
  rw [var_at _ M _ _ hd, ← hR]
  rfl

end Cert.ReferenceIdeal.Value

end
-- ==== Proof.Value.Ref3.lean ====
/- The reference's third layer. -/
module

public import proofs.«01_k».proof.Proof.Gen.ReferenceIdeal.Run
public import proofs.«01_k».proof.Proof.Value.Ref2

@[expose] public section

set_option maxRecDepth 16384

noncomputable section

namespace Cert.ReferenceIdeal.Value

open Cert.ReferenceIdeal Idealize.ShloMosaic Idealize.ShloMosaic.TcCoe Idealize.SL.Sem Cert.Net

variable (U : Valuation τ sig (Elt Ideal))

/-- The third kernel, and its normalisation's factor and summand. -/
def ker3 : Fin 128 → Fin 64 → Fin 3 → Fin 3 → Fin 3 → EReal := fun o c i j k => (U (Proc.devRef .tc main_arg7) : S128x64x3x3x3.Idx → EReal) (ix5 o c i j k)
/-- The third normalisation's factor. -/
def gam3 : Fin 128 → EReal := fun o => (U (Proc.devRef .tc main_arg8) : S128.Idx → EReal) (ix1 o)
/-- The third normalisation's summand. -/
def bet3 : Fin 128 → EReal := fun o => (U (Proc.devRef .tc main_arg9) : S128.Idx → EReal) (ix1 o)

/-- The third layer's convolution and its normalised array. -/
def c3 : Arr 128 16 := conv 16 2 (h2 U) (ker3 U)
/-- The third normalised array. -/
def h3 : Arr 128 16 := norm (Ideal.ofBits .f32 0x47000000#32) (Ideal.ofBits .f32 0x3727C5AC#32) (gam3 U) (bet3 U) (c3 U)

set_option maxHeartbeats 4000000 in
/-- The convolution of the third layer. -/
theorem c3_at (b : Fin 8) (o : Fin 128) (p q r : Fin 16) :
    (res_main_v543 U : S8x128x16x16x16.Idx → EReal) (ix5 b o p q r) = c3 U b o p q r := by
  have hp := h2_at U
  rw [c3, conv_taps 16 2 _ _ b o p q r _ rfl]
  generalize h2 U = x at *
  generalize hP : res_main_v380 U = P at *
  simp only [tap, ker3]
  pointwise [res_main_v543, res_main_v525, res_main_v477, res_main_v429, hP, hp]

/-- Its mean. -/
theorem m3_at (o : Fin 128) : (res_main_v547 U : S1x128x1x1x1.Idx → EReal) (ix5 0 o 0 0 0) = mean (Ideal.ofBits .f32 0x47000000#32) (c3 U) o := by
  generalize hR : mean (Ideal.ofBits .f32 0x47000000#32) (c3 U) o = R
  have hy := c3_at U
  generalize hY : res_main_v543 U = Y at *
  pointwise [res_main_v547, hY]
  rw [mean_at, ← hR]
  simp only [hy]
  rfl

/-- Its deviations from the mean. -/
theorem d3_at (b : Fin 8) (o : Fin 128) (p q r : Fin 16) :
    (res_main_v549 U : S8x128x16x16x16.Idx → EReal) (ix5 b o p q r) = c3 U b o p q r - mean (Ideal.ofBits .f32 0x47000000#32) (c3 U) o := by
  have hm := m3_at U
  have hy := c3_at U
  generalize mean (Ideal.ofBits .f32 0x47000000#32) (c3 U) = R at *
  generalize c3 U = y at *
  generalize hY : res_main_v543 U = Y at *
  generalize hZ : res_main_v547 U = Z at *
  pointwise [res_main_v549, hY, hZ, hm, hy]

/-- The final features: the centres of the third layer's normalised array times the projection, plus its bias. -/
def out (b : Fin 8) (o : Fin 256) : EReal :=
  (∑ c : Fin 128, h3 U b c 8 8 8 * (U (Proc.devRef .tc main_arg10) : S256x128.Idx → EReal) (ix2 o c))
    + (U (Proc.devRef .tc main_arg11) : S256.Idx → EReal) (ix1 o)

/-- The reference's result. -/
theorem out_at (b : Fin 8) (o : Fin 256) : (val11 U (Proc.devRef .tc main_v576) : S8x256.Idx → EReal) (ix2 b o) = out U b o := by
  have hm := m3_at U
  have hy := c3_at U
  have hd := d3_at U
  rw [show (val11 U (Proc.devRef .tc main_v576) : S8x256.Idx → EReal) = _ from val11_main_v576 U]
  generalize hR : out U b o = R
  generalize hY : res_main_v543 U = Y at *
  generalize hZ : res_main_v547 U = Z at *
  generalize hM : res_main_v549 U = M at *
  pointwise [hY, hZ, hM, hm, hy]
  simp only [var_at _ M _ _ hd]
  rw [← hR]
  rfl

end Cert.ReferenceIdeal.Value

end
-- ==== Proof.Value.Equal.lean ====
/- The precondition read as finite numbers, and the reference's network of equal arguments as the kernel's. -/
module

public import proofs.«01_k».proof.Proof.Value.Kern
public import proofs.«01_k».proof.Proof.Value.Ref3
public import proofs.«01_k».proof.Proof.Gen.Pre_finite_arguments
public import proofs.«01_k».proof.Defs

@[expose] public section

set_option maxRecDepth 16384

noncomputable section

namespace Cert.Equal

open Idealize.ShloMosaic Idealize.ShloMosaic.TcCoe Idealize.SL.Sem Cert.Net

/-- The word of infinity. -/
theorem top_word : Ideal.ofBits .f32 0x7F800000#32 = ⊤ := by simp [Ideal.ofBits, Ideal.ieee]

/-- An entry whose absolute value compares below infinity is a real number. -/
theorem rl_of_cmp {S : Shape} (x : FVec Ideal S .f32) (hb : Cert.Pre_finite_arguments.S_.BroadcastsInDim S (![] : Fin 0 → Fin S.rank)) (i : S.Idx)
    (h : cmpf .olt (Host.absf x) (broadcastInDim S ![] hb (constant Cert.Pre_finite_arguments.S_ .f32 0x7F800000#32)) i = 1#1) : Rl (x i) := by
  have e : BitVec.ofBool (decide (max (x i : EReal) (-(x i)) < Ideal.ofBits .f32 0x7F800000#32)) = 1#1 := h
  rw [top_word] at e
  by_cases hl : max (x i : EReal) (-(x i)) < ⊤
  · exact Rl.of_abs_lt hl
  · rw [decide_eq_false hl] at e
    exact absurd e (by decide)

/-- The precondition says that the arguments it names are finite. -/
theorem finite {m : (ℓ : Loc Cert.KernelIdeal.nD Cert.KernelIdeal.τ Cert.KernelIdeal.sig) → Buf (Elt Ideal) ℓ}
    (h : Pre_KernelIdeal_finite_arguments m) (c : Dev Cert.KernelIdeal.nD) : Cert.KernelIdeal.Gen.Finite m c := by
  obtain ⟨h0, h1, h2, h3, h4, h5, h6, h7, h8⟩ := h c
  exact ⟨fun i => rl_of_cmp _ _ i (congrFun h0 i), fun i => rl_of_cmp _ _ i (congrFun h1 i), fun i => rl_of_cmp _ _ i (congrFun h2 i),
    fun i => rl_of_cmp _ _ i (congrFun h3 i), fun i => rl_of_cmp _ _ i (congrFun h4 i), fun i => rl_of_cmp _ _ i (congrFun h5 i),
    fun i => rl_of_cmp _ _ i (congrFun h6 i), fun i => rl_of_cmp _ _ i (congrFun h7 i), fun i => rl_of_cmp _ _ i (congrFun h8 i)⟩

section

open Cert.KernelIdeal.Gen Cert.ReferenceIdeal.Value

variable (m : (ℓ : Loc Cert.KernelIdeal.nD Cert.KernelIdeal.τ Cert.KernelIdeal.sig) → Buf (Elt Ideal) ℓ) (c : Dev Cert.KernelIdeal.nD)
  (U : Valuation Cert.ReferenceIdeal.τ Cert.ReferenceIdeal.sig (Elt Ideal))

/-- The reference's contents hold the kernel's arguments. -/
structure Agree : Prop where
  a0 : U (Proc.devRef .tc Cert.ReferenceIdeal.main_arg0) = A0 m c
  a1 : U (Proc.devRef .tc Cert.ReferenceIdeal.main_arg1) = A1 m c
  a2 : U (Proc.devRef .tc Cert.ReferenceIdeal.main_arg2) = A2 m c
  a3 : U (Proc.devRef .tc Cert.ReferenceIdeal.main_arg3) = A3 m c
  a4 : U (Proc.devRef .tc Cert.ReferenceIdeal.main_arg4) = A4 m c
  a5 : U (Proc.devRef .tc Cert.ReferenceIdeal.main_arg5) = A5 m c
  a6 : U (Proc.devRef .tc Cert.ReferenceIdeal.main_arg6) = A6 m c
  a7 : U (Proc.devRef .tc Cert.ReferenceIdeal.main_arg7) = A7 m c
  a8 : U (Proc.devRef .tc Cert.ReferenceIdeal.main_arg8) = A8 m c
  a9 : U (Proc.devRef .tc Cert.ReferenceIdeal.main_arg9) = A9 m c
  a10 : U (Proc.devRef .tc Cert.ReferenceIdeal.main_arg10) = A10 m c
  a11 : U (Proc.devRef .tc Cert.ReferenceIdeal.main_arg11) = A11 m c

variable {m c U}

/-- The first layer of the reference is the kernel's. -/
theorem h1_eq (h : Agree m c U) : h1 U = H1 m c := by
  have ec : c1 U = L1 m c := congrArg₂ (fun x w => conv 64 1 (voxOf x) (kerOf w)) h.a0 h.a1
  unfold h1 H1
  rw [ec]
  exact congrArg₂ (fun g β => norm N1 eps (vecOf g) (vecOf β) (L1 m c)) h.a2 h.a3

/-- The second. -/
theorem h2_eq (h : Agree m c U) : h2 U = H2 m c := by
  have ec : c2 U = L2 m c := congrArg₂ (fun x w => conv 32 2 x (kerOf w)) (h1_eq h) h.a4
  unfold h2 H2
  rw [ec]
  exact congrArg₂ (fun g β => norm N2 eps (vecOf g) (vecOf β) (L2 m c)) h.a5 h.a6

/-- The third. -/
theorem h3_eq (h : Agree m c U) : h3 U = H3 m c := by
  have ec : c3 U = L3 m c := congrArg₂ (fun x w => conv 16 2 x (kerOf w)) (h2_eq h) h.a7
  unfold h3 H3
  rw [ec]
  exact congrArg₂ (fun g β => norm N3 eps (vecOf g) (vecOf β) (L3 m c)) h.a8 h.a9

/-- The features. -/
theorem out_net (h : Agree m c U) (b : Fin 8) (o : Fin 256) : out U b o = net m c b o := by
  unfold out net
  rw [h3_eq h]
  exact congrArg₂ (fun (w : Cert.ReferenceIdeal.S256x128.Idx → EReal) (p : Cert.ReferenceIdeal.S256.Idx → EReal) =>
    (∑ k : Fin 128, H3 m c b k 8 8 8 * w (ix2 o k)) + p (ix1 o)) h.a10 h.a11

end

/-- From equal arguments, of which the named ones are finite, both programs end with the same result. -/
theorem result {m : (ℓ : Loc Cert.KernelIdeal.nD Cert.KernelIdeal.τ Cert.KernelIdeal.sig) → Buf (Elt Ideal) ℓ} (ρ : Dev Cert.KernelIdeal.nD → PrngReg)
    {c : Dev Cert.KernelIdeal.nD} {U : Valuation Cert.ReferenceIdeal.τ Cert.ReferenceIdeal.sig (Elt Ideal)}
    (hf : Cert.KernelIdeal.Gen.Finite m c) (h : Agree m c U) :
    (Cert.ReferenceIdeal.Value.val11 U (Proc.devRef .tc Cert.ReferenceIdeal.main_v576) : Cert.ReferenceIdeal.S8x256.Idx → EReal)
      = Cert.KernelIdeal.Gen.W10 m ρ c (Proc.devRef .tc Cert.KernelIdeal.main_v70) := by
  funext i
  rw [show i = ix2 (i 0) (i 1) from (ix2_eta i).symm]
  exact (Cert.ReferenceIdeal.Value.out_at U (i 0) (i 1)).trans ((out_net h (i 0) (i 1)).trans (Cert.KernelIdeal.Gen.out_eq m ρ c hf (i 0) (i 1)).symm)

end Cert.Equal

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_arguments
public import proofs.«01_k».proof.Proof.Ideal.Frame
public import proofs.«01_k».proof.Proof.Frame.Same
public import proofs.«01_k».proof.Proof.Value.Equal

@[expose] public section

set_option maxRecDepth 16384

noncomputable section

namespace Cert.Proof

open Idealize.ShloMosaic Idealize.ShloMosaic.TcCoe Idealize.ShloMosaic.StableHlo Idealize.SL.Sem

/-- The kernel on machine words: its frame is the idealized program's, read on machine words. -/
theorem frame_kernel : Cert.quiescent_Kernel := fun m ρ _ =>
  Cert.Same.frame_eq.mpr (fun m ρ => Cert.KernelIdeal.Gen.frame (F := Bits) m ρ) m ρ

/-- The kernel on extended reals. -/
theorem frame_ideal : Cert.quiescent_KernelIdeal := fun m ρ _ => Cert.KernelIdeal.Gen.frame m ρ

/-- The reference: no operation writes an argument, and the program declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The kernel's result and the reference's are equal: both are the network's features of the arguments. -/
theorem algebraic : Cert.algebraic_KernelIdeal_ReferenceIdeal_pre_finite_arguments := by
  intro m g m' g' hp ha
  refine ⟨fun c => Cert.KernelIdeal.Gen.W10 m g c (Proc.devRef .tc Cert.KernelIdeal.main_v70), ?_, ?_⟩
  · exact (θ_run Cert.KernelIdeal.defs _ _).mono (fun _ h c =>
      ⟨h.1 c _ (Cert.KernelIdeal.Gen.mem_uc Cert.KernelIdeal.main_v70 (by decide)),
       (h.1 c _ (Cert.KernelIdeal.Gen.mem_uc Cert.KernelIdeal.main_arg0 (by decide))).trans (Cert.KernelIdeal.Gen.W10_main_arg0 m g c),
       (h.1 c _ (Cert.KernelIdeal.Gen.mem_uc Cert.KernelIdeal.main_arg1 (by decide))).trans (Cert.KernelIdeal.Gen.W10_main_arg1 m g c),
       (h.1 c _ (Cert.KernelIdeal.Gen.mem_uc Cert.KernelIdeal.main_arg2 (by decide))).trans (Cert.KernelIdeal.Gen.W10_main_arg2 m g c),
       (h.1 c _ (Cert.KernelIdeal.Gen.mem_uc Cert.KernelIdeal.main_arg3 (by decide))).trans (Cert.KernelIdeal.Gen.W10_main_arg3 m g c),
       (h.1 c _ (Cert.KernelIdeal.Gen.mem_uc Cert.KernelIdeal.main_arg4 (by decide))).trans (Cert.KernelIdeal.Gen.W10_main_arg4 m g c),
       (h.1 c _ (Cert.KernelIdeal.Gen.mem_uc Cert.KernelIdeal.main_arg5 (by decide))).trans (Cert.KernelIdeal.Gen.W10_main_arg5 m g c),
       (h.1 c _ (Cert.KernelIdeal.Gen.mem_uc Cert.KernelIdeal.main_arg6 (by decide))).trans (Cert.KernelIdeal.Gen.W10_main_arg6 m g c),
       (h.1 c _ (Cert.KernelIdeal.Gen.mem_uc Cert.KernelIdeal.main_arg7 (by decide))).trans (Cert.KernelIdeal.Gen.W10_main_arg7 m g c),
       (h.1 c _ (Cert.KernelIdeal.Gen.mem_uc Cert.KernelIdeal.main_arg8 (by decide))).trans (Cert.KernelIdeal.Gen.W10_main_arg8 m g c),
       (h.1 c _ (Cert.KernelIdeal.Gen.mem_uc Cert.KernelIdeal.main_arg9 (by decide))).trans (Cert.KernelIdeal.Gen.W10_main_arg9 m g c),
       (h.1 c _ (Cert.KernelIdeal.Gen.mem_uc Cert.KernelIdeal.main_arg10 (by decide))).trans (Cert.KernelIdeal.Gen.W10_main_arg10 m g c),
       (h.1 c _ (Cert.KernelIdeal.Gen.mem_uc Cert.KernelIdeal.main_arg11 (by decide))).trans (Cert.KernelIdeal.Gen.W10_main_arg11 m g c)⟩)
      (Cert.KernelIdeal.Gen.reach m g)
  · refine (θ_run Cert.ReferenceIdeal.defs _ _).mono (fun _ h c => ⟨(h c).1.trans ?_, (h c).2⟩) (Cert.ReferenceIdeal.Value.run m' g')
    obtain ⟨e0, e1, e2, e3, e4, e5, e6, e7, e8, e9, e10, e11⟩ := ha c
    exact (Cert.ReferenceIdeal.Value.val11_main_v576 (launchContents m' c)).symm.trans
      (Cert.Equal.result g (Cert.Equal.finite hp c) ⟨e0, e1, e2, e3, e4, e5, e6, e7, e8, e9, e10, e11⟩)

/-- Everything claimed. The frames hold of every initial memory, so of those the precondition allows. -/
theorem claim : Cert.Claim :=
  ⟨Cert.Kernel.Gen.facts, Cert.KernelIdeal.Gen.facts, Cert.ReferenceIdeal.Gen.facts, Cert.Pre_finite_arguments.Gen.facts,
    frame_kernel, frame_ideal, fun m ρ _ => frame_ideal m ρ trivial, frame_reference, fun m ρ _ => frame_reference m ρ trivial,
    trivial, algebraic⟩

end Cert.Proof

end
